-- ==== Defs.lean ====
def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite [hPre_finite : Cert.Pre_finite.Facts] (m : (ℓ : Loc Cert.DiffIdeal.nD Cert.DiffIdeal.τ Cert.DiffIdeal.sig) → Buf (Elt Ideal) ℓ) : Prop :=
  ∀ c : Dev Cert.DiffIdeal.nD,
    (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7)) (m ((c.tc : Thread Cert.DiffIdeal.nD Cert.DiffIdeal.τ).loc Cert.DiffIdeal.main_arg8))).1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7)) (m ((c.tc : Thread Cert.DiffIdeal.nD Cert.DiffIdeal.τ).loc Cert.DiffIdeal.main_arg8))).2.1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7)) (m ((c.tc : Thread Cert.DiffIdeal.nD Cert.DiffIdeal.τ).loc Cert.DiffIdeal.main_arg8))).2.2.1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7)) (m ((c.tc : Thread Cert.DiffIdeal.nD Cert.DiffIdeal.τ).loc Cert.DiffIdeal.main_arg8))).2.2.2.1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7)) (m ((c.tc : Thread Cert.DiffIdeal.nD Cert.DiffIdeal.τ).loc Cert.DiffIdeal.main_arg8))).2.2.2.2.1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7)) (m ((c.tc : Thread Cert.DiffIdeal.nD Cert.DiffIdeal.τ).loc Cert.DiffIdeal.main_arg8))).2.2.2.2.2.1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7)) (m ((c.tc : Thread Cert.DiffIdeal.nD Cert.DiffIdeal.τ).loc Cert.DiffIdeal.main_arg8))).2.2.2.2.2.2 = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite [hPre_finite : Cert.Pre_finite.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7)) (m ((c.tc : Thread Cert.DiffRefIdeal.nD Cert.DiffRefIdeal.τ).loc Cert.DiffRefIdeal.main_arg8))).1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7)) (m ((c.tc : Thread Cert.DiffRefIdeal.nD Cert.DiffRefIdeal.τ).loc Cert.DiffRefIdeal.main_arg8))).2.1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7)) (m ((c.tc : Thread Cert.DiffRefIdeal.nD Cert.DiffRefIdeal.τ).loc Cert.DiffRefIdeal.main_arg8))).2.2.1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7)) (m ((c.tc : Thread Cert.DiffRefIdeal.nD Cert.DiffRefIdeal.τ).loc Cert.DiffRefIdeal.main_arg8))).2.2.2.1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7)) (m ((c.tc : Thread Cert.DiffRefIdeal.nD Cert.DiffRefIdeal.τ).loc Cert.DiffRefIdeal.main_arg8))).2.2.2.2.1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7)) (m ((c.tc : Thread Cert.DiffRefIdeal.nD Cert.DiffRefIdeal.τ).loc Cert.DiffRefIdeal.main_arg8))).2.2.2.2.2.1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7)) (m ((c.tc : Thread Cert.DiffRefIdeal.nD Cert.DiffRefIdeal.τ).loc Cert.DiffRefIdeal.main_arg8))).2.2.2.2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5)
      ∧ r.2.mem ((c.tc : Thread Cert.Diff.nD Cert.Diff.τ).loc Cert.Diff.main_arg6) = m ((c.tc : Thread Cert.Diff.nD Cert.Diff.τ).loc Cert.Diff.main_arg6)
      ∧ r.2.mem ((c.tc : Thread Cert.Diff.nD Cert.Diff.τ).loc Cert.Diff.main_arg7) = m ((c.tc : Thread Cert.Diff.nD Cert.Diff.τ).loc Cert.Diff.main_arg7)
      ∧ r.2.mem ((c.tc : Thread Cert.Diff.nD Cert.Diff.τ).loc Cert.Diff.main_arg8) = m ((c.tc : Thread Cert.Diff.nD Cert.Diff.τ).loc Cert.Diff.main_arg8))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
      ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7)
      ∧ r.2.mem ((c.tc : Thread Cert.DiffIdeal.nD Cert.DiffIdeal.τ).loc Cert.DiffIdeal.main_arg8) = m ((c.tc : Thread Cert.DiffIdeal.nD Cert.DiffIdeal.τ).loc Cert.DiffIdeal.main_arg8))
      ∧ r.2.sem = fun _ => 0)

def quiescent_DiffIdeal_pre_finite [hDiffIdeal : Cert.DiffIdeal.Facts] [hPre_finite : Cert.Pre_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
      ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7)
      ∧ r.2.mem ((c.tc : Thread Cert.DiffIdeal.nD Cert.DiffIdeal.τ).loc Cert.DiffIdeal.main_arg8) = m ((c.tc : Thread Cert.DiffIdeal.nD Cert.DiffIdeal.τ).loc Cert.DiffIdeal.main_arg8))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6)
      ∧ r.2.mem ((c.tc : Thread Cert.DiffRefIdeal.nD Cert.DiffRefIdeal.τ).loc Cert.DiffRefIdeal.main_arg7) = m ((c.tc : Thread Cert.DiffRefIdeal.nD Cert.DiffRefIdeal.τ).loc Cert.DiffRefIdeal.main_arg7)
      ∧ r.2.mem ((c.tc : Thread Cert.DiffRefIdeal.nD Cert.DiffRefIdeal.τ).loc Cert.DiffRefIdeal.main_arg8) = m ((c.tc : Thread Cert.DiffRefIdeal.nD Cert.DiffRefIdeal.τ).loc Cert.DiffRefIdeal.main_arg8))
      ∧ r.2.sem = fun _ => 0)

def quiescent_DiffRefIdeal_pre_finite [hDiffRefIdeal : Cert.DiffRefIdeal.Facts] [hPre_finite : Cert.Pre_finite.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6)
      ∧ r.2.mem ((c.tc : Thread Cert.DiffRefIdeal.nD Cert.DiffRefIdeal.τ).loc Cert.DiffRefIdeal.main_arg7) = m ((c.tc : Thread Cert.DiffRefIdeal.nD Cert.DiffRefIdeal.τ).loc Cert.DiffRefIdeal.main_arg7)
      ∧ r.2.mem ((c.tc : Thread Cert.DiffRefIdeal.nD Cert.DiffRefIdeal.τ).loc Cert.DiffRefIdeal.main_arg8) = m ((c.tc : Thread Cert.DiffRefIdeal.nD Cert.DiffRefIdeal.τ).loc Cert.DiffRefIdeal.main_arg8))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def preserves_Diff_DiffIdeal : Prop :=
  True

def algebraic_DiffIdeal_DiffRefIdeal_pre_finite [hDiffIdeal : Cert.DiffIdeal.Facts] [hDiffRefIdeal : Cert.DiffRefIdeal.Facts] [hPre_finite : Cert.Pre_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)
      ∧ m' ((c.tc : Thread Cert.DiffRefIdeal.nD Cert.DiffRefIdeal.τ).loc Cert.DiffRefIdeal.main_arg6) = m ((c.tc : Thread Cert.DiffIdeal.nD Cert.DiffIdeal.τ).loc Cert.DiffIdeal.main_arg6)
      ∧ m' ((c.tc : Thread Cert.DiffRefIdeal.nD Cert.DiffRefIdeal.τ).loc Cert.DiffRefIdeal.main_arg7) = m ((c.tc : Thread Cert.DiffIdeal.nD Cert.DiffIdeal.τ).loc Cert.DiffIdeal.main_arg7)
      ∧ m' ((c.tc : Thread Cert.DiffRefIdeal.nD Cert.DiffRefIdeal.τ).loc Cert.DiffRefIdeal.main_arg8) = m ((c.tc : Thread Cert.DiffIdeal.nD Cert.DiffIdeal.τ).loc Cert.DiffIdeal.main_arg8)) →
    ∃ (v0 : (c : Dev Cert.DiffIdeal.nD) → Buf (Elt Ideal) ((c.tc : Thread Cert.DiffIdeal.nD Cert.DiffIdeal.τ).loc Cert.DiffIdeal.main_v0)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v0) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
          ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
          ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7)
          ∧ r.2.mem ((c.tc : Thread Cert.DiffIdeal.nD Cert.DiffIdeal.τ).loc Cert.DiffIdeal.main_arg8) = m ((c.tc : Thread Cert.DiffIdeal.nD Cert.DiffIdeal.τ).loc Cert.DiffIdeal.main_arg8))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v62) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5)
          ∧ r.2.mem ((c.tc : Thread Cert.DiffRefIdeal.nD Cert.DiffRefIdeal.τ).loc Cert.DiffRefIdeal.main_arg6) = m' ((c.tc : Thread Cert.DiffRefIdeal.nD Cert.DiffRefIdeal.τ).loc Cert.DiffRefIdeal.main_arg6)
          ∧ r.2.mem ((c.tc : Thread Cert.DiffRefIdeal.nD Cert.DiffRefIdeal.τ).loc Cert.DiffRefIdeal.main_arg7) = m' ((c.tc : Thread Cert.DiffRefIdeal.nD Cert.DiffRefIdeal.τ).loc Cert.DiffRefIdeal.main_arg7)
          ∧ r.2.mem ((c.tc : Thread Cert.DiffRefIdeal.nD Cert.DiffRefIdeal.τ).loc Cert.DiffRefIdeal.main_arg8) = m' ((c.tc : Thread Cert.DiffRefIdeal.nD Cert.DiffRefIdeal.τ).loc Cert.DiffRefIdeal.main_arg8))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v31) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v49_0)) (v1 : (c : Dev Cert.InProjIdeal.nD) → Buf (Elt Ideal) ((c.tc : Thread Cert.InProjIdeal.nD Cert.InProjIdeal.τ).loc Cert.InProjIdeal.main_v49_1)) (v2 : (c : Dev Cert.InProjIdeal.nD) → Buf (Elt Ideal) ((c.tc : Thread Cert.InProjIdeal.nD Cert.InProjIdeal.τ).loc Cert.InProjIdeal.main_v49_2)) (v3 : (c : Dev Cert.InProjIdeal.nD) → Buf (Elt Ideal) ((c.tc : Thread Cert.InProjIdeal.nD Cert.InProjIdeal.τ).loc Cert.InProjIdeal.main_v49_3)) (v4 : (c : Dev Cert.InProjIdeal.nD) → Buf (Elt Ideal) ((c.tc : Thread Cert.InProjIdeal.nD Cert.InProjIdeal.τ).loc Cert.InProjIdeal.main_v49_4)) (v5 : (c : Dev Cert.InProjIdeal.nD) → Buf (Elt Ideal) ((c.tc : Thread Cert.InProjIdeal.nD Cert.InProjIdeal.τ).loc Cert.InProjIdeal.main_v49_5)) (v6 : (c : Dev Cert.InProjIdeal.nD) → Buf (Elt Ideal) ((c.tc : Thread Cert.InProjIdeal.nD Cert.InProjIdeal.τ).loc Cert.InProjIdeal.main_v49_6)) (v7 : (c : Dev Cert.InProjIdeal.nD) → Buf (Elt Ideal) ((c.tc : Thread Cert.InProjIdeal.nD Cert.InProjIdeal.τ).loc Cert.InProjIdeal.main_v49_7)) (v8 : (c : Dev Cert.InProjIdeal.nD) → Buf (Elt Ideal) ((c.tc : Thread Cert.InProjIdeal.nD Cert.InProjIdeal.τ).loc Cert.InProjIdeal.main_v49_8)) (v9 : (c : Dev Cert.InProjIdeal.nD) → Buf (Elt Ideal) ((c.tc : Thread Cert.InProjIdeal.nD Cert.InProjIdeal.τ).loc Cert.InProjIdeal.main_v49_9)) (v10 : (c : Dev Cert.InProjIdeal.nD) → Buf (Elt Ideal) ((c.tc : Thread Cert.InProjIdeal.nD Cert.InProjIdeal.τ).loc Cert.InProjIdeal.main_v49_10)) (v11 : (c : Dev Cert.InProjIdeal.nD) → Buf (Elt Ideal) ((c.tc : Thread Cert.InProjIdeal.nD Cert.InProjIdeal.τ).loc Cert.InProjIdeal.main_v49_11)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v49_0) = v0 c
          ∧ r.2.mem ((c.tc : Thread Cert.InProjIdeal.nD Cert.InProjIdeal.τ).loc Cert.InProjIdeal.main_v49_1) = v1 c
          ∧ r.2.mem ((c.tc : Thread Cert.InProjIdeal.nD Cert.InProjIdeal.τ).loc Cert.InProjIdeal.main_v49_2) = v2 c
          ∧ r.2.mem ((c.tc : Thread Cert.InProjIdeal.nD Cert.InProjIdeal.τ).loc Cert.InProjIdeal.main_v49_3) = v3 c
          ∧ r.2.mem ((c.tc : Thread Cert.InProjIdeal.nD Cert.InProjIdeal.τ).loc Cert.InProjIdeal.main_v49_4) = v4 c
          ∧ r.2.mem ((c.tc : Thread Cert.InProjIdeal.nD Cert.InProjIdeal.τ).loc Cert.InProjIdeal.main_v49_5) = v5 c
          ∧ r.2.mem ((c.tc : Thread Cert.InProjIdeal.nD Cert.InProjIdeal.τ).loc Cert.InProjIdeal.main_v49_6) = v6 c
          ∧ r.2.mem ((c.tc : Thread Cert.InProjIdeal.nD Cert.InProjIdeal.τ).loc Cert.InProjIdeal.main_v49_7) = v7 c
          ∧ r.2.mem ((c.tc : Thread Cert.InProjIdeal.nD Cert.InProjIdeal.τ).loc Cert.InProjIdeal.main_v49_8) = v8 c
          ∧ r.2.mem ((c.tc : Thread Cert.InProjIdeal.nD Cert.InProjIdeal.τ).loc Cert.InProjIdeal.main_v49_9) = v9 c
          ∧ r.2.mem ((c.tc : Thread Cert.InProjIdeal.nD Cert.InProjIdeal.τ).loc Cert.InProjIdeal.main_v49_10) = v10 c
          ∧ r.2.mem ((c.tc : Thread Cert.InProjIdeal.nD Cert.InProjIdeal.τ).loc Cert.InProjIdeal.main_v49_11) = v11 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v73) = v0 c
          ∧ r.2.mem ((c.tc : Thread Cert.InProjRefIdeal.nD Cert.InProjRefIdeal.τ).loc Cert.InProjRefIdeal.main_v77) = v1 c
          ∧ r.2.mem ((c.tc : Thread Cert.InProjRefIdeal.nD Cert.InProjRefIdeal.τ).loc Cert.InProjRefIdeal.main_v80) = v2 c
          ∧ r.2.mem ((c.tc : Thread Cert.InProjRefIdeal.nD Cert.InProjRefIdeal.τ).loc Cert.InProjRefIdeal.main_v81) = v3 c
          ∧ r.2.mem ((c.tc : Thread Cert.InProjRefIdeal.nD Cert.InProjRefIdeal.τ).loc Cert.InProjRefIdeal.main_v82) = v4 c
          ∧ r.2.mem ((c.tc : Thread Cert.InProjRefIdeal.nD Cert.InProjRefIdeal.τ).loc Cert.InProjRefIdeal.main_v120) = v5 c
          ∧ r.2.mem ((c.tc : Thread Cert.InProjRefIdeal.nD Cert.InProjRefIdeal.τ).loc Cert.InProjRefIdeal.main_v121) = v6 c
          ∧ r.2.mem ((c.tc : Thread Cert.InProjRefIdeal.nD Cert.InProjRefIdeal.τ).loc Cert.InProjRefIdeal.main_v123) = v7 c
          ∧ r.2.mem ((c.tc : Thread Cert.InProjRefIdeal.nD Cert.InProjRefIdeal.τ).loc Cert.InProjRefIdeal.main_v124) = v8 c
          ∧ r.2.mem ((c.tc : Thread Cert.InProjRefIdeal.nD Cert.InProjRefIdeal.τ).loc Cert.InProjRefIdeal.main_v127) = v9 c
          ∧ r.2.mem ((c.tc : Thread Cert.InProjRefIdeal.nD Cert.InProjRefIdeal.τ).loc Cert.InProjRefIdeal.main_v129) = v10 c
          ∧ r.2.mem ((c.tc : Thread Cert.InProjRefIdeal.nD Cert.InProjRefIdeal.τ).loc Cert.InProjRefIdeal.main_v131) = v11 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def Claim : Prop :=
  ∃ (hDiff : Cert.Diff.Facts) (hDiffIdeal : Cert.DiffIdeal.Facts) (hDiffRefIdeal : Cert.DiffRefIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hPre_finite : Cert.Pre_finite.Facts),
    quiescent_Diff (hDiff := hDiff)
    ∧ quiescent_DiffIdeal (hDiffIdeal := hDiffIdeal)
    ∧ quiescent_DiffIdeal_pre_finite (hDiffIdeal := hDiffIdeal) (hPre_finite := hPre_finite)
    ∧ quiescent_DiffRefIdeal (hDiffRefIdeal := hDiffRefIdeal)
    ∧ quiescent_DiffRefIdeal_pre_finite (hDiffRefIdeal := hDiffRefIdeal) (hPre_finite := hPre_finite)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ preserves_Diff_DiffIdeal
    ∧ algebraic_DiffIdeal_DiffRefIdeal_pre_finite (hDiffIdeal := hDiffIdeal) (hDiffRefIdeal := hDiffRefIdeal) (hPre_finite := hPre_finite)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
-- ==== Pre_finite.lean ====
abbrev S1x64 : Shape := ⟨2, ![1, 64]⟩
abbrev S16384x512 : Shape := ⟨2, ![16384, 512]⟩
abbrev S64x512x256 : Shape := ⟨3, ![64, 512, 256]⟩
abbrev S16384x2048 : Shape := ⟨2, ![16384, 2048]⟩
abbrev S1x128 : Shape := ⟨2, ![1, 128]⟩
abbrev S_ : Shape := ⟨0, ![]⟩

class Facts : Prop where
  bcast_S_S1x64 : S_.BroadcastsInDim S1x64 (![] : Fin 0 → Fin S1x64.rank)
  bitsLt_bf16_f32 : FTy.bits .bf16 < FTy.bits .f32
  bcast_S_S16384x512 : S_.BroadcastsInDim S16384x512 (![] : Fin 0 → Fin S16384x512.rank)
  bcast_S_S64x512x256 : S_.BroadcastsInDim S64x512x256 (![] : Fin 0 → Fin S64x512x256.rank)

variable [Facts]

def fn_part1 {F : FTy → Type} [FloatOps F] (main_arg6 : FVec F S64x512x256 .bf16) (main_v2 : IVec S1x64 1) (main_v5 : IVec S1x64 1) (main_v8 : IVec S1x64 1) (main_v11 : IVec S1x64 1) (main_v15 : IVec S16384x512 1) (main_v17 : FVec F S16384x512 .f32) (main_cst_4 : FVec F S_ .f32) : IVec S1x64 1 × IVec S1x64 1 × IVec S1x64 1 × IVec S1x64 1 × IVec S16384x512 1 × IVec S16384x512 1 × IVec S64x512x256 1 :=
  let main_v18 : FVec F S16384x512 .f32 := broadcastInDim S16384x512 ![] bcast_S_S16384x512 main_cst_4
  let main_v19 : IVec S16384x512 1 := cmpf .olt main_v17 main_v18
  let main_v20 : FVec F S64x512x256 .f32 := (extf .f32 · bitsLt_bf16_f32) main_arg6
  let main_v21 : FVec F S64x512x256 .f32 := Host.absf main_v20
  let main_cst_5 : FVec F S_ .f32 := constant S_ .f32 0x7F800000#32
  let main_v22 : FVec F S64x512x256 .f32 := broadcastInDim S64x512x256 ![] bcast_S_S64x512x256 main_cst_5
  let main_v23 : IVec S64x512x256 1 := cmpf .olt main_v21 main_v22
  (main_v2, main_v5, main_v8, main_v11, main_v15, main_v19, main_v23)

def fn {F : FTy → Type} [FloatOps F] (main_arg0 : FVec F S1x64 .f32) (main_arg1 : FVec F S1x64 .f32) (main_arg2 : FVec F S1x64 .f32) (main_arg3 : FVec F S1x64 .f32) (main_arg4 : FVec F S16384x512 .bf16) (main_arg5 : FVec F S16384x512 .bf16) (main_arg6 : FVec F S64x512x256 .bf16) (main_arg7 : FVec F S16384x2048 .bf16) (main_arg8 : FVec F S1x128 .f32) : IVec S1x64 1 × IVec S1x64 1 × IVec S1x64 1 × IVec S1x64 1 × IVec S16384x512 1 × IVec S16384x512 1 × IVec S64x512x256 1 :=
  let main_v0 : FVec F S1x64 .f32 := Host.absf main_arg0
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_v3 : FVec F S1x64 .f32 := Host.absf main_arg1
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : FVec F S1x64 .f32 := Host.absf main_arg2
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S16384x512 .f32 := (extf .f32 · bitsLt_bf16_f32) main_arg4
  let main_v13 : FVec F S16384x512 .f32 := Host.absf main_v12
  let main_cst_3 : FVec F S_ .f32 := constant S_ .f32 0x7F800000#32
  let main_v14 : FVec F S16384x512 .f32 := broadcastInDim S16384x512 ![] bcast_S_S16384x512 main_cst_3
  let main_v15 : IVec S16384x512 1 := cmpf .olt main_v13 main_v14
  let main_v16 : FVec F S16384x512 .f32 := (extf .f32 · bitsLt_bf16_f32) main_arg5
  let main_v17 : FVec F S16384x512 .f32 := Host.absf main_v16
  let main_cst_4 : FVec F S_ .f32 := constant S_ .f32 0x7F800000#32
  fn_part1 (F := F) main_arg6 main_v2 main_v5 main_v8 main_v11 main_v15 main_v17 main_cst_4
-- ==== Diff.lean ====
abbrev S1x64 : Shape := ⟨2, ![1, 64]⟩
abbrev S16384x512 : Shape := ⟨2, ![16384, 512]⟩
abbrev S64x512x256 : Shape := ⟨3, ![64, 512, 256]⟩
abbrev S16384x2048 : Shape := ⟨2, ![16384, 2048]⟩
abbrev S1x128 : Shape := ⟨2, ![1, 128]⟩
abbrev S256x512 : Shape := ⟨2, ![256, 512]⟩
abbrev S2048x512 : Shape := ⟨2, ![2048, 512]⟩
abbrev S8x512x256 : Shape := ⟨3, ![8, 512, 256]⟩
abbrev S4x1x512 : Shape := ⟨3, ![4, 1, 512]⟩
abbrev S4x128x512 : Shape := ⟨3, ![4, 128, 512]⟩
abbrev S1 : Shape := ⟨1, ![1]⟩
abbrev S1x1 : Shape := ⟨2, ![1, 1]⟩
abbrev S256x128 : Shape := ⟨2, ![256, 128]⟩
abbrev S16x256 : Shape := ⟨2, ![16, 256]⟩
abbrev S512x128 : Shape := ⟨2, ![512, 128]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S1x128x256 : Shape := ⟨3, ![1, 128, 256]⟩
abbrev S128x256 : Shape := ⟨2, ![128, 256]⟩
abbrev S144x256 : Shape := ⟨2, ![144, 256]⟩
abbrev S144x512 : Shape := ⟨2, ![144, 512]⟩
abbrev S1x128x512 : Shape := ⟨3, ![1, 128, 512]⟩
abbrev S128x512 : Shape := ⟨2, ![128, 512]⟩
abbrev S256 : Shape := ⟨1, ![256]⟩
abbrev S256x1 : Shape := ⟨2, ![256, 1]⟩

abbrev nBuf : Space → Nat
  | .hbm => 10
  | .vmem => 18
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S16384x512, .bf16⟩
  | .hbm, ⟨5, _⟩ => ⟨S16384x512, .bf16⟩
  | .hbm, ⟨6, _⟩ => ⟨S64x512x256, .bf16⟩
  | .hbm, ⟨7, _⟩ => ⟨S16384x2048, .bf16⟩
  | .hbm, ⟨8, _⟩ => ⟨S1x128, .f32⟩
  | .hbm, ⟨9, _⟩ => ⟨S16384x512, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S256x512, .bf16⟩
  | .local _ .vmem, ⟨5, _⟩ => ⟨S256x512, .bf16⟩
  | .local _ .vmem, ⟨6, _⟩ => ⟨S2048x512, .bf16⟩
  | .local _ .vmem, ⟨7, _⟩ => ⟨S2048x512, .bf16⟩
  | .local _ .vmem, ⟨8, _⟩ => ⟨S8x512x256, .bf16⟩
  | .local _ .vmem, ⟨9, _⟩ => ⟨S8x512x256, .bf16⟩
  | .local _ .vmem, ⟨10, _⟩ => ⟨S256x512, .bf16⟩
  | .local _ .vmem, ⟨11, _⟩ => ⟨S256x512, .bf16⟩
  | .local _ .vmem, ⟨12, _⟩ => ⟨S1x128, .f32⟩
  | .local _ .vmem, ⟨13, _⟩ => ⟨S256x512, .bf16⟩
  | .local _ .vmem, ⟨14, _⟩ => ⟨S256x512, .bf16⟩
  | .local _ .vmem, ⟨15, _⟩ => ⟨S4x1x512, .f32⟩
  | .local _ .vmem, ⟨16, _⟩ => ⟨S4x1x512, .f32⟩
  | .local _ .vmem, ⟨17, _⟩ => ⟨S4x128x512, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_44 : BitVec 32 := 0#32
  let arg1 : BitVec 32 := BitVec.ofNat 32 (i 1).val
  let c0_i32 : BitVec 32 := 0#32
  let v74 : BitVec 1 := Scalar.cmpi .sgt arg1 c0_i32
  let v75 : BitVec 32 := Scalar.extui v74
  let c0_i32_39 : BitVec 32 := 0#32
  let v76 : BitVec 1 := Scalar.cmpi .slt arg1 c0_i32_39
  let v77 : BitVec 32 := Scalar.extui v76
  let v78 : BitVec 32 := Scalar.subi v75 v77
  let c2_i32 : BitVec 32 := 2#32
  let c0_i32_40 : BitVec 32 := 0#32
  let v79 : BitVec 1 := Scalar.cmpi .sgt c2_i32 c0_i32_40
  let v80 : BitVec 32 := Scalar.extui v79
  let c0_i32_41 : BitVec 32 := 0#32
  let v81 : BitVec 1 := Scalar.cmpi .slt c2_i32 c0_i32_41
  let v82 : BitVec 32 := Scalar.extui v81
  let v83 : BitVec 32 := Scalar.subi v80 v82
  let v84 : BitVec 1 := Scalar.cmpi .ne v78 v83
  let v85 : BitVec 32 := Scalar.remsi arg1 c2_i32
  let c0_i32_42 : BitVec 32 := 0#32
  let v86 : BitVec 1 := Scalar.cmpi .ne v85 c0_i32_42
  let v87 : BitVec 1 := Scalar.andi v84 v86
  let v73 : BitVec 32 := Scalar.divsi arg1 c2_i32
  let c1_i32 : BitVec 32 := 1#32
  let v88 : BitVec 32 := Scalar.subi v73 c1_i32
  let v89 : BitVec 32 := Scalar.select v87 v88 v73
  let v90 : BitVec 32 := Scalar.subi v89 c0_i32_44
  let c1_i32_45 : BitVec 32 := 1#32
  let v92 : BitVec 32 := Scalar.divsi v90 c1_i32_45
  let v93 : BitVec 32 := Scalar.muli v92 c1_i32_45
  let v94 : BitVec 32 := Scalar.addi c0_i32_44 v93
  let c1_i32_46 : BitVec 32 := 1#32
  ⟨c0_i32_44, v94, c1_i32_46⟩
def k0_mult1 (i : grid0.Coords) (k0_t1 : Fin (k0_t1_loop i).trips) : BitVec 32 :=
  let c2_i32_125 : BitVec 32 := 2#32
  let c0_i32_44 : BitVec 32 := 0#32
  let c1_i32_46 : BitVec 32 := 1#32
  let arg15 : BitVec 32 := Scf.iv c0_i32_44 c1_i32_46 k0_t1
  let v249 : BitVec 32 := Scalar.muli c2_i32_125 arg15
  let c256_i32_126 : BitVec 32 := 256#32
  let v250 : BitVec 32 := Scalar.muli v249 c256_i32_126
  v250
def k0_off1 (i : grid0.Coords) (k0_t1 : Fin (k0_t1_loop i).trips) : Fin 2 → Nat :=
  let c2_i32_125 : BitVec 32 := 2#32
  let c0_i32_44 : BitVec 32 := 0#32
  let c1_i32_46 : BitVec 32 := 1#32
  let arg15 : BitVec 32 := Scf.iv c0_i32_44 c1_i32_46 k0_t1
  let v249 : BitVec 32 := Scalar.muli c2_i32_125 arg15
  let c256_i32_126 : BitVec 32 := 256#32
  let v250 : BitVec 32 := Scalar.muli v249 c256_i32_126
  let v251 : BitVec 32 := v250
  let v252 : Index := Scalar.indexCast v251
  let c0_127 : Index := 0#32
  ![v252.toNat, 0]
def k0_off2 (i : grid0.Coords) (k0_t1 : Fin (k0_t1_loop i).trips) : Fin 2 → Nat :=
  let c2_i32_125 : BitVec 32 := 2#32
  let c0_i32_44 : BitVec 32 := 0#32
  let c1_i32_46 : BitVec 32 := 1#32
  let arg15 : BitVec 32 := Scf.iv c0_i32_44 c1_i32_46 k0_t1
  let v249 : BitVec 32 := Scalar.muli c2_i32_125 arg15
  let c256_i32_126 : BitVec 32 := 256#32
  let v250 : BitVec 32 := Scalar.muli v249 c256_i32_126
  let v251 : BitVec 32 := v250
  let v255 : Index := Scalar.indexCast v251
  let c128_129 : Index := 128#32
  ![v255.toNat, 128]
def k0_off3 (i : grid0.Coords) (k0_t1 : Fin (k0_t1_loop i).trips) : Fin 2 → Nat :=
  let c2_i32_125 : BitVec 32 := 2#32
  let c0_i32_44 : BitVec 32 := 0#32
  let c1_i32_46 : BitVec 32 := 1#32
  let arg15 : BitVec 32 := Scf.iv c0_i32_44 c1_i32_46 k0_t1
  let v249 : BitVec 32 := Scalar.muli c2_i32_125 arg15
  let c256_i32_126 : BitVec 32 := 256#32
  let v250 : BitVec 32 := Scalar.muli v249 c256_i32_126
  let v251 : BitVec 32 := v250
  let v258 : Index := Scalar.indexCast v251
  let c256_131 : Index := 256#32
  ![v258.toNat, 256]
def k0_off4 (i : grid0.Coords) (k0_t1 : Fin (k0_t1_loop i).trips) : Fin 2 → Nat :=
  let c2_i32_125 : BitVec 32 := 2#32
  let c0_i32_44 : BitVec 32 := 0#32
  let c1_i32_46 : BitVec 32 := 1#32
  let arg15 : BitVec 32 := Scf.iv c0_i32_44 c1_i32_46 k0_t1
  let v249 : BitVec 32 := Scalar.muli c2_i32_125 arg15
  let c256_i32_126 : BitVec 32 := 256#32
  let v250 : BitVec 32 := Scalar.muli v249 c256_i32_126
  let v251 : BitVec 32 := v250
  let v261 : Index := Scalar.indexCast v251
  let c384_133 : Index := 384#32
  ![v261.toNat, 384]
def k0_off5 (i : grid0.Coords) (k0_t1 : Fin (k0_t1_loop i).trips) : Fin 3 → Nat :=
  let c2_i32_125 : BitVec 32 := 2#32
  let c0_i32_44 : BitVec 32 := 0#32
  let c1_i32_46 : BitVec 32 := 1#32
  let arg15 : BitVec 32 := Scf.iv c0_i32_44 c1_i32_46 k0_t1
  let v249 : BitVec 32 := Scalar.muli c2_i32_125 arg15
  let v275 : Index := Scalar.indexCast v249
  let c0_139 : Index := 0#32
  let c0_140 : Index := 0#32
  ![v275.toNat, 0, 0]
def k0_off6 (i : grid0.Coords) (k0_t1 : Fin (k0_t1_loop i).trips) : Fin 3 → Nat :=
  let c2_i32_125 : BitVec 32 := 2#32
  let c0_i32_44 : BitVec 32 := 0#32
  let c1_i32_46 : BitVec 32 := 1#32
  let arg15 : BitVec 32 := Scf.iv c0_i32_44 c1_i32_46 k0_t1
  let v249 : BitVec 32 := Scalar.muli c2_i32_125 arg15
  let c1_i32_142 : BitVec 32 := 1#32
  let v281 : BitVec 32 := Scalar.addi v249 c1_i32_142
  let v282 : Index := Scalar.indexCast v281
  let c0_143 : Index := 0#32
  let c0_144 : Index := 0#32
  ![v282.toNat, 0, 0]
def k0_off7 (i : grid0.Coords) (k0_t1 : Fin (k0_t1_loop i).trips) : Fin 3 → Nat :=
  let c2_i32_125 : BitVec 32 := 2#32
  let c0_i32_44 : BitVec 32 := 0#32
  let c1_i32_46 : BitVec 32 := 1#32
  let arg15 : BitVec 32 := Scf.iv c0_i32_44 c1_i32_46 k0_t1
  let v249 : BitVec 32 := Scalar.muli c2_i32_125 arg15
  let v320 : Index := Scalar.indexCast v249
  let c128_165 : Index := 128#32
  let c0_166 : Index := 0#32
  ![v320.toNat, 128, 0]
def k0_off8 (i : grid0.Coords) (k0_t1 : Fin (k0_t1_loop i).trips) : Fin 3 → Nat :=
  let c2_i32_125 : BitVec 32 := 2#32
  let c0_i32_44 : BitVec 32 := 0#32
  let c1_i32_46 : BitVec 32 := 1#32
  let arg15 : BitVec 32 := Scf.iv c0_i32_44 c1_i32_46 k0_t1
  let v249 : BitVec 32 := Scalar.muli c2_i32_125 arg15
  let c1_i32_168 : BitVec 32 := 1#32
  let v326 : BitVec 32 := Scalar.addi v249 c1_i32_168
  let v327 : Index := Scalar.indexCast v326
  let c128_169 : Index := 128#32
  let c0_170 : Index := 0#32
  ![v327.toNat, 128, 0]
def k0_off9 (i : grid0.Coords) (k0_t1 : Fin (k0_t1_loop i).trips) : Fin 3 → Nat :=
  let c2_i32_125 : BitVec 32 := 2#32
  let c0_i32_44 : BitVec 32 := 0#32
  let c1_i32_46 : BitVec 32 := 1#32
  let arg15 : BitVec 32 := Scf.iv c0_i32_44 c1_i32_46 k0_t1
  let v249 : BitVec 32 := Scalar.muli c2_i32_125 arg15
  let v365 : Index := Scalar.indexCast v249
  let c256_191 : Index := 256#32
  let c0_192 : Index := 0#32
  ![v365.toNat, 256, 0]
def k0_off10 (i : grid0.Coords) (k0_t1 : Fin (k0_t1_loop i).trips) : Fin 3 → Nat :=
  let c2_i32_125 : BitVec 32 := 2#32
  let c0_i32_44 : BitVec 32 := 0#32
  let c1_i32_46 : BitVec 32 := 1#32
  let arg15 : BitVec 32 := Scf.iv c0_i32_44 c1_i32_46 k0_t1
  let v249 : BitVec 32 := Scalar.muli c2_i32_125 arg15
  let c1_i32_194 : BitVec 32 := 1#32
  let v371 : BitVec 32 := Scalar.addi v249 c1_i32_194
  let v372 : Index := Scalar.indexCast v371
  let c256_195 : Index := 256#32
  let c0_196 : Index := 0#32
  ![v372.toNat, 256, 0]
def k0_off11 (i : grid0.Coords) (k0_t1 : Fin (k0_t1_loop i).trips) : Fin 3 → Nat :=
  let c2_i32_125 : BitVec 32 := 2#32
  let c0_i32_44 : BitVec 32 := 0#32
  let c1_i32_46 : BitVec 32 := 1#32
  let arg15 : BitVec 32 := Scf.iv c0_i32_44 c1_i32_46 k0_t1
  let v249 : BitVec 32 := Scalar.muli c2_i32_125 arg15
  let v410 : Index := Scalar.indexCast v249
  let c384_217 : Index := 384#32
  let c0_218 : Index := 0#32
  ![v410.toNat, 384, 0]
def k0_off12 (i : grid0.Coords) (k0_t1 : Fin (k0_t1_loop i).trips) : Fin 3 → Nat :=
  let c2_i32_125 : BitVec 32 := 2#32
  let c0_i32_44 : BitVec 32 := 0#32
  let c1_i32_46 : BitVec 32 := 1#32
  let arg15 : BitVec 32 := Scf.iv c0_i32_44 c1_i32_46 k0_t1
  let v249 : BitVec 32 := Scalar.muli c2_i32_125 arg15
  let c1_i32_220 : BitVec 32 := 1#32
  let v416 : BitVec 32 := Scalar.addi v249 c1_i32_220
  let v417 : Index := Scalar.indexCast v416
  let c384_221 : Index := 384#32
  let c0_222 : Index := 0#32
  ![v417.toNat, 384, 0]
@[reducible] def k0_t2_loop (i : grid0.Coords) : Scf.Loop 32 :=
  let c0_i32_44 : BitVec 32 := 0#32
  let arg1 : BitVec 32 := BitVec.ofNat 32 (i 1).val
  let c0_i32 : BitVec 32 := 0#32
  let v74 : BitVec 1 := Scalar.cmpi .sgt arg1 c0_i32
  let v75 : BitVec 32 := Scalar.extui v74
  let c0_i32_39 : BitVec 32 := 0#32
  let v76 : BitVec 1 := Scalar.cmpi .slt arg1 c0_i32_39
  let v77 : BitVec 32 := Scalar.extui v76
  let v78 : BitVec 32 := Scalar.subi v75 v77
  let c2_i32 : BitVec 32 := 2#32
  let c0_i32_40 : BitVec 32 := 0#32
  let v79 : BitVec 1 := Scalar.cmpi .sgt c2_i32 c0_i32_40
  let v80 : BitVec 32 := Scalar.extui v79
  let c0_i32_41 : BitVec 32 := 0#32
  let v81 : BitVec 1 := Scalar.cmpi .slt c2_i32 c0_i32_41
  let v82 : BitVec 32 := Scalar.extui v81
  let v83 : BitVec 32 := Scalar.subi v80 v82
  let v84 : BitVec 1 := Scalar.cmpi .ne v78 v83
  let v85 : BitVec 32 := Scalar.remsi arg1 c2_i32
  let c0_i32_42 : BitVec 32 := 0#32
  let v86 : BitVec 1 := Scalar.cmpi .ne v85 c0_i32_42
  let v87 : BitVec 1 := Scalar.andi v84 v86
  let v73 : BitVec 32 := Scalar.divsi arg1 c2_i32
  let c1_i32 : BitVec 32 := 1#32
  let v88 : BitVec 32 := Scalar.subi v73 c1_i32
  let v89 : BitVec 32 := Scalar.select v87 v88 v73
  let v90 : BitVec 32 := Scalar.subi v89 c0_i32_44
  let c1_i32_45 : BitVec 32 := 1#32
  let v92 : BitVec 32 := Scalar.divsi v90 c1_i32_45
  let v93 : BitVec 32 := Scalar.muli v92 c1_i32_45
  let v94 : BitVec 32 := Scalar.addi c0_i32_44 v93
  let v91 : BitVec 32 := Scalar.addi c0_i32_44 v90
  let c1_i32_47 : BitVec 32 := 1#32
  ⟨v94, v91, c1_i32_47⟩
def k0_mult2 (i : grid0.Coords) (k0_t2 : Fin (k0_t2_loop i).trips) : BitVec 32 :=
  let c2_i32_125 : BitVec 32 := 2#32
  let c0_i32_44 : BitVec 32 := 0#32
  let arg1 : BitVec 32 := BitVec.ofNat 32 (i 1).val
  let c0_i32 : BitVec 32 := 0#32
  let v74 : BitVec 1 := Scalar.cmpi .sgt arg1 c0_i32
  let v75 : BitVec 32 := Scalar.extui v74
  let c0_i32_39 : BitVec 32 := 0#32
  let v76 : BitVec 1 := Scalar.cmpi .slt arg1 c0_i32_39
  let v77 : BitVec 32 := Scalar.extui v76
  let v78 : BitVec 32 := Scalar.subi v75 v77
  let c2_i32 : BitVec 32 := 2#32
  let c0_i32_40 : BitVec 32 := 0#32
  let v79 : BitVec 1 := Scalar.cmpi .sgt c2_i32 c0_i32_40
  let v80 : BitVec 32 := Scalar.extui v79
  let c0_i32_41 : BitVec 32 := 0#32
  let v81 : BitVec 1 := Scalar.cmpi .slt c2_i32 c0_i32_41
  let v82 : BitVec 32 := Scalar.extui v81
  let v83 : BitVec 32 := Scalar.subi v80 v82
  let v84 : BitVec 1 := Scalar.cmpi .ne v78 v83
  let v85 : BitVec 32 := Scalar.remsi arg1 c2_i32
  let c0_i32_42 : BitVec 32 := 0#32
  let v86 : BitVec 1 := Scalar.cmpi .ne v85 c0_i32_42
  let v87 : BitVec 1 := Scalar.andi v84 v86
  let v73 : BitVec 32 := Scalar.divsi arg1 c2_i32
  let c1_i32 : BitVec 32 := 1#32
  let v88 : BitVec 32 := Scalar.subi v73 c1_i32
  let v89 : BitVec 32 := Scalar.select v87 v88 v73
  let v90 : BitVec 32 := Scalar.subi v89 c0_i32_44
  let c1_i32_45 : BitVec 32 := 1#32
  let v92 : BitVec 32 := Scalar.divsi v90 c1_i32_45
  let v93 : BitVec 32 := Scalar.muli v92 c1_i32_45
  let v94 : BitVec 32 := Scalar.addi c0_i32_44 v93
  let c1_i32_47 : BitVec 32 := 1#32
  let arg15 : BitVec 32 := Scf.iv v94 c1_i32_47 k0_t2
  let v249 : BitVec 32 := Scalar.muli c2_i32_125 arg15
  let c256_i32_126 : BitVec 32 := 256#32
  let v250 : BitVec 32 := Scalar.muli v249 c256_i32_126
  v250
def k0_off13 (i : grid0.Coords) (k0_t2 : Fin (k0_t2_loop i).trips) : Fin 2 → Nat :=
  let c2_i32_125 : BitVec 32 := 2#32
  let c0_i32_44 : BitVec 32 := 0#32
  let arg1 : BitVec 32 := BitVec.ofNat 32 (i 1).val
  let c0_i32 : BitVec 32 := 0#32
  let v74 : BitVec 1 := Scalar.cmpi .sgt arg1 c0_i32
  let v75 : BitVec 32 := Scalar.extui v74
  let c0_i32_39 : BitVec 32 := 0#32
  let v76 : BitVec 1 := Scalar.cmpi .slt arg1 c0_i32_39
  let v77 : BitVec 32 := Scalar.extui v76
  let v78 : BitVec 32 := Scalar.subi v75 v77
  let c2_i32 : BitVec 32 := 2#32
  let c0_i32_40 : BitVec 32 := 0#32
  let v79 : BitVec 1 := Scalar.cmpi .sgt c2_i32 c0_i32_40
  let v80 : BitVec 32 := Scalar.extui v79
  let c0_i32_41 : BitVec 32 := 0#32
  let v81 : BitVec 1 := Scalar.cmpi .slt c2_i32 c0_i32_41
  let v82 : BitVec 32 := Scalar.extui v81
  let v83 : BitVec 32 := Scalar.subi v80 v82
  let v84 : BitVec 1 := Scalar.cmpi .ne v78 v83
  let v85 : BitVec 32 := Scalar.remsi arg1 c2_i32
  let c0_i32_42 : BitVec 32 := 0#32
  let v86 : BitVec 1 := Scalar.cmpi .ne v85 c0_i32_42
  let v87 : BitVec 1 := Scalar.andi v84 v86
  let v73 : BitVec 32 := Scalar.divsi arg1 c2_i32
  let c1_i32 : BitVec 32 := 1#32
  let v88 : BitVec 32 := Scalar.subi v73 c1_i32
  let v89 : BitVec 32 := Scalar.select v87 v88 v73
  let v90 : BitVec 32 := Scalar.subi v89 c0_i32_44
  let c1_i32_45 : BitVec 32 := 1#32
  let v92 : BitVec 32 := Scalar.divsi v90 c1_i32_45
  let v93 : BitVec 32 := Scalar.muli v92 c1_i32_45
  let v94 : BitVec 32 := Scalar.addi c0_i32_44 v93
  let c1_i32_47 : BitVec 32 := 1#32
  let arg15 : BitVec 32 := Scf.iv v94 c1_i32_47 k0_t2
  let v249 : BitVec 32 := Scalar.muli c2_i32_125 arg15
  let c256_i32_126 : BitVec 32 := 256#32
  let v250 : BitVec 32 := Scalar.muli v249 c256_i32_126
  let v251 : BitVec 32 := v250
  let v252 : Index := Scalar.indexCast v251
  let c0_127 : Index := 0#32
  ![v252.toNat, 0]
def k0_off14 (i : grid0.Coords) (k0_t2 : Fin (k0_t2_loop i).trips) : Fin 2 → Nat :=
  let c2_i32_125 : BitVec 32 := 2#32
  let c0_i32_44 : BitVec 32 := 0#32
  let arg1 : BitVec 32 := BitVec.ofNat 32 (i 1).val
  let c0_i32 : BitVec 32 := 0#32
  let v74 : BitVec 1 := Scalar.cmpi .sgt arg1 c0_i32
  let v75 : BitVec 32 := Scalar.extui v74
  let c0_i32_39 : BitVec 32 := 0#32
  let v76 : BitVec 1 := Scalar.cmpi .slt arg1 c0_i32_39
  let v77 : BitVec 32 := Scalar.extui v76
  let v78 : BitVec 32 := Scalar.subi v75 v77
  let c2_i32 : BitVec 32 := 2#32
  let c0_i32_40 : BitVec 32 := 0#32
  let v79 : BitVec 1 := Scalar.cmpi .sgt c2_i32 c0_i32_40
  let v80 : BitVec 32 := Scalar.extui v79
  let c0_i32_41 : BitVec 32 := 0#32
  let v81 : BitVec 1 := Scalar.cmpi .slt c2_i32 c0_i32_41
  let v82 : BitVec 32 := Scalar.extui v81
  let v83 : BitVec 32 := Scalar.subi v80 v82
  let v84 : BitVec 1 := Scalar.cmpi .ne v78 v83
  let v85 : BitVec 32 := Scalar.remsi arg1 c2_i32
  let c0_i32_42 : BitVec 32 := 0#32
  let v86 : BitVec 1 := Scalar.cmpi .ne v85 c0_i32_42
  let v87 : BitVec 1 := Scalar.andi v84 v86
  let v73 : BitVec 32 := Scalar.divsi arg1 c2_i32
  let c1_i32 : BitVec 32 := 1#32
  let v88 : BitVec 32 := Scalar.subi v73 c1_i32
  let v89 : BitVec 32 := Scalar.select v87 v88 v73
  let v90 : BitVec 32 := Scalar.subi v89 c0_i32_44
  let c1_i32_45 : BitVec 32 := 1#32
  let v92 : BitVec 32 := Scalar.divsi v90 c1_i32_45
  let v93 : BitVec 32 := Scalar.muli v92 c1_i32_45
  let v94 : BitVec 32 := Scalar.addi c0_i32_44 v93
  let c1_i32_47 : BitVec 32 := 1#32
  let arg15 : BitVec 32 := Scf.iv v94 c1_i32_47 k0_t2
  let v249 : BitVec 32 := Scalar.muli c2_i32_125 arg15
  let c256_i32_126 : BitVec 32 := 256#32
  let v250 : BitVec 32 := Scalar.muli v249 c256_i32_126
  let v251 : BitVec 32 := v250
  let v255 : Index := Scalar.indexCast v251
  let c128_129 : Index := 128#32
  ![v255.toNat, 128]
def k0_off15 (i : grid0.Coords) (k0_t2 : Fin (k0_t2_loop i).trips) : Fin 2 → Nat :=
  let c2_i32_125 : BitVec 32 := 2#32
  let c0_i32_44 : BitVec 32 := 0#32
  let arg1 : BitVec 32 := BitVec.ofNat 32 (i 1).val
  let c0_i32 : BitVec 32 := 0#32
  let v74 : BitVec 1 := Scalar.cmpi .sgt arg1 c0_i32
  let v75 : BitVec 32 := Scalar.extui v74
  let c0_i32_39 : BitVec 32 := 0#32
  let v76 : BitVec 1 := Scalar.cmpi .slt arg1 c0_i32_39
  let v77 : BitVec 32 := Scalar.extui v76
  let v78 : BitVec 32 := Scalar.subi v75 v77
  let c2_i32 : BitVec 32 := 2#32
  let c0_i32_40 : BitVec 32 := 0#32
  let v79 : BitVec 1 := Scalar.cmpi .sgt c2_i32 c0_i32_40
  let v80 : BitVec 32 := Scalar.extui v79
  let c0_i32_41 : BitVec 32 := 0#32
  let v81 : BitVec 1 := Scalar.cmpi .slt c2_i32 c0_i32_41
  let v82 : BitVec 32 := Scalar.extui v81
  let v83 : BitVec 32 := Scalar.subi v80 v82
  let v84 : BitVec 1 := Scalar.cmpi .ne v78 v83
  let v85 : BitVec 32 := Scalar.remsi arg1 c2_i32
  let c0_i32_42 : BitVec 32 := 0#32
  let v86 : BitVec 1 := Scalar.cmpi .ne v85 c0_i32_42
  let v87 : BitVec 1 := Scalar.andi v84 v86
  let v73 : BitVec 32 := Scalar.divsi arg1 c2_i32
  let c1_i32 : BitVec 32 := 1#32
  let v88 : BitVec 32 := Scalar.subi v73 c1_i32
  let v89 : BitVec 32 := Scalar.select v87 v88 v73
  let v90 : BitVec 32 := Scalar.subi v89 c0_i32_44
  let c1_i32_45 : BitVec 32 := 1#32
  let v92 : BitVec 32 := Scalar.divsi v90 c1_i32_45
  let v93 : BitVec 32 := Scalar.muli v92 c1_i32_45
  let v94 : BitVec 32 := Scalar.addi c0_i32_44 v93
  let c1_i32_47 : BitVec 32 := 1#32
  let arg15 : BitVec 32 := Scf.iv v94 c1_i32_47 k0_t2
  let v249 : BitVec 32 := Scalar.muli c2_i32_125 arg15
  let c256_i32_126 : BitVec 32 := 256#32
  let v250 : BitVec 32 := Scalar.muli v249 c256_i32_126
  let v251 : BitVec 32 := v250
  let v258 : Index := Scalar.indexCast v251
  let c256_131 : Index := 256#32
  ![v258.toNat, 256]
def k0_off16 (i : grid0.Coords) (k0_t2 : Fin (k0_t2_loop i).trips) : Fin 2 → Nat :=
  let c2_i32_125 : BitVec 32 := 2#32
  let c0_i32_44 : BitVec 32 := 0#32
  let arg1 : BitVec 32 := BitVec.ofNat 32 (i 1).val
  let c0_i32 : BitVec 32 := 0#32
  let v74 : BitVec 1 := Scalar.cmpi .sgt arg1 c0_i32
  let v75 : BitVec 32 := Scalar.extui v74
  let c0_i32_39 : BitVec 32 := 0#32
  let v76 : BitVec 1 := Scalar.cmpi .slt arg1 c0_i32_39
  let v77 : BitVec 32 := Scalar.extui v76
  let v78 : BitVec 32 := Scalar.subi v75 v77
  let c2_i32 : BitVec 32 := 2#32
  let c0_i32_40 : BitVec 32 := 0#32
  let v79 : BitVec 1 := Scalar.cmpi .sgt c2_i32 c0_i32_40
  let v80 : BitVec 32 := Scalar.extui v79
  let c0_i32_41 : BitVec 32 := 0#32
  let v81 : BitVec 1 := Scalar.cmpi .slt c2_i32 c0_i32_41
  let v82 : BitVec 32 := Scalar.extui v81
  let v83 : BitVec 32 := Scalar.subi v80 v82
  let v84 : BitVec 1 := Scalar.cmpi .ne v78 v83
  let v85 : BitVec 32 := Scalar.remsi arg1 c2_i32
  let c0_i32_42 : BitVec 32 := 0#32
  let v86 : BitVec 1 := Scalar.cmpi .ne v85 c0_i32_42
  let v87 : BitVec 1 := Scalar.andi v84 v86
  let v73 : BitVec 32 := Scalar.divsi arg1 c2_i32
  let c1_i32 : BitVec 32 := 1#32
  let v88 : BitVec 32 := Scalar.subi v73 c1_i32
  let v89 : BitVec 32 := Scalar.select v87 v88 v73
  let v90 : BitVec 32 := Scalar.subi v89 c0_i32_44
  let c1_i32_45 : BitVec 32 := 1#32
  let v92 : BitVec 32 := Scalar.divsi v90 c1_i32_45
  let v93 : BitVec 32 := Scalar.muli v92 c1_i32_45
  let v94 : BitVec 32 := Scalar.addi c0_i32_44 v93
  let c1_i32_47 : BitVec 32 := 1#32
  let arg15 : BitVec 32 := Scf.iv v94 c1_i32_47 k0_t2
  let v249 : BitVec 32 := Scalar.muli c2_i32_125 arg15
  let c256_i32_126 : BitVec 32 := 256#32
  let v250 : BitVec 32 := Scalar.muli v249 c256_i32_126
  let v251 : BitVec 32 := v250
  let v261 : Index := Scalar.indexCast v251
  let c384_133 : Index := 384#32
  ![v261.toNat, 384]
def k0_off17 (i : grid0.Coords) (k0_t2 : Fin (k0_t2_loop i).trips) : Fin 3 → Nat :=
  let c2_i32_125 : BitVec 32 := 2#32
  let c0_i32_44 : BitVec 32 := 0#32
  let arg1 : BitVec 32 := BitVec.ofNat 32 (i 1).val
  let c0_i32 : BitVec 32 := 0#32
  let v74 : BitVec 1 := Scalar.cmpi .sgt arg1 c0_i32
  let v75 : BitVec 32 := Scalar.extui v74
  let c0_i32_39 : BitVec 32 := 0#32
  let v76 : BitVec 1 := Scalar.cmpi .slt arg1 c0_i32_39
  let v77 : BitVec 32 := Scalar.extui v76
  let v78 : BitVec 32 := Scalar.subi v75 v77
  let c2_i32 : BitVec 32 := 2#32
  let c0_i32_40 : BitVec 32 := 0#32
  let v79 : BitVec 1 := Scalar.cmpi .sgt c2_i32 c0_i32_40
  let v80 : BitVec 32 := Scalar.extui v79
  let c0_i32_41 : BitVec 32 := 0#32
  let v81 : BitVec 1 := Scalar.cmpi .slt c2_i32 c0_i32_41
  let v82 : BitVec 32 := Scalar.extui v81
  let v83 : BitVec 32 := Scalar.subi v80 v82
  let v84 : BitVec 1 := Scalar.cmpi .ne v78 v83
  let v85 : BitVec 32 := Scalar.remsi arg1 c2_i32
  let c0_i32_42 : BitVec 32 := 0#32
  let v86 : BitVec 1 := Scalar.cmpi .ne v85 c0_i32_42
  let v87 : BitVec 1 := Scalar.andi v84 v86
  let v73 : BitVec 32 := Scalar.divsi arg1 c2_i32
  let c1_i32 : BitVec 32 := 1#32
  let v88 : BitVec 32 := Scalar.subi v73 c1_i32
  let v89 : BitVec 32 := Scalar.select v87 v88 v73
  let v90 : BitVec 32 := Scalar.subi v89 c0_i32_44
  let c1_i32_45 : BitVec 32 := 1#32
  let v92 : BitVec 32 := Scalar.divsi v90 c1_i32_45
  let v93 : BitVec 32 := Scalar.muli v92 c1_i32_45
  let v94 : BitVec 32 := Scalar.addi c0_i32_44 v93
  let c1_i32_47 : BitVec 32 := 1#32
  let arg15 : BitVec 32 := Scf.iv v94 c1_i32_47 k0_t2
  let v249 : BitVec 32 := Scalar.muli c2_i32_125 arg15
  let v275 : Index := Scalar.indexCast v249
  let c0_139 : Index := 0#32
  let c0_140 : Index := 0#32
  ![v275.toNat, 0, 0]
def k0_off18 (i : grid0.Coords) (k0_t2 : Fin (k0_t2_loop i).trips) : Fin 3 → Nat :=
  let c2_i32_125 : BitVec 32 := 2#32
  let c0_i32_44 : BitVec 32 := 0#32
  let arg1 : BitVec 32 := BitVec.ofNat 32 (i 1).val
  let c0_i32 : BitVec 32 := 0#32
  let v74 : BitVec 1 := Scalar.cmpi .sgt arg1 c0_i32
  let v75 : BitVec 32 := Scalar.extui v74
  let c0_i32_39 : BitVec 32 := 0#32
  let v76 : BitVec 1 := Scalar.cmpi .slt arg1 c0_i32_39
  let v77 : BitVec 32 := Scalar.extui v76
  let v78 : BitVec 32 := Scalar.subi v75 v77
  let c2_i32 : BitVec 32 := 2#32
  let c0_i32_40 : BitVec 32 := 0#32
  let v79 : BitVec 1 := Scalar.cmpi .sgt c2_i32 c0_i32_40
  let v80 : BitVec 32 := Scalar.extui v79
  let c0_i32_41 : BitVec 32 := 0#32
  let v81 : BitVec 1 := Scalar.cmpi .slt c2_i32 c0_i32_41
  let v82 : BitVec 32 := Scalar.extui v81
  let v83 : BitVec 32 := Scalar.subi v80 v82
  let v84 : BitVec 1 := Scalar.cmpi .ne v78 v83
  let v85 : BitVec 32 := Scalar.remsi arg1 c2_i32
  let c0_i32_42 : BitVec 32 := 0#32
  let v86 : BitVec 1 := Scalar.cmpi .ne v85 c0_i32_42
  let v87 : BitVec 1 := Scalar.andi v84 v86
  let v73 : BitVec 32 := Scalar.divsi arg1 c2_i32
  let c1_i32 : BitVec 32 := 1#32
  let v88 : BitVec 32 := Scalar.subi v73 c1_i32
  let v89 : BitVec 32 := Scalar.select v87 v88 v73
  let v90 : BitVec 32 := Scalar.subi v89 c0_i32_44
  let c1_i32_45 : BitVec 32 := 1#32
  let v92 : BitVec 32 := Scalar.divsi v90 c1_i32_45
  let v93 : BitVec 32 := Scalar.muli v92 c1_i32_45
  let v94 : BitVec 32 := Scalar.addi c0_i32_44 v93
  let c1_i32_47 : BitVec 32 := 1#32
  let arg15 : BitVec 32 := Scf.iv v94 c1_i32_47 k0_t2
  let v249 : BitVec 32 := Scalar.muli c2_i32_125 arg15
  let c1_i32_142 : BitVec 32 := 1#32
  let v281 : BitVec 32 := Scalar.addi v249 c1_i32_142
  let v282 : Index := Scalar.indexCast v281
  let c0_143 : Index := 0#32
  let c0_144 : Index := 0#32
  ![v282.toNat, 0, 0]
def k0_off19 (i : grid0.Coords) (k0_t2 : Fin (k0_t2_loop i).trips) : Fin 3 → Nat :=
  let c2_i32_125 : BitVec 32 := 2#32
  let c0_i32_44 : BitVec 32 := 0#32
  let arg1 : BitVec 32 := BitVec.ofNat 32 (i 1).val
  let c0_i32 : BitVec 32 := 0#32
  let v74 : BitVec 1 := Scalar.cmpi .sgt arg1 c0_i32
  let v75 : BitVec 32 := Scalar.extui v74
  let c0_i32_39 : BitVec 32 := 0#32
  let v76 : BitVec 1 := Scalar.cmpi .slt arg1 c0_i32_39
  let v77 : BitVec 32 := Scalar.extui v76
  let v78 : BitVec 32 := Scalar.subi v75 v77
  let c2_i32 : BitVec 32 := 2#32
  let c0_i32_40 : BitVec 32 := 0#32
  let v79 : BitVec 1 := Scalar.cmpi .sgt c2_i32 c0_i32_40
  let v80 : BitVec 32 := Scalar.extui v79
  let c0_i32_41 : BitVec 32 := 0#32
  let v81 : BitVec 1 := Scalar.cmpi .slt c2_i32 c0_i32_41
  let v82 : BitVec 32 := Scalar.extui v81
  let v83 : BitVec 32 := Scalar.subi v80 v82
  let v84 : BitVec 1 := Scalar.cmpi .ne v78 v83
  let v85 : BitVec 32 := Scalar.remsi arg1 c2_i32
  let c0_i32_42 : BitVec 32 := 0#32
  let v86 : BitVec 1 := Scalar.cmpi .ne v85 c0_i32_42
  let v87 : BitVec 1 := Scalar.andi v84 v86
  let v73 : BitVec 32 := Scalar.divsi arg1 c2_i32
  let c1_i32 : BitVec 32 := 1#32
  let v88 : BitVec 32 := Scalar.subi v73 c1_i32
  let v89 : BitVec 32 := Scalar.select v87 v88 v73
  let v90 : BitVec 32 := Scalar.subi v89 c0_i32_44
  let c1_i32_45 : BitVec 32 := 1#32
  let v92 : BitVec 32 := Scalar.divsi v90 c1_i32_45
  let v93 : BitVec 32 := Scalar.muli v92 c1_i32_45
  let v94 : BitVec 32 := Scalar.addi c0_i32_44 v93
  let c1_i32_47 : BitVec 32 := 1#32
  let arg15 : BitVec 32 := Scf.iv v94 c1_i32_47 k0_t2
  let v249 : BitVec 32 := Scalar.muli c2_i32_125 arg15
  let v320 : Index := Scalar.indexCast v249
  let c128_165 : Index := 128#32
  let c0_166 : Index := 0#32
  ![v320.toNat, 128, 0]
def k0_off20 (i : grid0.Coords) (k0_t2 : Fin (k0_t2_loop i).trips) : Fin 3 → Nat :=
  let c2_i32_125 : BitVec 32 := 2#32
  let c0_i32_44 : BitVec 32 := 0#32
  let arg1 : BitVec 32 := BitVec.ofNat 32 (i 1).val
  let c0_i32 : BitVec 32 := 0#32
  let v74 : BitVec 1 := Scalar.cmpi .sgt arg1 c0_i32
  let v75 : BitVec 32 := Scalar.extui v74
  let c0_i32_39 : BitVec 32 := 0#32
  let v76 : BitVec 1 := Scalar.cmpi .slt arg1 c0_i32_39
  let v77 : BitVec 32 := Scalar.extui v76
  let v78 : BitVec 32 := Scalar.subi v75 v77
  let c2_i32 : BitVec 32 := 2#32
  let c0_i32_40 : BitVec 32 := 0#32
  let v79 : BitVec 1 := Scalar.cmpi .sgt c2_i32 c0_i32_40
  let v80 : BitVec 32 := Scalar.extui v79
  let c0_i32_41 : BitVec 32 := 0#32
  let v81 : BitVec 1 := Scalar.cmpi .slt c2_i32 c0_i32_41
  let v82 : BitVec 32 := Scalar.extui v81
  let v83 : BitVec 32 := Scalar.subi v80 v82
  let v84 : BitVec 1 := Scalar.cmpi .ne v78 v83
  let v85 : BitVec 32 := Scalar.remsi arg1 c2_i32
  let c0_i32_42 : BitVec 32 := 0#32
  let v86 : BitVec 1 := Scalar.cmpi .ne v85 c0_i32_42
  let v87 : BitVec 1 := Scalar.andi v84 v86
  let v73 : BitVec 32 := Scalar.divsi arg1 c2_i32
  let c1_i32 : BitVec 32 := 1#32
  let v88 : BitVec 32 := Scalar.subi v73 c1_i32
  let v89 : BitVec 32 := Scalar.select v87 v88 v73
  let v90 : BitVec 32 := Scalar.subi v89 c0_i32_44
  let c1_i32_45 : BitVec 32 := 1#32
  let v92 : BitVec 32 := Scalar.divsi v90 c1_i32_45
  let v93 : BitVec 32 := Scalar.muli v92 c1_i32_45
  let v94 : BitVec 32 := Scalar.addi c0_i32_44 v93
  let c1_i32_47 : BitVec 32 := 1#32
  let arg15 : BitVec 32 := Scf.iv v94 c1_i32_47 k0_t2
  let v249 : BitVec 32 := Scalar.muli c2_i32_125 arg15
  let c1_i32_168 : BitVec 32 := 1#32
  let v326 : BitVec 32 := Scalar.addi v249 c1_i32_168
  let v327 : Index := Scalar.indexCast v326
  let c128_169 : Index := 128#32
  let c0_170 : Index := 0#32
  ![v327.toNat, 128, 0]
def k0_off21 (i : grid0.Coords) (k0_t2 : Fin (k0_t2_loop i).trips) : Fin 3 → Nat :=
  let c2_i32_125 : BitVec 32 := 2#32
  let c0_i32_44 : BitVec 32 := 0#32
  let arg1 : BitVec 32 := BitVec.ofNat 32 (i 1).val
  let c0_i32 : BitVec 32 := 0#32
  let v74 : BitVec 1 := Scalar.cmpi .sgt arg1 c0_i32
  let v75 : BitVec 32 := Scalar.extui v74
  let c0_i32_39 : BitVec 32 := 0#32
  let v76 : BitVec 1 := Scalar.cmpi .slt arg1 c0_i32_39
  let v77 : BitVec 32 := Scalar.extui v76
  let v78 : BitVec 32 := Scalar.subi v75 v77
  let c2_i32 : BitVec 32 := 2#32
  let c0_i32_40 : BitVec 32 := 0#32
  let v79 : BitVec 1 := Scalar.cmpi .sgt c2_i32 c0_i32_40
  let v80 : BitVec 32 := Scalar.extui v79
  let c0_i32_41 : BitVec 32 := 0#32
  let v81 : BitVec 1 := Scalar.cmpi .slt c2_i32 c0_i32_41
  let v82 : BitVec 32 := Scalar.extui v81
  let v83 : BitVec 32 := Scalar.subi v80 v82
  let v84 : BitVec 1 := Scalar.cmpi .ne v78 v83
  let v85 : BitVec 32 := Scalar.remsi arg1 c2_i32
  let c0_i32_42 : BitVec 32 := 0#32
  let v86 : BitVec 1 := Scalar.cmpi .ne v85 c0_i32_42
  let v87 : BitVec 1 := Scalar.andi v84 v86
  let v73 : BitVec 32 := Scalar.divsi arg1 c2_i32
  let c1_i32 : BitVec 32 := 1#32
  let v88 : BitVec 32 := Scalar.subi v73 c1_i32
  let v89 : BitVec 32 := Scalar.select v87 v88 v73
  let v90 : BitVec 32 := Scalar.subi v89 c0_i32_44
  let c1_i32_45 : BitVec 32 := 1#32
  let v92 : BitVec 32 := Scalar.divsi v90 c1_i32_45
  let v93 : BitVec 32 := Scalar.muli v92 c1_i32_45
  let v94 : BitVec 32 := Scalar.addi c0_i32_44 v93
  let c1_i32_47 : BitVec 32 := 1#32
  let arg15 : BitVec 32 := Scf.iv v94 c1_i32_47 k0_t2
  let v249 : BitVec 32 := Scalar.muli c2_i32_125 arg15
  let v365 : Index := Scalar.indexCast v249
  let c256_191 : Index := 256#32
  let c0_192 : Index := 0#32
  ![v365.toNat, 256, 0]
def k0_off22 (i : grid0.Coords) (k0_t2 : Fin (k0_t2_loop i).trips) : Fin 3 → Nat :=
  let c2_i32_125 : BitVec 32 := 2#32
  let c0_i32_44 : BitVec 32 := 0#32
  let arg1 : BitVec 32 := BitVec.ofNat 32 (i 1).val
  let c0_i32 : BitVec 32 := 0#32
  let v74 : BitVec 1 := Scalar.cmpi .sgt arg1 c0_i32
  let v75 : BitVec 32 := Scalar.extui v74
  let c0_i32_39 : BitVec 32 := 0#32
  let v76 : BitVec 1 := Scalar.cmpi .slt arg1 c0_i32_39
  let v77 : BitVec 32 := Scalar.extui v76
  let v78 : BitVec 32 := Scalar.subi v75 v77
  let c2_i32 : BitVec 32 := 2#32
  let c0_i32_40 : BitVec 32 := 0#32
  let v79 : BitVec 1 := Scalar.cmpi .sgt c2_i32 c0_i32_40
  let v80 : BitVec 32 := Scalar.extui v79
  let c0_i32_41 : BitVec 32 := 0#32
  let v81 : BitVec 1 := Scalar.cmpi .slt c2_i32 c0_i32_41
  let v82 : BitVec 32 := Scalar.extui v81
  let v83 : BitVec 32 := Scalar.subi v80 v82
  let v84 : BitVec 1 := Scalar.cmpi .ne v78 v83
  let v85 : BitVec 32 := Scalar.remsi arg1 c2_i32
  let c0_i32_42 : BitVec 32 := 0#32
  let v86 : BitVec 1 := Scalar.cmpi .ne v85 c0_i32_42
  let v87 : BitVec 1 := Scalar.andi v84 v86
  let v73 : BitVec 32 := Scalar.divsi arg1 c2_i32
  let c1_i32 : BitVec 32 := 1#32
  let v88 : BitVec 32 := Scalar.subi v73 c1_i32
  let v89 : BitVec 32 := Scalar.select v87 v88 v73
  let v90 : BitVec 32 := Scalar.subi v89 c0_i32_44
  let c1_i32_45 : BitVec 32 := 1#32
  let v92 : BitVec 32 := Scalar.divsi v90 c1_i32_45
  let v93 : BitVec 32 := Scalar.muli v92 c1_i32_45
  let v94 : BitVec 32 := Scalar.addi c0_i32_44 v93
  let c1_i32_47 : BitVec 32 := 1#32
  let arg15 : BitVec 32 := Scf.iv v94 c1_i32_47 k0_t2
  let v249 : BitVec 32 := Scalar.muli c2_i32_125 arg15
  let c1_i32_194 : BitVec 32 := 1#32
  let v371 : BitVec 32 := Scalar.addi v249 c1_i32_194
  let v372 : Index := Scalar.indexCast v371
  let c256_195 : Index := 256#32
  let c0_196 : Index := 0#32
  ![v372.toNat, 256, 0]
def k0_off23 (i : grid0.Coords) (k0_t2 : Fin (k0_t2_loop i).trips) : Fin 3 → Nat :=
  let c2_i32_125 : BitVec 32 := 2#32
  let c0_i32_44 : BitVec 32 := 0#32
  let arg1 : BitVec 32 := BitVec.ofNat 32 (i 1).val
  let c0_i32 : BitVec 32 := 0#32
  let v74 : BitVec 1 := Scalar.cmpi .sgt arg1 c0_i32
  let v75 : BitVec 32 := Scalar.extui v74
  let c0_i32_39 : BitVec 32 := 0#32
  let v76 : BitVec 1 := Scalar.cmpi .slt arg1 c0_i32_39
  let v77 : BitVec 32 := Scalar.extui v76
  let v78 : BitVec 32 := Scalar.subi v75 v77
  let c2_i32 : BitVec 32 := 2#32
  let c0_i32_40 : BitVec 32 := 0#32
  let v79 : BitVec 1 := Scalar.cmpi .sgt c2_i32 c0_i32_40
  let v80 : BitVec 32 := Scalar.extui v79
  let c0_i32_41 : BitVec 32 := 0#32
  let v81 : BitVec 1 := Scalar.cmpi .slt c2_i32 c0_i32_41
  let v82 : BitVec 32 := Scalar.extui v81
  let v83 : BitVec 32 := Scalar.subi v80 v82
  let v84 : BitVec 1 := Scalar.cmpi .ne v78 v83
  let v85 : BitVec 32 := Scalar.remsi arg1 c2_i32
  let c0_i32_42 : BitVec 32 := 0#32
  let v86 : BitVec 1 := Scalar.cmpi .ne v85 c0_i32_42
  let v87 : BitVec 1 := Scalar.andi v84 v86
  let v73 : BitVec 32 := Scalar.divsi arg1 c2_i32
  let c1_i32 : BitVec 32 := 1#32
  let v88 : BitVec 32 := Scalar.subi v73 c1_i32
  let v89 : BitVec 32 := Scalar.select v87 v88 v73
  let v90 : BitVec 32 := Scalar.subi v89 c0_i32_44
  let c1_i32_45 : BitVec 32 := 1#32
  let v92 : BitVec 32 := Scalar.divsi v90 c1_i32_45
  let v93 : BitVec 32 := Scalar.muli v92 c1_i32_45
  let v94 : BitVec 32 := Scalar.addi c0_i32_44 v93
  let c1_i32_47 : BitVec 32 := 1#32
  let arg15 : BitVec 32 := Scf.iv v94 c1_i32_47 k0_t2
  let v249 : BitVec 32 := Scalar.muli c2_i32_125 arg15
  let v410 : Index := Scalar.indexCast v249
  let c384_217 : Index := 384#32
  let c0_218 : Index := 0#32
  ![v410.toNat, 384, 0]
def k0_off24 (i : grid0.Coords) (k0_t2 : Fin (k0_t2_loop i).trips) : Fin 3 → Nat :=
  let c2_i32_125 : BitVec 32 := 2#32
  let c0_i32_44 : BitVec 32 := 0#32
  let arg1 : BitVec 32 := BitVec.ofNat 32 (i 1).val
  let c0_i32 : BitVec 32 := 0#32
  let v74 : BitVec 1 := Scalar.cmpi .sgt arg1 c0_i32
  let v75 : BitVec 32 := Scalar.extui v74
  let c0_i32_39 : BitVec 32 := 0#32
  let v76 : BitVec 1 := Scalar.cmpi .slt arg1 c0_i32_39
  let v77 : BitVec 32 := Scalar.extui v76
  let v78 : BitVec 32 := Scalar.subi v75 v77
  let c2_i32 : BitVec 32 := 2#32
  let c0_i32_40 : BitVec 32 := 0#32
  let v79 : BitVec 1 := Scalar.cmpi .sgt c2_i32 c0_i32_40
  let v80 : BitVec 32 := Scalar.extui v79
  let c0_i32_41 : BitVec 32 := 0#32
  let v81 : BitVec 1 := Scalar.cmpi .slt c2_i32 c0_i32_41
  let v82 : BitVec 32 := Scalar.extui v81
  let v83 : BitVec 32 := Scalar.subi v80 v82
  let v84 : BitVec 1 := Scalar.cmpi .ne v78 v83
  let v85 : BitVec 32 := Scalar.remsi arg1 c2_i32
  let c0_i32_42 : BitVec 32 := 0#32
  let v86 : BitVec 1 := Scalar.cmpi .ne v85 c0_i32_42
  let v87 : BitVec 1 := Scalar.andi v84 v86
  let v73 : BitVec 32 := Scalar.divsi arg1 c2_i32
  let c1_i32 : BitVec 32 := 1#32
  let v88 : BitVec 32 := Scalar.subi v73 c1_i32
  let v89 : BitVec 32 := Scalar.select v87 v88 v73
  let v90 : BitVec 32 := Scalar.subi v89 c0_i32_44
  let c1_i32_45 : BitVec 32 := 1#32
  let v92 : BitVec 32 := Scalar.divsi v90 c1_i32_45
  let v93 : BitVec 32 := Scalar.muli v92 c1_i32_45
  let v94 : BitVec 32 := Scalar.addi c0_i32_44 v93
  let c1_i32_47 : BitVec 32 := 1#32
  let arg15 : BitVec 32 := Scf.iv v94 c1_i32_47 k0_t2
  let v249 : BitVec 32 := Scalar.muli c2_i32_125 arg15
  let c1_i32_220 : BitVec 32 := 1#32
  let v416 : BitVec 32 := Scalar.addi v249 c1_i32_220
  let v417 : Index := Scalar.indexCast v416
  let c384_221 : Index := 384#32
  let c0_222 : Index := 0#32
  ![v417.toNat, 384, 0]
def k0_cond1 (i : grid0.Coords) : BitVec 1 :=
  let arg1 : BitVec 32 := BitVec.ofNat 32 (i 1).val
  let c2_i32_48 : BitVec 32 := 2#32
  let c0_i32_49 : BitVec 32 := 0#32
  let v95 : BitVec 1 := Scalar.cmpi .eq c2_i32_48 c0_i32_49
  let c1_i32_50 : BitVec 32 := 1#32
  let v96 : BitVec 32 := Scalar.select v95 c1_i32_50 c2_i32_48
  let v97 : BitVec 32 := Scalar.remsi arg1 v96
  let c0_i32_52 : BitVec 32 := 0#32
  let v99 : BitVec 1 := Scalar.cmpi .slt v97 c0_i32_52
  let c0_i32_53 : BitVec 32 := 0#32
  let v100 : BitVec 1 := Scalar.cmpi .slt v96 c0_i32_53
  let v101 : BitVec 1 := Scalar.xori v99 v100
  let c0_i32_51 : BitVec 32 := 0#32
  let v98 : BitVec 1 := Scalar.cmpi .ne v97 c0_i32_51
  let v102 : BitVec 1 := Scalar.andi v101 v98
  let v103 : BitVec 32 := Scalar.addi v97 v96
  let v104 : BitVec 32 := Scalar.select v102 v103 v97
  let c1_i32_54 : BitVec 32 := 1#32
  let v105 : BitVec 1 := Scalar.cmpi .eq v104 c1_i32_54
  let v106 : BitVec 32 := Scalar.extui v105
  let c0_i32_55 : BitVec 32 := 0#32
  let v107 : BitVec 1 := Scalar.cmpi .ne v106 c0_i32_55
  v107

def k0_mult3 (i : grid0.Coords) : BitVec 32 :=
  let arg1 : BitVec 32 := BitVec.ofNat 32 (i 1).val
  let c1_i32_125 : BitVec 32 := 1#32
  let v249 : BitVec 32 := Scalar.subi arg1 c1_i32_125
  let c256_i32_126 : BitVec 32 := 256#32
  let v250 : BitVec 32 := Scalar.muli v249 c256_i32_126
  v250
def k0_off25 (i : grid0.Coords) : Fin 2 → Nat :=
  let arg1 : BitVec 32 := BitVec.ofNat 32 (i 1).val
  let c1_i32_125 : BitVec 32 := 1#32
  let v249 : BitVec 32 := Scalar.subi arg1 c1_i32_125
  let c256_i32_126 : BitVec 32 := 256#32
  let v250 : BitVec 32 := Scalar.muli v249 c256_i32_126
  let v251 : BitVec 32 := v250
  let v252 : Index := Scalar.indexCast v251
  let c0_127 : Index := 0#32
  ![v252.toNat, 0]
def k0_off26 (i : grid0.Coords) : Fin 2 → Nat :=
  let arg1 : BitVec 32 := BitVec.ofNat 32 (i 1).val
  let c1_i32_125 : BitVec 32 := 1#32
  let v249 : BitVec 32 := Scalar.subi arg1 c1_i32_125
  let c256_i32_126 : BitVec 32 := 256#32
  let v250 : BitVec 32 := Scalar.muli v249 c256_i32_126
  let v251 : BitVec 32 := v250
  let v255 : Index := Scalar.indexCast v251
  let c128_129 : Index := 128#32
  ![v255.toNat, 128]
def k0_off27 (i : grid0.Coords) : Fin 2 → Nat :=
  let arg1 : BitVec 32 := BitVec.ofNat 32 (i 1).val
  let c1_i32_125 : BitVec 32 := 1#32
  let v249 : BitVec 32 := Scalar.subi arg1 c1_i32_125
  let c256_i32_126 : BitVec 32 := 256#32
  let v250 : BitVec 32 := Scalar.muli v249 c256_i32_126
  let v251 : BitVec 32 := v250
  let v258 : Index := Scalar.indexCast v251
  let c256_131 : Index := 256#32
  ![v258.toNat, 256]
def k0_off28 (i : grid0.Coords) : Fin 2 → Nat :=
  let arg1 : BitVec 32 := BitVec.ofNat 32 (i 1).val
  let c1_i32_125 : BitVec 32 := 1#32
  let v249 : BitVec 32 := Scalar.subi arg1 c1_i32_125
  let c256_i32_126 : BitVec 32 := 256#32
  let v250 : BitVec 32 := Scalar.muli v249 c256_i32_126
  let v251 : BitVec 32 := v250
  let v261 : Index := Scalar.indexCast v251
  let c384_133 : Index := 384#32
  ![v261.toNat, 384]
def k0_off29 (i : grid0.Coords) : Fin 3 → Nat :=
  let arg1 : BitVec 32 := BitVec.ofNat 32 (i 1).val
  let c1_i32_125 : BitVec 32 := 1#32
  let v249 : BitVec 32 := Scalar.subi arg1 c1_i32_125
  let v280 : Index := Scalar.indexCast v249
  let c0_140 : Index := 0#32
  let c0_141 : Index := 0#32
  ![v280.toNat, 0, 0]
def k0_off30 (i : grid0.Coords) : Fin 3 → Nat :=
  let arg1 : BitVec 32 := BitVec.ofNat 32 (i 1).val
  let c1_i32_125 : BitVec 32 := 1#32
  let v249 : BitVec 32 := Scalar.subi arg1 c1_i32_125
  let c1_i32_143 : BitVec 32 := 1#32
  let v286 : BitVec 32 := Scalar.addi v249 c1_i32_143
  let v287 : Index := Scalar.indexCast v286
  let c0_144 : Index := 0#32
  let c0_145 : Index := 0#32
  ![v287.toNat, 0, 0]
def k0_off31 (i : grid0.Coords) : Fin 3 → Nat :=
  let arg1 : BitVec 32 := BitVec.ofNat 32 (i 1).val
  let c1_i32_125 : BitVec 32 := 1#32
  let v249 : BitVec 32 := Scalar.subi arg1 c1_i32_125
  let v330 : Index := Scalar.indexCast v249
  let c128_167 : Index := 128#32
  let c0_168 : Index := 0#32
  ![v330.toNat, 128, 0]
def k0_off32 (i : grid0.Coords) : Fin 3 → Nat :=
  let arg1 : BitVec 32 := BitVec.ofNat 32 (i 1).val
  let c1_i32_125 : BitVec 32 := 1#32
  let v249 : BitVec 32 := Scalar.subi arg1 c1_i32_125
  let c1_i32_170 : BitVec 32 := 1#32
  let v336 : BitVec 32 := Scalar.addi v249 c1_i32_170
  let v337 : Index := Scalar.indexCast v336
  let c128_171 : Index := 128#32
  let c0_172 : Index := 0#32
  ![v337.toNat, 128, 0]
def k0_off33 (i : grid0.Coords) : Fin 3 → Nat :=
  let arg1 : BitVec 32 := BitVec.ofNat 32 (i 1).val
  let c1_i32_125 : BitVec 32 := 1#32
  let v249 : BitVec 32 := Scalar.subi arg1 c1_i32_125
  let v380 : Index := Scalar.indexCast v249
  let c256_194 : Index := 256#32
  let c0_195 : Index := 0#32
  ![v380.toNat, 256, 0]
def k0_off34 (i : grid0.Coords) : Fin 3 → Nat :=
  let arg1 : BitVec 32 := BitVec.ofNat 32 (i 1).val
  let c1_i32_125 : BitVec 32 := 1#32
  let v249 : BitVec 32 := Scalar.subi arg1 c1_i32_125
  let c1_i32_197 : BitVec 32 := 1#32
  let v386 : BitVec 32 := Scalar.addi v249 c1_i32_197
  let v387 : Index := Scalar.indexCast v386
  let c256_198 : Index := 256#32
  let c0_199 : Index := 0#32
  ![v387.toNat, 256, 0]
def k0_off35 (i : grid0.Coords) : Fin 3 → Nat :=
  let arg1 : BitVec 32 := BitVec.ofNat 32 (i 1).val
  let c1_i32_125 : BitVec 32 := 1#32
  let v249 : BitVec 32 := Scalar.subi arg1 c1_i32_125
  let v430 : Index := Scalar.indexCast v249
  let c384_221 : Index := 384#32
  let c0_222 : Index := 0#32
  ![v430.toNat, 384, 0]
def k0_off36 (i : grid0.Coords) : Fin 3 → Nat :=
  let arg1 : BitVec 32 := BitVec.ofNat 32 (i 1).val
  let c1_i32_125 : BitVec 32 := 1#32
  let v249 : BitVec 32 := Scalar.subi arg1 c1_i32_125
  let c1_i32_224 : BitVec 32 := 1#32
  let v436 : BitVec 32 := Scalar.addi v249 c1_i32_224
  let v437 : Index := Scalar.indexCast v436
  let c384_225 : Index := 384#32
  let c0_226 : Index := 0#32
  ![v437.toNat, 384, 0]
def k0_cond2 (i : grid0.Coords) : BitVec 1 :=
  let arg1 : BitVec 32 := BitVec.ofNat 32 (i 1).val
  let c2_i32_56 : BitVec 32 := 2#32
  let c0_i32_57 : BitVec 32 := 0#32
  let v108 : BitVec 1 := Scalar.cmpi .eq c2_i32_56 c0_i32_57
  let c1_i32_58 : BitVec 32 := 1#32
  let v109 : BitVec 32 := Scalar.select v108 c1_i32_58 c2_i32_56
  let v110 : BitVec 32 := Scalar.remsi arg1 v109
  let c0_i32_60 : BitVec 32 := 0#32
  let v112 : BitVec 1 := Scalar.cmpi .slt v110 c0_i32_60
  let c0_i32_61 : BitVec 32 := 0#32
  let v113 : BitVec 1 := Scalar.cmpi .slt v109 c0_i32_61
  let v114 : BitVec 1 := Scalar.xori v112 v113
  let c0_i32_59 : BitVec 32 := 0#32
  let v111 : BitVec 1 := Scalar.cmpi .ne v110 c0_i32_59
  let v115 : BitVec 1 := Scalar.andi v114 v111
  let v116 : BitVec 32 := Scalar.addi v110 v109
  let v117 : BitVec 32 := Scalar.select v115 v116 v110
  let c0_i32_62 : BitVec 32 := 0#32
  let v118 : BitVec 1 := Scalar.cmpi .eq v117 c0_i32_62
  let v119 : BitVec 32 := Scalar.extui v118
  let c0_i32_63 : BitVec 32 := 0#32
  let v120 : BitVec 1 := Scalar.cmpi .ne v119 c0_i32_63
  v120

def k0_mult4 (i : grid0.Coords) : BitVec 32 :=
  let arg1 : BitVec 32 := BitVec.ofNat 32 (i 1).val
  let c256_i32_125 : BitVec 32 := 256#32
  let v249 : BitVec 32 := Scalar.muli arg1 c256_i32_125
  v249
def k0_off37 (i : grid0.Coords) : Fin 2 → Nat :=
  let arg1 : BitVec 32 := BitVec.ofNat 32 (i 1).val
  let c256_i32_125 : BitVec 32 := 256#32
  let v249 : BitVec 32 := Scalar.muli arg1 c256_i32_125
  let v250 : BitVec 32 := v249
  let v251 : Index := Scalar.indexCast v250
  let c0_126 : Index := 0#32
  ![v251.toNat, 0]
def k0_off38 (i : grid0.Coords) : Fin 2 → Nat :=
  let arg1 : BitVec 32 := BitVec.ofNat 32 (i 1).val
  let c256_i32_125 : BitVec 32 := 256#32
  let v249 : BitVec 32 := Scalar.muli arg1 c256_i32_125
  let v250 : BitVec 32 := v249
  let v254 : Index := Scalar.indexCast v250
  let c128_128 : Index := 128#32
  ![v254.toNat, 128]
def k0_off39 (i : grid0.Coords) : Fin 2 → Nat :=
  let arg1 : BitVec 32 := BitVec.ofNat 32 (i 1).val
  let c256_i32_125 : BitVec 32 := 256#32
  let v249 : BitVec 32 := Scalar.muli arg1 c256_i32_125
  let v250 : BitVec 32 := v249
  let v257 : Index := Scalar.indexCast v250
  let c256_130 : Index := 256#32
  ![v257.toNat, 256]
def k0_off40 (i : grid0.Coords) : Fin 2 → Nat :=
  let arg1 : BitVec 32 := BitVec.ofNat 32 (i 1).val
  let c256_i32_125 : BitVec 32 := 256#32
  let v249 : BitVec 32 := Scalar.muli arg1 c256_i32_125
  let v250 : BitVec 32 := v249
  let v260 : Index := Scalar.indexCast v250
  let c384_132 : Index := 384#32
  ![v260.toNat, 384]
def k0_off41 (i : grid0.Coords) : Fin 3 → Nat :=
  let arg1 : BitVec 32 := BitVec.ofNat 32 (i 1).val
  let v276 : Index := Scalar.indexCast arg1
  let c0_139 : Index := 0#32
  let c0_140 : Index := 0#32
  ![v276.toNat, 0, 0]
def k0_off42 (i : grid0.Coords) : Fin 3 → Nat :=
  let arg1 : BitVec 32 := BitVec.ofNat 32 (i 1).val
  let v314 : Index := Scalar.indexCast arg1
  let c128_162 : Index := 128#32
  let c0_163 : Index := 0#32
  ![v314.toNat, 128, 0]
def k0_off43 (i : grid0.Coords) : Fin 3 → Nat :=
  let arg1 : BitVec 32 := BitVec.ofNat 32 (i 1).val
  let v352 : Index := Scalar.indexCast arg1
  let c256_185 : Index := 256#32
  let c0_186 : Index := 0#32
  ![v352.toNat, 256, 0]
def k0_off44 (i : grid0.Coords) : Fin 3 → Nat :=
  let arg1 : BitVec 32 := BitVec.ofNat 32 (i 1).val
  let v390 : Index := Scalar.indexCast arg1
  let c384_208 : Index := 384#32
  let c0_209 : Index := 0#32
  ![v390.toNat, 384, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== DiffRefIdeal.lean ====
abbrev S1x64 : Shape := ⟨2, ![1, 64]⟩
abbrev S16384x512 : Shape := ⟨2, ![16384, 512]⟩
abbrev S64x512x256 : Shape := ⟨3, ![64, 512, 256]⟩
abbrev S16384x2048 : Shape := ⟨2, ![16384, 2048]⟩
abbrev S1x128 : Shape := ⟨2, ![1, 128]⟩
abbrev S_ : Shape := ⟨0, ![]⟩
abbrev S8x2048x4x2x64 : Shape := ⟨5, ![8, 2048, 4, 2, 64]⟩
abbrev S64x256x512 : Shape := ⟨3, ![64, 256, 512]⟩
abbrev S8x2048x4x128 : Shape := ⟨4, ![8, 2048, 4, 128]⟩
abbrev S8x4x2x2048x2048 : Shape := ⟨5, ![8, 4, 2, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x4x2x2048 : Shape := ⟨4, ![8, 4, 2, 2048]⟩
abbrev S8x4x2x2048x1 : Shape := ⟨5, ![8, 4, 2, 2048, 1]⟩
abbrev S8x4x1x2048x2048 : Shape := ⟨5, ![8, 4, 1, 2048, 2048]⟩
abbrev S8x4x2048x2048 : Shape := ⟨4, ![8, 4, 2048, 2048]⟩
abbrev S8x4x128x2048 : Shape := ⟨4, ![8, 4, 128, 2048]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩

abbrev nBuf : Space → Nat
  | .hbm => 86
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S16384x512, .bf16⟩
  | .hbm, ⟨5, _⟩ => ⟨S16384x512, .bf16⟩
  | .hbm, ⟨6, _⟩ => ⟨S64x512x256, .bf16⟩
  | .hbm, ⟨7, _⟩ => ⟨S16384x2048, .bf16⟩
  | .hbm, ⟨8, _⟩ => ⟨S1x128, .f32⟩
  | .hbm, ⟨9, _⟩ => ⟨S1x64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16384x512, .f32⟩
  | .hbm, ⟨21, _⟩ => ⟨S8x2048x4x2x64, .f32⟩
  | .hbm, ⟨22, _⟩ => ⟨S16384x512, .f32⟩
  | .hbm, ⟨23, _⟩ => ⟨S8x2048x4x2x64, .f32⟩
  | .hbm, ⟨24, _⟩ => ⟨S64x512x256, .f32⟩
  | .hbm, ⟨25, _⟩ => ⟨S64x256x512, .f32⟩
  | .hbm, ⟨26, _⟩ => ⟨S8x2048x4x128, .f32⟩
  | .hbm, ⟨27, _⟩ => ⟨S8x4x2x2048x2048, .f32⟩
  | .hbm, ⟨28, _⟩ => ⟨S2048, .i32⟩
  | .hbm, ⟨29, _⟩ => ⟨S1x2048, .i32⟩
  | .hbm, ⟨30, _⟩ => ⟨S2048x1, .i32⟩
  | .hbm, ⟨31, _⟩ => ⟨S2048x2048, .i32⟩
  | .hbm, ⟨32, _⟩ => ⟨S2048x2048, .i32⟩
  | .hbm, ⟨33, _⟩ => ⟨S2048x2048, .i1⟩
  | .hbm, ⟨34, _⟩ => ⟨S_, .f32⟩
  | .hbm, ⟨35, _⟩ => ⟨S_, .f32⟩
  | .hbm, ⟨36, _⟩ => ⟨S8x4x2x2048x2048, .i1⟩
  | .hbm, ⟨37, _⟩ => ⟨S8x4x2x2048x2048, .f32⟩
  | .hbm, ⟨38, _⟩ => ⟨S8x4x2x2048x2048, .f32⟩
  | .hbm, ⟨39, _⟩ => ⟨S_, .f32⟩
  | .hbm, ⟨40, _⟩ => ⟨S8x4x2x2048, .f32⟩
  | .hbm, ⟨41, _⟩ => ⟨S_, .f32⟩
  | .hbm, ⟨42, _⟩ => ⟨S8x4x2x2048, .f32⟩
  | .hbm, ⟨43, _⟩ => ⟨S8x4x2x2048, .f32⟩
  | .hbm, ⟨44, _⟩ => ⟨S8x4x2x2048x1, .f32⟩
  | .hbm, ⟨45, _⟩ => ⟨S8x4x2x2048x2048, .f32⟩
  | .hbm, ⟨46, _⟩ => ⟨S8x4x2x2048x2048, .f32⟩
  | .hbm, ⟨47, _⟩ => ⟨S8x4x2x2048x2048, .f32⟩
  | .hbm, ⟨48, _⟩ => ⟨S_, .f32⟩
  | .hbm, ⟨49, _⟩ => ⟨S8x4x2x2048, .f32⟩
  | .hbm, ⟨50, _⟩ => ⟨S8x4x2x2048x1, .f32⟩
  | .hbm, ⟨51, _⟩ => ⟨S8x4x2x2048x2048, .f32⟩
  | .hbm, ⟨52, _⟩ => ⟨S8x4x2x2048x2048, .f32⟩
  | .hbm, ⟨53, _⟩ => ⟨S8x4x1x2048x2048, .f32⟩
  | .hbm, ⟨54, _⟩ => ⟨S8x4x2048x2048, .f32⟩
  | .hbm, ⟨55, _⟩ => ⟨S8x4x1x2048x2048, .f32⟩
  | .hbm, ⟨56, _⟩ => ⟨S8x4x2048x2048, .f32⟩
  | .hbm, ⟨57, _⟩ => ⟨S8x4x2048x2048, .f32⟩
  | .hbm, ⟨58, _⟩ => ⟨S8x4x2048x2048, .f32⟩
  | .hbm, ⟨59, _⟩ => ⟨S8x4x2048x2048, .f32⟩
  | .hbm, ⟨60, _⟩ => ⟨S8x4x128x2048, .f32⟩
  | .hbm, ⟨61, _⟩ => ⟨S8x2048x4x128, .f32⟩
  | .hbm, ⟨62, _⟩ => ⟨S8x2048x4x128, .f32⟩
  | .hbm, ⟨63, _⟩ => ⟨S_, .f32⟩
  | .hbm, ⟨64, _⟩ => ⟨S8x2048x4, .f32⟩
  | .hbm, ⟨65, _⟩ => ⟨S8x2048x4x1, .f32⟩
  | .hbm, ⟨66, _⟩ => ⟨S_, .f32⟩
  | .hbm, ⟨67, _⟩ => ⟨S8x2048x4x1, .f32⟩
  | .hbm, ⟨68, _⟩ => ⟨S8x2048x4x1, .f32⟩
  | .hbm, ⟨69, _⟩ => ⟨S_, .f32⟩
  | .hbm, ⟨70, _⟩ => ⟨S8x2048x4x1, .f32⟩
  | .hbm, ⟨71, _⟩ => ⟨S8x2048x4x1, .f32⟩
  | .hbm, ⟨72, _⟩ => ⟨S8x2048x4x1, .f32⟩
  | .hbm, ⟨73, _⟩ => ⟨S8x2048x4x128, .f32⟩
  | .hbm, ⟨74, _⟩ => ⟨S8x2048x4x128, .f32⟩
  | .hbm, ⟨75, _⟩ => ⟨S1x1x1x128, .f32⟩
  | .hbm, ⟨76, _⟩ => ⟨S8x2048x4x128, .f32⟩
  | .hbm, ⟨77, _⟩ => ⟨S8x2048x4x128, .f32⟩
  | .hbm, ⟨78, _⟩ => ⟨S_, .f32⟩
  | .hbm, ⟨79, _⟩ => ⟨S8x2048x4x128, .f32⟩
  | .hbm, ⟨80, _⟩ => ⟨S8x2048x4x128, .f32⟩
  | .hbm, ⟨81, _⟩ => ⟨S16384x512, .f32⟩
  | .hbm, ⟨82, _⟩ => ⟨S16384x512, .bf16⟩
  | .hbm, ⟨83, _⟩ => ⟨S16384x512, .f32⟩
  | .hbm, ⟨84, _⟩ => ⟨S16384x512, .f32⟩
  | .hbm, ⟨85, _⟩ => ⟨S16384x512, .bf16⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== Merge.lean ====
abbrev S8x2048x1024 : Shape := ⟨3, ![8, 2048, 1024]⟩
abbrev S16384x1024 : Shape := ⟨2, ![16384, 1024]⟩
abbrev S16384x512 : Shape := ⟨2, ![16384, 512]⟩
abbrev S1x2048x1024 : Shape := ⟨3, ![1, 2048, 1024]⟩
abbrev S1x1024 : Shape := ⟨2, ![1, 1024]⟩
abbrev S2048x1024 : Shape := ⟨2, ![2048, 1024]⟩
abbrev S1024x1024 : Shape := ⟨2, ![1024, 1024]⟩
abbrev S1024x512 : Shape := ⟨2, ![1024, 512]⟩
abbrev S256x1024 : Shape := ⟨2, ![256, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S16384x1024, .bf16⟩
  | .hbm, ⟨2, _⟩ => ⟨S16384x512, .bf16⟩
  | .hbm, ⟨3, _⟩ => ⟨S16384x512, .bf16⟩
  | .hbm, ⟨4, _⟩ => ⟨S1x2048x1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S2048x1024, .f32⟩
  | .hbm, ⟨9, _⟩ => ⟨S2048x1024, .bf16⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S2048x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeRefIdeal.lean ====
abbrev S8x2048x1024 : Shape := ⟨3, ![8, 2048, 1024]⟩
abbrev S16384x1024 : Shape := ⟨2, ![16384, 1024]⟩
abbrev S16384x512 : Shape := ⟨2, ![16384, 512]⟩
abbrev S1x2048x1024 : Shape := ⟨3, ![1, 2048, 1024]⟩
abbrev S1x1024 : Shape := ⟨2, ![1, 1024]⟩
abbrev S16384x2048 : Shape := ⟨2, ![16384, 2048]⟩
abbrev S_ : Shape := ⟨0, ![]⟩
abbrev S2048x1024 : Shape := ⟨2, ![2048, 1024]⟩
abbrev S16384 : Shape := ⟨1, ![16384]⟩
abbrev S16384x1 : Shape := ⟨2, ![16384, 1]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16384x1024, .bf16⟩
  | .hbm, ⟨2, _⟩ => ⟨S16384x512, .bf16⟩
  | .hbm, ⟨3, _⟩ => ⟨S16384x512, .bf16⟩
  | .hbm, ⟨4, _⟩ => ⟨S1x2048x1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x512, .f32⟩
  | .hbm, ⟨9, _⟩ => ⟨S16384x512, .f32⟩
  | .hbm, ⟨10, _⟩ => ⟨S16384x2048, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S2048x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== InProj.lean ====
abbrev S8x2048x1024 : Shape := ⟨3, ![8, 2048, 1024]⟩
abbrev S1x1024x8200 : Shape := ⟨3, ![1, 1024, 8200]⟩
abbrev S1x8 : Shape := ⟨2, ![1, 8]⟩
abbrev S1024x8200 : Shape := ⟨2, ![1024, 8200]⟩
abbrev S8 : Shape := ⟨1, ![8]⟩
abbrev S1024x1024 : Shape := ⟨2, ![1024, 1024]⟩
abbrev S1024x2048 : Shape := ⟨2, ![1024, 2048]⟩
abbrev S1024x8 : Shape := ⟨2, ![1024, 8]⟩
abbrev S_ : Shape := ⟨0, ![]⟩
abbrev S1024x128 : Shape := ⟨2, ![1024, 128]⟩
abbrev S8x1024 : Shape := ⟨2, ![8, 1024]⟩
abbrev S128 : Shape := ⟨1, ![128]⟩
abbrev S1x128 : Shape := ⟨2, ![1, 128]⟩
abbrev S8x1 : Shape := ⟨2, ![8, 1]⟩
abbrev S8x128 : Shape := ⟨2, ![8, 128]⟩
abbrev S2048 : Shape := ⟨1, ![2048]⟩
abbrev S2048x1 : Shape := ⟨2, ![2048, 1]⟩
abbrev S2048x128 : Shape := ⟨2, ![2048, 128]⟩
abbrev S16384x1024 : Shape := ⟨2, ![16384, 1024]⟩
abbrev S64x1024x256 : Shape := ⟨3, ![64, 1024, 256]⟩
abbrev S16384x128 : Shape := ⟨2, ![16384, 128]⟩
abbrev S8x16384 : Shape := ⟨2, ![8, 16384]⟩
abbrev S16384x512 : Shape := ⟨2, ![16384, 512]⟩
abbrev S65536x128 : Shape := ⟨2, ![65536, 128]⟩
abbrev S64x512x256 : Shape := ⟨3, ![64, 512, 256]⟩
abbrev S16384x2048 : Shape := ⟨2, ![16384, 2048]⟩
abbrev S256x1024 : Shape := ⟨2, ![256, 1024]⟩
abbrev S256x128 : Shape := ⟨2, ![256, 128]⟩
abbrev S1x1024x256 : Shape := ⟨3, ![1, 1024, 256]⟩
abbrev S8x256 : Shape := ⟨2, ![8, 256]⟩
abbrev S256x512 : Shape := ⟨2, ![256, 512]⟩
abbrev S1x512x256 : Shape := ⟨3, ![1, 512, 256]⟩
abbrev S256x2048 : Shape := ⟨2, ![256, 2048]⟩
abbrev S1024x256 : Shape := ⟨2, ![1024, 256]⟩
abbrev S1024x512 : Shape := ⟨2, ![1024, 512]⟩
abbrev S512x256 : Shape := ⟨2, ![512, 256]⟩

abbrev nBuf : Space → Nat
  | .hbm => 114
  | .vmem => 39
  | .smem => 0
  | _ => 0

abbrev bufTy : (tb : Table) → Fin (tcTables nBuf tb) → BufTy
  | .hbm, ⟨0, _⟩ => ⟨S8x2048x1024, .f32⟩
  | .hbm, ⟨1, _⟩ => ⟨S1x1024x8200, .f32⟩
  | .hbm, ⟨2, _⟩ => ⟨S1x8, .f32⟩
  | .hbm, ⟨3, _⟩ => ⟨S1024x8200, .f32⟩
  | .hbm, ⟨4, _⟩ => ⟨S8, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .f32⟩
  | .hbm, ⟨13, _⟩ => ⟨S1024x2048, .f32⟩
  | .hbm, ⟨14, _⟩ => ⟨S1024x2048, .bf16⟩
  | .hbm, ⟨15, _⟩ => ⟨S1024x8, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x128, .bf16⟩
  | .hbm, ⟨20, _⟩ => ⟨S8x1024, .f32⟩
  | .hbm, ⟨21, _⟩ => ⟨S8x1024, .bf16⟩
  | .hbm, ⟨22, _⟩ => ⟨S1024x2048, .f32⟩
  | .hbm, ⟨23, _⟩ => ⟨S1024x2048, .bf16⟩
  | .hbm, ⟨24, _⟩ => ⟨S1024x2048, .f32⟩
  | .hbm, ⟨25, _⟩ => ⟨S1024x2048, .bf16⟩
  | .hbm, ⟨26, _⟩ => ⟨S_, .i32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S8x1, .f32⟩
  | .hbm, ⟨31, _⟩ => ⟨S8x128, .f32⟩
  | .hbm, ⟨32, _⟩ => ⟨S2048, .i32⟩
  | .hbm, ⟨33, _⟩ => ⟨S128, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S128, .i32⟩
  | .hbm, ⟨41, _⟩ => ⟨S128, .i32⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S_, .i32⟩
  | .hbm, ⟨46, _⟩ => ⟨S128, .i32⟩
  | .hbm, ⟨47, _⟩ => ⟨S128, .i1⟩
  | .hbm, ⟨48, _⟩ => ⟨S_, .i32⟩
  | .hbm, ⟨49, _⟩ => ⟨S_, .i1⟩
  | .hbm, ⟨50, _⟩ => ⟨S128, .i1⟩
  | .hbm, ⟨51, _⟩ => ⟨S128, .i1⟩
  | .hbm, ⟨52, _⟩ => ⟨S128, .i1⟩
  | .hbm, ⟨53, _⟩ => ⟨S128, .i32⟩
  | .hbm, ⟨54, _⟩ => ⟨S128, .i32⟩
  | .hbm, ⟨55, _⟩ => ⟨S128, .i32⟩
  | .hbm, ⟨56, _⟩ => ⟨S128, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S2048, .f32⟩
  | .hbm, ⟨65, _⟩ => ⟨S2048x1, .f32⟩
  | .hbm, ⟨66, _⟩ => ⟨S1x128, .f32⟩
  | .hbm, ⟨67, _⟩ => ⟨S2048x128, .f32⟩
  | .hbm, ⟨68, _⟩ => ⟨S2048x128, .f32⟩
  | .hbm, ⟨69, _⟩ => ⟨S2048x128, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i1⟩
  | .hbm, ⟨74, _⟩ => ⟨S_, .i32⟩
  | .hbm, ⟨75, _⟩ => ⟨S_, .i32⟩
  | .hbm, ⟨76, _⟩ => ⟨S128, .i32⟩
  | .hbm, ⟨77, _⟩ => ⟨S128, .i32⟩
  | .hbm, ⟨78, _⟩ => ⟨S_, .i32⟩
  | .hbm, ⟨79, _⟩ => ⟨S128, .i32⟩
  | .hbm, ⟨80, _⟩ => ⟨S128, .i1⟩
  | .hbm, ⟨81, _⟩ => ⟨S_, .i32⟩
  | .hbm, ⟨82, _⟩ => ⟨S128, .i32⟩
  | .hbm, ⟨83, _⟩ => ⟨S128, .i1⟩
  | .hbm, ⟨84, _⟩ => ⟨S_, .i32⟩
  | .hbm, ⟨85, _⟩ => ⟨S_, .i1⟩
  | .hbm, ⟨86, _⟩ => ⟨S128, .i1⟩
  | .hbm, ⟨87, _⟩ => ⟨S128, .i1⟩
  | .hbm, ⟨88, _⟩ => ⟨S128, .i1⟩
  | .hbm, ⟨89, _⟩ => ⟨S128, .i32⟩
  | .hbm, ⟨90, _⟩ => ⟨S128, .i32⟩
  | .hbm, ⟨91, _⟩ => ⟨S128, .i32⟩
  | .hbm, ⟨92, _⟩ => ⟨S_, .i32⟩
  | .hbm, ⟨93, _⟩ => ⟨S128, .i32⟩
  | .hbm, ⟨94, _⟩ => ⟨S128, .i1⟩
  | .hbm, ⟨95, _⟩ => ⟨S2048x128, .f32⟩
  | .hbm, ⟨96, _⟩ => ⟨S2048x128, .f32⟩
  | .hbm, ⟨97, _⟩ => ⟨S2048x128, .f32⟩
  | .hbm, ⟨98, _⟩ => ⟨S2048x128, .i1⟩
  | .hbm, ⟨99, _⟩ => ⟨S2048x128, .f32⟩
  | .hbm, ⟨100, _⟩ => ⟨S2048x128, .f32⟩
  | .hbm, ⟨101, _⟩ => ⟨S16384x1024, .f32⟩
  | .hbm, ⟨102, _⟩ => ⟨S64x1024x256, .bf16⟩
  | .hbm, ⟨103, _⟩ => ⟨S16384x1024, .bf16⟩
  | .hbm, ⟨104, _⟩ => ⟨S64x1024x256, .bf16⟩
  | .hbm, ⟨105, _⟩ => ⟨S16384x128, .f32⟩
  | .hbm, ⟨106, _⟩ => ⟨S8x16384, .f32⟩
  | .hbm, ⟨107, _⟩ => ⟨S16384x512, .bf16⟩
  | .hbm, ⟨108, _⟩ => ⟨S65536x128, .f32⟩
  | .hbm, ⟨109, _⟩ => ⟨S16384x512, .bf16⟩
  | .hbm, ⟨110, _⟩ => ⟨S65536x128, .f32⟩
  | .hbm, ⟨111, _⟩ => ⟨S64x512x256, .bf16⟩
  | .hbm, ⟨112, _⟩ => ⟨S16384x512, .bf16⟩
  | .hbm, ⟨113, _⟩ => ⟨S16384x2048, .bf16⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x2048, .bf16⟩
  | .local _ .vmem, ⟨5, _⟩ => ⟨S1024x128, .bf16⟩
  | .local _ .vmem, ⟨6, _⟩ => ⟨S8x1024, .bf16⟩
  | .local _ .vmem, ⟨7, _⟩ => ⟨S1024x2048, .bf16⟩
  | .local _ .vmem, ⟨8, _⟩ => ⟨S1024x2048, .bf16⟩
  | .local _ .vmem, ⟨9, _⟩ => ⟨S1x128, .f32⟩
  | .local _ .vmem, ⟨10, _⟩ => ⟨S8x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S1x1024x256, .bf16⟩
  | .local _ .vmem, ⟨16, _⟩ => ⟨S1x1024x256, .bf16⟩
  | .local _ .vmem, ⟨17, _⟩ => ⟨S256x1024, .bf16⟩
  | .local _ .vmem, ⟨18, _⟩ => ⟨S256x1024, .bf16⟩
  | .local _ .vmem, ⟨19, _⟩ => ⟨S1x1024x256, .bf16⟩
  | .local _ .vmem, ⟨20, _⟩ => ⟨S1x1024x256, .bf16⟩
  | .local _ .vmem, ⟨21, _⟩ => ⟨S256x128, .f32⟩
  | .local _ .vmem, ⟨22, _⟩ => ⟨S256x128, .f32⟩
  | .local _ .vmem, ⟨23, _⟩ => ⟨S8x256, .f32⟩
  | .local _ .vmem, ⟨24, _⟩ => ⟨S8x256, .f32⟩
  | .local _ .vmem, ⟨25, _⟩ => ⟨S256x512, .bf16⟩
  | .local _ .vmem, ⟨26, _⟩ => ⟨S256x512, .bf16⟩
  | .local _ .vmem, ⟨27, _⟩ => ⟨S1024x128, .f32⟩
  | .local _ .vmem, ⟨28, _⟩ => ⟨S1024x128, .f32⟩
  | .local _ .vmem, ⟨29, _⟩ => ⟨S256x512, .bf16⟩
  | .local _ .vmem, ⟨30, _⟩ => ⟨S256x512, .bf16⟩
  | .local _ .vmem, ⟨31, _⟩ => ⟨S1024x128, .f32⟩
  | .local _ .vmem, ⟨32, _⟩ => ⟨S1024x128, .f32⟩
  | .local _ .vmem, ⟨33, _⟩ => ⟨S1x512x256, .bf16⟩
  | .local _ .vmem, ⟨34, _⟩ => ⟨S1x512x256, .bf16⟩
  | .local _ .vmem, ⟨35, _⟩ => ⟨S256x512, .bf16⟩
  | .local _ .vmem, ⟨36, _⟩ => ⟨S256x512, .bf16⟩
  | .local _ .vmem, ⟨37, _⟩ => ⟨S256x2048, .bf16⟩
  | .local _ .vmem, ⟨38, _⟩ => ⟨S256x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_call0_v0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_call1_v0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_1 : Ref sig .tc := ⟨.hbm, 34, rfl⟩
abbrev main_call2_v0 : Ref sig .tc := ⟨.hbm, 35, rfl⟩
abbrev main_call2_c : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_c_1 : Ref sig .tc := ⟨.hbm, 42, rfl⟩
abbrev main_call2_v5 : Ref sig .tc := ⟨.hbm, 43, rfl⟩
abbrev main_call2_v6 : Ref sig .tc := ⟨.hbm, 44, rfl⟩
abbrev main_call2_c_2 : Ref sig .tc := ⟨.hbm, 45, rfl⟩
abbrev main_call2_v7 : Ref sig .tc := ⟨.hbm, 46, rfl⟩
abbrev main_call2_v8 : Ref sig .tc := ⟨.hbm, 47, rfl⟩
abbrev main_call2_c_3 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_v12 : Ref sig .tc := ⟨.hbm, 52, rfl⟩
abbrev main_call2_v13 : Ref sig .tc := ⟨.hbm, 53, rfl⟩
abbrev main_call2_v14 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst : Ref sig .tc := ⟨.hbm, 58, rfl⟩
abbrev main_v30 : Ref sig .tc := ⟨.hbm, 59, rfl⟩
abbrev main_v31 : Ref sig .tc := ⟨.hbm, 60, rfl⟩
abbrev main_cst_2 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_c_3 : Ref sig .tc := ⟨.hbm, 70, rfl⟩
abbrev main_call3_v0 : Ref sig .tc := ⟨.hbm, 71, rfl⟩
abbrev main_call3_c : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_c_1 : Ref sig .tc := ⟨.hbm, 78, rfl⟩
abbrev main_call3_v5 : Ref sig .tc := ⟨.hbm, 79, rfl⟩
abbrev main_call3_v6 : Ref sig .tc := ⟨.hbm, 80, rfl⟩
abbrev main_call3_c_2 : Ref sig .tc := ⟨.hbm, 81, rfl⟩
abbrev main_call3_v7 : Ref sig .tc := ⟨.hbm, 82, rfl⟩
abbrev main_call3_v8 : Ref sig .tc := ⟨.hbm, 83, rfl⟩
abbrev main_call3_c_3 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_v12 : Ref sig .tc := ⟨.hbm, 88, rfl⟩
abbrev main_call3_v13 : Ref sig .tc := ⟨.hbm, 89, rfl⟩
abbrev main_call3_v14 : Ref sig .tc := ⟨.hbm, 90, rfl⟩
abbrev main_v40 : Ref sig .tc := ⟨.hbm, 91, rfl⟩
abbrev main_c_4 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_call4_v0 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49_0 : Ref sig .tc := ⟨.hbm, 102, rfl⟩
abbrev main_v49_1 : Ref sig .tc := ⟨.hbm, 103, rfl⟩
abbrev main_v49_2 : Ref sig .tc := ⟨.hbm, 104, rfl⟩
abbrev main_v49_3 : Ref sig .tc := ⟨.hbm, 105, rfl⟩
abbrev main_v49_4 : Ref sig .tc := ⟨.hbm, 106, rfl⟩
abbrev main_v49_5 : Ref sig .tc := ⟨.hbm, 107, rfl⟩
abbrev main_v49_6 : Ref sig .tc := ⟨.hbm, 108, rfl⟩
abbrev main_v49_7 : Ref sig .tc := ⟨.hbm, 109, rfl⟩
abbrev main_v49_8 : Ref sig .tc := ⟨.hbm, 110, rfl⟩
abbrev main_v49_9 : Ref sig .tc := ⟨.hbm, 111, rfl⟩
abbrev main_v49_10 : Ref sig .tc := ⟨.hbm, 112, rfl⟩
abbrev main_v49_11 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x512x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x2048 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== InProjRefIdeal.lean ====
abbrev S8x2048x1024 : Shape := ⟨3, ![8, 2048, 1024]⟩
abbrev S1x1024x8200 : Shape := ⟨3, ![1, 1024, 8200]⟩
abbrev S1x8 : Shape := ⟨2, ![1, 8]⟩
abbrev S1024x8200 : Shape := ⟨2, ![1024, 8200]⟩
abbrev S8x2048x8200 : Shape := ⟨3, ![8, 2048, 8200]⟩
abbrev S8x2048x4 : Shape := ⟨3, ![8, 2048, 4]⟩
abbrev S8x2048x512 : Shape := ⟨3, ![8, 2048, 512]⟩
abbrev S8x2048x2048 : Shape := ⟨3, ![8, 2048, 2048]⟩
abbrev S2048 : Shape := ⟨1, ![2048]⟩
abbrev S1x4 : Shape := ⟨2, ![1, 4]⟩
abbrev S4 : Shape := ⟨1, ![4]⟩
abbrev S1x1x4 : Shape := ⟨3, ![1, 1, 4]⟩
abbrev S8x2048x8 : Shape := ⟨3, ![8, 2048, 8]⟩
abbrev S16384x8 : Shape := ⟨2, ![16384, 8]⟩
abbrev S_ : Shape := ⟨0, ![]⟩
abbrev S8x2048x8x64 : Shape := ⟨4, ![8, 2048, 8, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S8x2048x8x32 : Shape := ⟨4, ![8, 2048, 8, 32]⟩
abbrev S1x2048x1x32 : Shape := ⟨4, ![1, 2048, 1, 32]⟩
abbrev S64x256x1024 : Shape := ⟨3, ![64, 256, 1024]⟩
abbrev S64x1024x256 : Shape := ⟨3, ![64, 1024, 256]⟩
abbrev S16384x1024 : Shape := ⟨2, ![16384, 1024]⟩
abbrev S16384x128 : Shape := ⟨2, ![16384, 128]⟩
abbrev S8x16384 : Shape := ⟨2, ![8, 16384]⟩
abbrev S16384x512 : Shape := ⟨2, ![16384, 512]⟩
abbrev S65536x128 : Shape := ⟨2, ![65536, 128]⟩
abbrev S64x256x512 : Shape := ⟨3, ![64, 256, 512]⟩
abbrev S64x512x256 : Shape := ⟨3, ![64, 512, 256]⟩
abbrev S16384x2048 : Shape := ⟨2, ![16384, 2048]⟩

abbrev nBuf : Space → Nat
  | .hbm => 153
  | .vmem => 0
  | .smem => 0
  | _ => 0

abbrev hbmTy0_0 (i : Nat) : BufTy := match i % 128 with
  | 0 => ⟨S8x2048x1024, .f32⟩
  | 1 => ⟨S1x1024x8200, .f32⟩
  | 2 => ⟨S1x8, .f32⟩
  | 3 => ⟨S1024x8200, .f32⟩
  | 4 => ⟨S8x2048x8200, .f32⟩
  | 5 => ⟨S8x2048x1024, .f32⟩
  | 6 => ⟨S8x2048x1024, .f32⟩
  | 7 => ⟨S8x2048x1024, .f32⟩
  | 8 => ⟨S8x2048x1024, .f32⟩
  | 9 => ⟨S8x2048x4, .f32⟩
  | 10 => ⟨S8x2048x4, .f32⟩
  | 11 => ⟨S8x2048x512, .f32⟩
  | 12 => ⟨S8x2048x512, .f32⟩
  | 13 => ⟨S8x2048x512, .f32⟩
  | 14 => ⟨S8x2048x512, .f32⟩
  | 15 => ⟨S8x2048x2048, .f32⟩
  | 16 => ⟨S2048, .i32⟩
  | 17 => ⟨S1x4, .f32⟩
  | 18 => ⟨S4, .f32⟩
  | 19 => ⟨S1x1x4, .f32⟩
  | 20 => ⟨S8x2048x4, .f32⟩
  | 21 => ⟨S8x2048x4, .f32⟩
  | 22 => ⟨S1x4, .f32⟩
  | 23 => ⟨S4, .f32⟩
  | 24 => ⟨S1x1x4, .f32⟩
  | 25 => ⟨S8x2048x4, .f32⟩
  | 26 => ⟨S8x2048x4, .f32⟩
  | 27 => ⟨S8x2048x8, .f32⟩
  | 28 => ⟨S16384x8, .f32⟩
  | 29 => ⟨S8x2048x2048, .f32⟩
  | 30 => ⟨S8x2048x2048, .f32⟩
  | 31 => ⟨S_, .f32⟩
  | 32 => ⟨S8x2048x2048, .f32⟩
  | 33 => ⟨S8x2048x2048, .f32⟩
  | 34 => ⟨S_, .f32⟩
  | 35 => ⟨S8x2048x2048, .f32⟩
  | 36 => ⟨S8x2048x2048, .f32⟩
  | 37 => ⟨S8x2048x2048, .f32⟩
  | 38 => ⟨S8x2048x1024, .f32⟩
  | 39 => ⟨S8x2048x1024, .f32⟩
  | 40 => ⟨S_, .f32⟩
  | 41 => ⟨S8x2048x1024, .f32⟩
  | 42 => ⟨S8x2048x1024, .f32⟩
  | 43 => ⟨S_, .f32⟩
  | 44 => ⟨S8x2048x1024, .f32⟩
  | 45 => ⟨S8x2048x1024, .f32⟩
  | 46 => ⟨S8x2048x1024, .f32⟩
  | 47 => ⟨S8x2048x1024, .f32⟩
  | 48 => ⟨S8x2048x1024, .f32⟩
  | 49 => ⟨S8x2048x2048, .f32⟩
  | 50 => ⟨S8x2048x8x64, .f32⟩
  | 51 => ⟨S32, .f32⟩
  | 52 => ⟨S32, .f32⟩
  | 53 => ⟨S_, .f32⟩
  | 54 => ⟨S32, .f32⟩
  | 55 => ⟨S32, .f32⟩
  | 56 => ⟨S_, .f32⟩
  | 57 => ⟨S32, .f32⟩
  | 58 => ⟨S32, .f32⟩
  | 59 => ⟨S2048, .f32⟩
  | 60 => ⟨S2048x1, .f32⟩
  | 61 => ⟨S1x32, .f32⟩
  | 62 => ⟨S2048x32, .f32⟩
  | 63 => ⟨S2048x32, .f32⟩
  | 64 => ⟨S2048x32, .f32⟩
  | 65 => ⟨S2048x32, .f32⟩
  | 66 => ⟨S2048x1x32, .f32⟩
  | 67 => ⟨S2048x32, .f32⟩
  | 68 => ⟨S2048x1x32, .f32⟩
  | 69 => ⟨S8x2048x8x32, .f32⟩
  | 70 => ⟨S8x2048x8x32, .f32⟩
  | 71 => ⟨S1x2048x1x32, .f32⟩
  | 72 => ⟨S8x2048x8x32, .f32⟩
  | 73 => ⟨S8x2048x8x32, .f32⟩
  | 74 => ⟨S1x2048x1x32, .f32⟩
  | 75 => ⟨S8x2048x8x32, .f32⟩
  | 76 => ⟨S8x2048x8x32, .f32⟩
  | 77 => ⟨S8x2048x8x32, .f32⟩
  | 78 => ⟨S1x2048x1x32, .f32⟩
  | 79 => ⟨S8x2048x8x32, .f32⟩
  | 80 => ⟨S8x2048x8x32, .f32⟩
  | 81 => ⟨S1x2048x1x32, .f32⟩
  | 82 => ⟨S8x2048x8x32, .f32⟩
  | 83 => ⟨S8x2048x8x32, .f32⟩
  | 84 => ⟨S8x2048x8x32, .f32⟩
  | 85 => ⟨S8x2048x8x64, .f32⟩
  | 86 => ⟨S64x256x1024, .f32⟩
  | 87 => ⟨S64x1024x256, .f32⟩
  | 88 => ⟨S64x1024x256, .bf16⟩
  | 89 => ⟨S_, .f32⟩
  | 90 => ⟨S8x2048x1024, .f32⟩
  | 91 => ⟨S8x2048x1024, .f32⟩
  | 92 => ⟨S16384x1024, .f32⟩
  | 93 => ⟨S16384x1024, .bf16⟩
  | 94 => ⟨S64x256x1024, .f32⟩
  | 95 => ⟨S64x1024x256, .f32⟩
  | 96 => ⟨S64x1024x256, .bf16⟩
  | 97 => ⟨S_, .i32⟩
  | 98 => ⟨S_, .f32⟩
  | 99 => ⟨S16384x128, .f32⟩
  | 100 => ⟨S8x16384, .f32⟩
  | 101 => ⟨S8x2048x8x64, .f32⟩
  | 102 => ⟨S32, .f32⟩
  | 103 => ⟨S32, .f32⟩
  | 104 => ⟨S_, .f32⟩
  | 105 => ⟨S32, .f32⟩
  | 106 => ⟨S32, .f32⟩
  | 107 => ⟨S_, .f32⟩
  | 108 => ⟨S32, .f32⟩
  | 109 => ⟨S32, .f32⟩
  | 110 => ⟨S2048, .f32⟩
  | 111 => ⟨S2048x1, .f32⟩
  | 112 => ⟨S1x32, .f32⟩
  | 113 => ⟨S2048x32, .f32⟩
  | 114 => ⟨S2048x32, .f32⟩
  | 115 => ⟨S2048x32, .f32⟩
  | 116 => ⟨S2048x32, .f32⟩
  | 117 => ⟨S2048x1x32, .f32⟩
  | 118 => ⟨S2048x32, .f32⟩
  | 119 => ⟨S2048x1x32, .f32⟩
  | 120 => ⟨S8x2048x8x32, .f32⟩
  | 121 => ⟨S8x2048x8x32, .f32⟩
  | 122 => ⟨S1x2048x1x32, .f32⟩
  | 123 => ⟨S8x2048x8x32, .f32⟩
  | 124 => ⟨S8x2048x8x32, .f32⟩
  | 125 => ⟨S1x2048x1x32, .f32⟩
  | 126 => ⟨S8x2048x8x32, .f32⟩
  | 127 => ⟨S8x2048x8x32, .f32⟩
  | _ => ⟨S8x2048x1024, .f32⟩

abbrev hbmTy0_1 (i : Nat) : BufTy := match i % 128 with
  | 0 => ⟨S8x2048x8x32, .f32⟩
  | 1 => ⟨S1x2048x1x32, .f32⟩
  | 2 => ⟨S8x2048x8x32, .f32⟩
  | 3 => ⟨S8x2048x8x32, .f32⟩
  | 4 => ⟨S1x2048x1x32, .f32⟩
  | 5 => ⟨S8x2048x8x32, .f32⟩
  | 6 => ⟨S8x2048x8x32, .f32⟩
  | 7 => ⟨S8x2048x8x32, .f32⟩
  | 8 => ⟨S8x2048x8x64, .f32⟩
  | 9 => ⟨S_, .f32⟩
  | 10 => ⟨S8x2048x8x64, .f32⟩
  | 11 => ⟨S8x2048x8x64, .f32⟩
  | 12 => ⟨S16384x512, .f32⟩
  | 13 => ⟨S16384x512, .bf16⟩
  | 14 => ⟨S65536x128, .f32⟩
  | 15 => ⟨S16384x512, .f32⟩
  | 16 => ⟨S16384x512, .bf16⟩
  | 17 => ⟨S65536x128, .f32⟩
  | 18 => ⟨S64x256x512, .f32⟩
  | 19 => ⟨S64x512x256, .f32⟩
  | 20 => ⟨S64x512x256, .bf16⟩
  | 21 => ⟨S16384x512, .f32⟩
  | 22 => ⟨S16384x512, .bf16⟩
  | 23 => ⟨S16384x2048, .f32⟩
  | 24 => ⟨S16384x2048, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst : Ref sig .tc := ⟨.hbm, 40, rfl⟩
abbrev main_v29 : Ref sig .tc := ⟨.hbm, 41, rfl⟩
abbrev main_v30 : Ref sig .tc := ⟨.hbm, 42, rfl⟩
abbrev main_cst_0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_1 : Ref sig .tc := ⟨.hbm, 53, rfl⟩
abbrev main_v40 : Ref sig .tc := ⟨.hbm, 54, rfl⟩
abbrev main_v41 : Ref sig .tc := ⟨.hbm, 55, rfl⟩
abbrev main_cst_2 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_3 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_c : Ref sig .tc := ⟨.hbm, 97, rfl⟩
abbrev main_call1_v0 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_4 : Ref sig .tc := ⟨.hbm, 104, rfl⟩
abbrev main_v86 : Ref sig .tc := ⟨.hbm, 105, rfl⟩
abbrev main_v87 : Ref sig .tc := ⟨.hbm, 106, rfl⟩
abbrev main_cst_5 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_cst_6 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩

abbrev nD : Nat := 1
abbrev τ : Topo := Topo.v7x

variable {F : FTy → Type} [FloatOps F]
-- ==== Proof.Diff.Finite.lean ====
/-
  What the precondition says: the lambda vectors, the queries, the keys and the values are real numbers.
-/
module

public import proofs.«01_k».proof.Defs
public import Idealize.ShloMosaic.Lib.Pointwise
public import Idealize.ShloMosaic.Lib.ValueIdx

@[expose] public section

set_option maxRecDepth 16384

noncomputable section

namespace Cert.Diff

open Idealize Idealize.ShloMosaic

/-- An extended real whose absolute value is below infinity is real. -/
theorem real_of_lt (x : EReal) (h : Ideal.cmp .olt (max x (-x)) (Ideal.ofBits .f32 2139095040#32) = 1#1) : ∃ r : ℝ, x = r := by
  have ht : Ideal.ofBits .f32 2139095040#32 = ⊤ := rfl
  rw [ht] at h
  have h' : max x (-x) < ⊤ := by
    by_contra hn
    simp [Ideal.cmp, hn] at h
  have h1 : x ≠ ⊤ := fun e => by subst e; simp at h'
  have h2 : x ≠ ⊥ := fun e => by subst e; simp at h'
  exact ⟨x.toReal, (EReal.coe_toReal h1 h2).symm⟩

variable [Cert.Pre_finite.Facts]

open Cert.Pre_finite Cert.Pre_finite.Facts

variable {a0 a1 a2 a3 : FVec Ideal S1x64 .f32} {a4 a5 : FVec Ideal S16384x512 .bf16} {a6 : FVec Ideal S64x512x256 .bf16}
  {a7 : FVec Ideal S16384x2048 .bf16} {a8 : FVec Ideal S1x128 .f32}

theorem fin0 (h : (Cert.Pre_finite.fn (F := Ideal) a0 a1 a2 a3 a4 a5 a6 a7 a8).1 = fun _ => 1#1) (i) : ∃ r : ℝ, a0 i = r :=
  real_of_lt _ (congrFun h i)
theorem fin1 (h : (Cert.Pre_finite.fn (F := Ideal) a0 a1 a2 a3 a4 a5 a6 a7 a8).2.1 = fun _ => 1#1) (i) : ∃ r : ℝ, a1 i = r :=
  real_of_lt _ (congrFun h i)
theorem fin2 (h : (Cert.Pre_finite.fn (F := Ideal) a0 a1 a2 a3 a4 a5 a6 a7 a8).2.2.1 = fun _ => 1#1) (i) : ∃ r : ℝ, a2 i = r :=
  real_of_lt _ (congrFun h i)
theorem fin3 (h : (Cert.Pre_finite.fn (F := Ideal) a0 a1 a2 a3 a4 a5 a6 a7 a8).2.2.2.1 = fun _ => 1#1) (i) : ∃ r : ℝ, a3 i = r :=
  real_of_lt _ (congrFun h i)
theorem fin4 (h : (Cert.Pre_finite.fn (F := Ideal) a0 a1 a2 a3 a4 a5 a6 a7 a8).2.2.2.2.1 = fun _ => 1#1) (i) : ∃ r : ℝ, a4 i = r :=
  real_of_lt _ (congrFun h i)
theorem fin5 (h : (Cert.Pre_finite.fn (F := Ideal) a0 a1 a2 a3 a4 a5 a6 a7 a8).2.2.2.2.2.1 = fun _ => 1#1) (i) : ∃ r : ℝ, a5 i = r :=
  real_of_lt _ (congrFun h i)
theorem fin6 (h : (Cert.Pre_finite.fn (F := Ideal) a0 a1 a2 a3 a4 a5 a6 a7 a8).2.2.2.2.2.2 = fun _ => 1#1) (i) : ∃ r : ℝ, a6 i = r :=
  real_of_lt _ (congrFun h i)

end Cert.Diff
-- ==== Proof.Diff.Online.lean ====
/-
  The softmax that is computed while the keys pass by, as plain mathematics over the extended reals: a running
  maximum, a running sum of exponentials and a running weighted sum, rescaled whenever the maximum grows. No program
  appears here.
-/
module

public import Idealize.ShloMosaic.PureOps.Ideal
public import Mathlib.Algebra.BigOperators.Fin
public import Mathlib.Algebra.BigOperators.Intervals

@[expose] public section

namespace Cert.Diff

open Idealize.ShloMosaic Finset

/-- A coerced finite sum of reals. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [sum_insert ha, sum_insert ha, EReal.coe_add, ih]

/-- What the three running values are after the first `n` keys, with scores `s` and values `v`: nothing yet, or sums of
    exponentials relative to some real base `μ` that is the running maximum's. -/
def St (s v : ℕ → ℝ) (n : ℕ) (m l a : EReal) : Prop :=
  (n = 0 ∧ m = ⊥ ∧ l = 0 ∧ a = 0) ∨
    ∃ μ : ℝ, m = μ ∧ l = ((∑ j ∈ range n, Real.exp (s j - μ) : ℝ) : EReal)
      ∧ a = ((∑ j ∈ range n, v j * Real.exp (s j - μ) : ℝ) : EReal)

/-- Before the first key. -/
theorem St.zero (s v : ℕ → ℝ) : St s v 0 ⊥ 0 0 := .inl ⟨rfl, rfl, rfl, rfl⟩

/-- A running maximum over scores that are real or `⊥`, at least one of them real, is real. -/
theorem max_real {C : ℕ} (S : Fin C → EReal) (hS : ∀ r, S r ≠ ⊤) (hx : ∃ r, S r ≠ ⊥) (m : EReal) (hm : m ≠ ⊤) :
    ∃ μ : ℝ, max m (univ.fold max ⊥ S) = μ := by
  have htop : ∀ t : Finset (Fin C), t.fold max ⊥ S ≠ ⊤ := by
    intro t
    induction t using Finset.induction_on with
    | empty => simp
    | insert a t ha ih =>
      rw [fold_insert ha]
      rcases max_choice (S a) (t.fold max ⊥ S) with h | h <;> rw [h]
      · exact hS a
      · exact ih
  obtain ⟨r, hr⟩ := hx
  have hbot : univ.fold max ⊥ S ≠ ⊥ := by
    have : S r ≤ univ.fold max ⊥ S := (Finset.le_fold_max _).mpr (.inr ⟨r, mem_univ r, le_rfl⟩)
    intro h; rw [h] at this; exact hr (le_bot_iff.mp this)
  have h1 : max m (univ.fold max ⊥ S) ≠ ⊤ := by
    rcases max_choice m (univ.fold max ⊥ S) with h | h <;> rw [h]
    · exact hm
    · exact htop _
  have h2 : max m (univ.fold max ⊥ S) ≠ ⊥ := by
    intro h
    have := le_max_right m (univ.fold max ⊥ S)
    rw [h] at this; exact hbot (le_bot_iff.mp this)
  exact ⟨_, (EReal.coe_toReal h1 h2).symm⟩

/-- A masked sum over a span of `C` keys after the first `n` is the sum over the keys below `n'`. -/
theorem span_sum {C : ℕ} (f : ℕ → ℝ) (n n' : ℕ) (h1 : n ≤ n') (h2 : n' ≤ n + C) :
    (∑ j ∈ range n, f j) + (∑ r : Fin C, if n + r.val < n' then f (n + r.val) else 0) = ∑ j ∈ range n', f j := by
  have e : (∑ r : Fin C, if n + r.val < n' then f (n + r.val) else 0) = ∑ r ∈ range C, if n + r < n' then f (n + r) else 0 :=
    (Finset.sum_range (fun r => if n + r < n' then f (n + r) else 0)).symm
  rw [e, ← Finset.sum_range_add_sum_Ico f h1, Finset.sum_Ico_eq_sum_range]
  congr 1
  rw [← Finset.sum_filter]
  apply Finset.sum_congr _ fun _ _ => rfl
  ext r
  simp only [mem_filter, mem_range]
  omega

/-- ONE SPAN of `C` keys, of which those below `n'` are visible (the others' scores are `⊥`): the running values of the
    first `n` keys become those of the first `n'`. -/
theorem St.step {C : ℕ} {s v : ℕ → ℝ} {n : ℕ} {m l a : EReal} (h : St s v n m l a) (n' : ℕ) (h1 : n < n') (h2 : n' ≤ n + C)
    (S V : Fin C → EReal) (hS : ∀ r, S r = if n + r.val < n' then (s (n + r.val) : EReal) else ⊥)
    (hV : ∀ r, V r = (v (n + r.val) : EReal)) (M : EReal) (hM : M = max m (univ.fold max ⊥ S)) :
    St s v n' M (Ideal.exp (m - M) * l + ∑ r, Ideal.exp (S r - M))
      (Ideal.exp (m - M) * a + ∑ r, V r * Ideal.exp (S r - M)) := by
  have hC : 0 < C := by omega
  have hm : m ≠ ⊤ := by
    rcases h with ⟨-, h, -, -⟩ | ⟨μ, h, -, -⟩ <;> rw [h]
    · exact bot_ne_top
    · exact EReal.coe_ne_top μ
  obtain ⟨μ', hμ'⟩ := max_real S (fun r => by rw [hS]; split_ifs <;> simp) ⟨⟨0, hC⟩, by rw [hS, if_pos (by simpa using h1)]; simp⟩ m hm
  rw [hμ'] at hM
  subst hM
  have hE : ∀ r, Ideal.exp (S r - (μ' : EReal)) = (((if n + r.val < n' then Real.exp (s (n + r.val) - μ') else 0) : ℝ) : EReal) := by
    intro r
    rw [hS]
    split_ifs
    · rw [← EReal.coe_sub, Ideal.exp_coe]
    · rw [EReal.bot_sub, Ideal.exp_bot, EReal.coe_zero]
  have hl : ∑ r, Ideal.exp (S r - (μ' : EReal)) = ((∑ r : Fin C, (if n + r.val < n' then Real.exp (s (n + r.val) - μ') else 0) : ℝ) : EReal) := by
    rw [coe_sum]; exact sum_congr rfl fun r _ => hE r
  have ha : ∑ r, V r * Ideal.exp (S r - (μ' : EReal))
      = ((∑ r : Fin C, (if n + r.val < n' then v (n + r.val) * Real.exp (s (n + r.val) - μ') else 0) : ℝ) : EReal) := by
    rw [coe_sum]
    refine sum_congr rfl fun r _ => ?_
    rw [hE, hV, ← EReal.coe_mul, mul_ite, mul_zero]
  rw [hl, ha]
  refine .inr ⟨μ', rfl, ?_, ?_⟩
  · rw [← span_sum (C := C) _ n n' h1.le h2, EReal.coe_add]
    congr 1
    rcases h with ⟨rfl, -, rfl, -⟩ | ⟨μ, rfl, rfl, -⟩
    · simp
    · rw [← EReal.coe_sub, Ideal.exp_coe, ← EReal.coe_mul, mul_sum]
      congr 1
      refine sum_congr rfl fun j _ => ?_
      rw [← Real.exp_add]; congr 1; ring
  · rw [← span_sum (C := C) _ n n' h1.le h2, EReal.coe_add]
    congr 1
    rcases h with ⟨rfl, -, -, rfl⟩ | ⟨μ, rfl, -, rfl⟩
    · simp
    · rw [← EReal.coe_sub, Ideal.exp_coe, ← EReal.coe_mul, mul_sum]
      congr 1
      refine sum_congr rfl fun j _ => ?_
      rw [mul_left_comm, ← Real.exp_add]; congr 2; ring

/-- The weight of key `j` among the first `n`. -/
noncomputable def weight (s : ℕ → ℝ) (n j : ℕ) : ℝ := Real.exp (s j) / ∑ i ∈ range n, Real.exp (s i)

theorem sum_exp_pos (s : ℕ → ℝ) {n : ℕ} (hn : 0 < n) : 0 < ∑ i ∈ range n, Real.exp (s i) :=
  sum_pos (fun i _ => Real.exp_pos _) ⟨0, mem_range.mpr hn⟩

/-- The base cancels in the quotient of an exponential by the sum of them. -/
theorem weight_base (s : ℕ → ℝ) (n j : ℕ) (μ : ℝ) :
    Real.exp (s j - μ) / ∑ i ∈ range n, Real.exp (s i - μ) = weight s n j := by
  have : (∑ i ∈ range n, Real.exp (s i - μ)) = (∑ i ∈ range n, Real.exp (s i)) * Real.exp (-μ) := by
    rw [sum_mul]; exact sum_congr rfl fun i _ => by rw [← Real.exp_add]; congr 1
  rw [this, show Real.exp (s j - μ) = Real.exp (s j) * Real.exp (-μ) by rw [← Real.exp_add]; congr 1, weight,
    mul_div_mul_right _ _ (Real.exp_pos _).ne']

/-- AFTER THE LAST SPAN the quotient of the running sums is the softmax's weighted sum. -/
theorem St.quotient {s v : ℕ → ℝ} {n : ℕ} {m l a : EReal} (h : St s v n m l a) (hn : 0 < n) :
    Ideal.div a l = ((∑ j ∈ range n, weight s n j * v j : ℝ) : EReal) := by
  rcases h with ⟨rfl, -⟩ | ⟨μ, -, rfl, rfl⟩
  · exact absurd hn (lt_irrefl 0)
  · rw [Ideal.div_coe (sum_exp_pos (fun j => s j - μ) hn).ne', ← EReal.coe_mul, sum_mul]
    congr 1
    refine sum_congr rfl fun j _ => ?_
    rw [← weight_base s n j μ]; ring

end Cert.Diff
-- ==== Proof.Diff.Step.lean ====
/-
  What one span of keys does to one head's three scratch buffers, as functions of the keys, the values, the queries
  and what the buffers held: entry by entry.
-/
module

public import proofs.«01_k».proof.Proof.Gen.DiffIdeal.Skeleton
public import Idealize.ShloMosaic.Lib.Pointwise
public import Idealize.ShloMosaic.Lib.ValueIdx
public import Idealize.ShloMosaic.Lib.WordCmp
public import proofs.«01_k».proof.Proof.Diff.Online

@[expose] public section

set_option maxRecDepth 16384

noncomputable section

namespace Cert.Diff

open Idealize.ShloMosaic Cert.DiffIdeal Cert.DiffIdeal.Gen Finset

abbrev KB := FVec Ideal S512x128 .bf16
abbrev VB := FVec Ideal S1x128x256 .bf16
abbrev MB := FVec Ideal S1x1x512 .f32
abbrev AB := FVec Ideal S1x128x512 .f32
abbrev OB := FVec Ideal S16x256 .bf16

/-- A pair of key tiles off the diagonal: the new maxima, -/
def upM (q k : KB) (m : MB) : MB := k0_pay16 (k0_pay7 q k m)
/-- the new sums, -/
def upL (o : OB) (q k : KB) (va vb : VB) (m l : MB) : MB :=
  k0_pay14 (k0_pay8 q k m) (k0_pay10 o q k m va) (k0_pay11 o vb) (k0_pay12 q k m) (constant S144x512 .f32 0#32) l
/-- the new weighted sums. -/
def upA (o : OB) (q k : KB) (va vb : VB) (m : MB) (a : AB) : AB :=
  k0_pay15 (k0_pay8 q k m) (k0_pay10 o q k m va) (k0_pay11 o vb) (k0_pay12 q k m) (constant S144x512 .f32 0#32) a

/-- A pair of key tiles of which the second is on the diagonal: the new maxima, -/
def dgM (w : IVec S256x512 1) (q k : KB) (m : MB) : MB := k0_pay86 (k0_pay79 w q k m)
/-- the new sums, -/
def dgL (w : IVec S256x512 1) (o : OB) (q k : KB) (va vb : VB) (m l : MB) : MB :=
  k0_pay84 o (k0_pay80 w q k m) (k0_pay81 w q k m) (k0_pay82 w o q k m va) vb l
/-- the new weighted sums. -/
def dgA (w : IVec S256x512 1) (o : OB) (q k : KB) (va vb : VB) (m : MB) (a : AB) : AB :=
  k0_pay85 o (k0_pay80 w q k m) (k0_pay81 w q k m) (k0_pay82 w o q k m va) vb a

/-- One key tile on the diagonal: the new maxima, -/
def onM (w : IVec S256x512 1) (q : KB) (k : FVec Ideal S256x128 .bf16) (m : MB) : MB := k0_pay121 (k0_pay115 w q k m)
/-- the new sums, -/
def onL (w : IVec S256x512 1) (o : OB) (q : KB) (k : FVec Ideal S256x128 .bf16) (va : VB) (m l : MB) : MB :=
  k0_pay119 (k0_pay118 w o q k m va l)
/-- the new weighted sums. -/
def onA (w : IVec S256x512 1) (o : OB) (q : KB) (k : FVec Ideal S256x128 .bf16) (va : VB) (m : MB) (a : AB) : AB :=
  k0_pay120 (k0_pay116 w q k m) (k0_pay117 w o q k m va) a

/-- The bit pattern of minus infinity. -/
theorem ofBits_bot : Ideal.ofBits .f32 4286578688#32 = ⊥ := rfl

/-- The query row of a score column: the columns are the two halves' rows, one after the other. -/
theorem row_word : ∀ c : Fin 512, Scalar.select (IntOp.cmpi .sge (BitVec.ofNat 32 c.val) 256#32)
    (IntOp.subi (BitVec.ofNat 32 c.val) 256#32) (BitVec.ofNat 32 c.val) = BitVec.ofNat 32 (c.val % 256) := by
  decide +kernel

/-- On the diagonal tile key `r` is visible to column `c` when it is not after the column's row. -/
theorem vis_apply (r : Fin 256) (c : Fin 512) : k0_pay147 (ix2 r c) = 1#1 ↔ r.val ≤ c.val % 256 := by
  unfold_payloads
  pointwise
  rw [row_word]
  exact WordCmp.cmpi_sle_ofNat_eq_one_iff (by omega) (by omega)

/-- A score kept or masked on the diagonal tile. -/
theorem masked (r : Fin 256) (c : Fin 512) (x y : EReal) :
    Scalar.select (k0_pay147 (ix2 r c)) x y = if r.val ≤ c.val % 256 then x else y := by
  unfold Scalar.select
  by_cases h : r.val ≤ c.val % 256
  · rw [if_pos h]; exact if_pos ((vis_apply r c).mpr h)
  · rw [if_neg h]; exact if_neg fun e => h ((vis_apply r c).mp e)

/-- A sum over 512 keys is the sum over two tiles of 256. -/
theorem two_tiles (f : Fin 512 → EReal) :
    ∑ r, f r = ∑ x : Fin 256, f ⟨x.val, by omega⟩ + ∑ x : Fin 256, f ⟨256 + x.val, by omega⟩ :=
  Fin.sum_univ_add (a := 256) (b := 256) f

/-- What one head's scratch holds, column by column and channel by channel, after `n c` keys of column `c`. -/
def StV (s : Fin 512 → ℕ → ℝ) (v : Fin 128 → ℕ → ℝ) (n : Fin 512 → ℕ) (m l : MB) (a : AB) : Prop :=
  ∀ (c : Fin 512) (d : Fin 128), St (s c) (v d) (n c) (m (ix3 0 0 c)) (l (ix3 0 0 c)) (a (ix3 0 d c))

variable {s : Fin 512 → ℕ → ℝ} {v : Fin 128 → ℕ → ℝ} {m l : MB} {a : AB}

theorem StV.up {n : ℕ} (h : StV s v (fun _ => n) m l a) (o : OB) (ho : ∀ x, o (ix2 0 x) = 1) (q k : KB) (va vb : VB)
    (hS : ∀ (r c : Fin 512), ∑ e, k (ix2 r e) * q (ix2 c e) = (s c (n + r.val) : EReal))
    (ha : ∀ (d : Fin 128) (x : Fin 256), va (ix3 0 d x) = (v d (n + x.val) : EReal))
    (hb : ∀ (d : Fin 128) (x : Fin 256), vb (ix3 0 d x) = (v d (n + (256 + x.val)) : EReal)) :
    StV s v (fun _ => n + 512) (upM q k m) (upL o q k va vb m l) (upA o q k va vb m a) := by
  intro c d
  have H := (h c d).step (C := 512) (n + 512) (by show n < _; omega) (by show _ ≤ n + _; omega) (fun r => ∑ e, k (ix2 r e) * q (ix2 c e))
    (fun r => (v d (n + r.val) : EReal)) (fun r => by simp only [hS]; rw [if_pos (by omega)]) (fun _ => rfl) _ rfl
  rw [two_tiles, two_tiles] at H
  unfold upM upL upA
  unfold_payloads
  pointwise
  simp only [ho, one_mul, ha, hb, ofBits_bot]
  exact H

theorem StV.dg {n : ℕ} (h : StV s v (fun _ => n) m l a) (o : OB) (ho : ∀ x, o (ix2 0 x) = 1) (q k : KB) (va vb : VB)
    (hS : ∀ (r c : Fin 512), ∑ e, k (ix2 r e) * q (ix2 c e) = (s c (n + r.val) : EReal))
    (ha : ∀ (d : Fin 128) (x : Fin 256), va (ix3 0 d x) = (v d (n + x.val) : EReal))
    (hb : ∀ (d : Fin 128) (x : Fin 256), vb (ix3 0 d x) = (v d (n + (256 + x.val)) : EReal)) :
    StV s v (fun c => n + 256 + (c.val % 256 + 1)) (dgM k0_pay147 q k m) (dgL k0_pay147 o q k va vb m l)
      (dgA k0_pay147 o q k va vb m a) := by
  intro c d
  have H := (h c d).step (C := 512) (n + 256 + (c.val % 256 + 1)) (by show n < _; omega) (by show _ ≤ n + _; omega)
    (fun r => if r.val < 256 then ∑ e, k (ix2 r e) * q (ix2 c e) else if r.val - 256 ≤ c.val % 256 then ∑ e, k (ix2 r e) * q (ix2 c e) else ⊥)
    (fun r => (v d (n + r.val) : EReal)) (fun r => by
      simp only [hS]
      by_cases h1 : r.val < 256
      · rw [if_pos h1, if_pos (by omega)]
      · rw [if_neg h1]
        by_cases h2 : r.val - 256 ≤ c.val % 256
        · rw [if_pos h2, if_pos (by omega)]
        · rw [if_neg h2, if_neg (by omega)]) (fun _ => rfl) _ rfl
  rw [two_tiles, two_tiles] at H
  have hw := masked
  generalize k0_pay147 = w at hw ⊢
  unfold dgM dgL dgA
  unfold_payloads
  pointwise
  simp only [ho, one_mul, ha, hb, ofBits_bot, hw]
  have e1 : ∀ x : Fin 256, (x.val < 256) = True := fun x => eq_true x.isLt
  have e2 : ∀ x : Fin 256, (256 + x.val < 256) = False := fun x => eq_false (by omega)
  simp only [e1, e2, if_true, if_false, Nat.add_sub_cancel_left] at H
  have e3 : (fun x : Fin 512 => if x.val < 256 then ∑ e, k (ix2 x e) * q (ix2 c e)
        else if x.val - 256 ≤ c.val % 256 then ∑ e, k (ix2 x e) * q (ix2 c e) else (⊥ : EReal))
      = fun x : Fin 512 => if h : x.val < 256 then ∑ e, k (ix2 x e) * q (ix2 c e)
        else if x.val - 256 ≤ c.val % 256 then ∑ e, k (ix2 ⟨256 + (x.val - 256), by omega⟩ e) * q (ix2 c e) else (⊥ : EReal) := by
    funext x
    by_cases hx : x.val < 256
    · simp only [hx, if_true, dite_true]
    · simp only [hx, if_false, dite_false]
      congr 3
      funext e
      congr 3
      exact Fin.ext (by simp only []; omega)
  rw [e3] at H

  exact H

theorem StV.on {n : ℕ} (h : StV s v (fun _ => n) m l a) (o : OB) (ho : ∀ x, o (ix2 0 x) = 1) (q : KB)
    (k : FVec Ideal S256x128 .bf16) (va : VB)
    (hS : ∀ (r : Fin 256) (c : Fin 512), ∑ e, k (ix2 r e) * q (ix2 c e) = (s c (n + r.val) : EReal))
    (ha : ∀ (d : Fin 128) (x : Fin 256), va (ix3 0 d x) = (v d (n + x.val) : EReal)) :
    StV s v (fun c => n + (c.val % 256 + 1)) (onM k0_pay147 q k m) (onL k0_pay147 o q k va m l)
      (onA k0_pay147 o q k va m a) := by
  intro c d
  have H := (h c d).step (C := 256) (n + (c.val % 256 + 1)) (by show n < _; omega) (by show _ ≤ n + _; omega)
    (fun r => if r.val ≤ c.val % 256 then ∑ e, k (ix2 r e) * q (ix2 c e) else ⊥)
    (fun r => (v d (n + r.val) : EReal)) (fun r => by
      simp only [hS]
      by_cases h2 : r.val ≤ c.val % 256
      · rw [if_pos h2, if_pos (by omega)]
      · rw [if_neg h2, if_neg (by omega)]) (fun _ => rfl) _ rfl
  have hw := masked
  generalize k0_pay147 = w at hw ⊢
  unfold onM onL onA
  unfold_payloads
  pointwise
  simp only [ho, one_mul, ha, ofBits_bot, hw]
  exact H

end Cert.Diff
-- ==== Proof.Diff.Reads.lean ====
/-
  What the kernel reads: the keys and the values at a trip's or a case's offsets, and one head's part of the scratch.
-/
module

public import proofs.«01_k».proof.Proof.Gen.DiffIdeal.Skeleton
public import Idealize.ShloMosaic.Lib.WholeRead
public import Idealize.ShloMosaic.Lib.Pipeline.ReadBack
public import proofs.«01_k».proof.Proof.Diff.Step

@[expose] public section

set_option maxRecDepth 16384

noncomputable section

namespace Cert.Diff

open Idealize Idealize.ShloMosaic Cert.DiffIdeal Cert.DiffIdeal.Gen Finset

/-! ### The offsets -/

theorem off1 : ∀ (i : grid0.Coords) (k : Fin (k0_t1_loop i).trips), k0_off1 i k = ![512 * k.val, 0] := by decide +kernel
theorem off2 : ∀ (i : grid0.Coords) (k : Fin (k0_t1_loop i).trips), k0_off2 i k = ![512 * k.val, 128] := by decide +kernel
theorem off3 : ∀ (i : grid0.Coords) (k : Fin (k0_t1_loop i).trips), k0_off3 i k = ![512 * k.val, 256] := by decide +kernel
theorem off4 : ∀ (i : grid0.Coords) (k : Fin (k0_t1_loop i).trips), k0_off4 i k = ![512 * k.val, 384] := by decide +kernel
theorem off5 : ∀ (i : grid0.Coords) (k : Fin (k0_t1_loop i).trips), k0_off5 i k = ![2 * k.val, 0, 0] := by decide +kernel
theorem off6 : ∀ (i : grid0.Coords) (k : Fin (k0_t1_loop i).trips), k0_off6 i k = ![2 * k.val + 1, 0, 0] := by decide +kernel
theorem off7 : ∀ (i : grid0.Coords) (k : Fin (k0_t1_loop i).trips), k0_off7 i k = ![2 * k.val, 128, 0] := by decide +kernel
theorem off8 : ∀ (i : grid0.Coords) (k : Fin (k0_t1_loop i).trips), k0_off8 i k = ![2 * k.val + 1, 128, 0] := by decide +kernel
theorem off9 : ∀ (i : grid0.Coords) (k : Fin (k0_t1_loop i).trips), k0_off9 i k = ![2 * k.val, 256, 0] := by decide +kernel
theorem off10 : ∀ (i : grid0.Coords) (k : Fin (k0_t1_loop i).trips), k0_off10 i k = ![2 * k.val + 1, 256, 0] := by decide +kernel
theorem off11 : ∀ (i : grid0.Coords) (k : Fin (k0_t1_loop i).trips), k0_off11 i k = ![2 * k.val, 384, 0] := by decide +kernel
theorem off12 : ∀ (i : grid0.Coords) (k : Fin (k0_t1_loop i).trips), k0_off12 i k = ![2 * k.val + 1, 384, 0] := by decide +kernel

/-- The loop makes one trip for every two tiles before the last ones; -/
theorem trips1 : ∀ i : grid0.Coords, (k0_t1_loop i).trips = (i 1).val / 2 := by decide +kernel
/-- the remainder loop behind it makes none. -/
theorem trips2 : ∀ i : grid0.Coords, (k0_t2_loop i).trips = 0 := by decide +kernel

theorem off25 : ∀ i : grid0.Coords, (i 1).val % 2 = 1 → k0_off25 i = ![256 * ((i 1).val - 1), 0] := by decide +kernel
theorem off26 : ∀ i : grid0.Coords, (i 1).val % 2 = 1 → k0_off26 i = ![256 * ((i 1).val - 1), 128] := by decide +kernel
theorem off27 : ∀ i : grid0.Coords, (i 1).val % 2 = 1 → k0_off27 i = ![256 * ((i 1).val - 1), 256] := by decide +kernel
theorem off28 : ∀ i : grid0.Coords, (i 1).val % 2 = 1 → k0_off28 i = ![256 * ((i 1).val - 1), 384] := by decide +kernel
theorem off29 : ∀ i : grid0.Coords, (i 1).val % 2 = 1 → k0_off29 i = ![(i 1).val - 1, 0, 0] := by decide +kernel
theorem off30 : ∀ i : grid0.Coords, (i 1).val % 2 = 1 → k0_off30 i = ![(i 1).val, 0, 0] := by decide +kernel
theorem off31 : ∀ i : grid0.Coords, (i 1).val % 2 = 1 → k0_off31 i = ![(i 1).val - 1, 128, 0] := by decide +kernel
theorem off32 : ∀ i : grid0.Coords, (i 1).val % 2 = 1 → k0_off32 i = ![(i 1).val, 128, 0] := by decide +kernel
theorem off33 : ∀ i : grid0.Coords, (i 1).val % 2 = 1 → k0_off33 i = ![(i 1).val - 1, 256, 0] := by decide +kernel
theorem off34 : ∀ i : grid0.Coords, (i 1).val % 2 = 1 → k0_off34 i = ![(i 1).val, 256, 0] := by decide +kernel
theorem off35 : ∀ i : grid0.Coords, (i 1).val % 2 = 1 → k0_off35 i = ![(i 1).val - 1, 384, 0] := by decide +kernel
theorem off36 : ∀ i : grid0.Coords, (i 1).val % 2 = 1 → k0_off36 i = ![(i 1).val, 384, 0] := by decide +kernel
theorem off37 : ∀ i : grid0.Coords, k0_off37 i = ![256 * (i 1).val, 0] := by decide +kernel
theorem off38 : ∀ i : grid0.Coords, k0_off38 i = ![256 * (i 1).val, 128] := by decide +kernel
theorem off39 : ∀ i : grid0.Coords, k0_off39 i = ![256 * (i 1).val, 256] := by decide +kernel
theorem off40 : ∀ i : grid0.Coords, k0_off40 i = ![256 * (i 1).val, 384] := by decide +kernel
theorem off41 : ∀ i : grid0.Coords, k0_off41 i = ![(i 1).val, 0, 0] := by decide +kernel
theorem off42 : ∀ i : grid0.Coords, k0_off42 i = ![(i 1).val, 128, 0] := by decide +kernel
theorem off43 : ∀ i : grid0.Coords, k0_off43 i = ![(i 1).val, 256, 0] := by decide +kernel
theorem off44 : ∀ i : grid0.Coords, k0_off44 i = ![(i 1).val, 384, 0] := by decide +kernel

/-! ### The scores and the values behind the loads -/

/-- The scores of head `h`'s queries `q h` against the keys are the reals `s h`, and the values are the reals `v h`. -/
structure Data (q : Fin 4 → KB) (x5 : FVec Ideal S2048x512 .bf16) (x6 : FVec Ideal S8x512x256 .bf16)
    (s : Fin 4 → Fin 512 → ℕ → ℝ) (v : Fin 4 → Fin 128 → ℕ → ℝ) : Prop where
  score : ∀ (h : Fin 4) (c : Fin 512) (j : Fin 2048),
    ∑ e : Fin 128, x5 (ix2 j ⟨128 * h.val + e.val, by omega⟩) * q h (ix2 c e) = (s h c j.val : EReal)
  value : ∀ (h : Fin 4) (d : Fin 128) (b : Fin 8) (x : Fin 256),
    x6 (ix3 b ⟨128 * h.val + d.val, by omega⟩ x) = (v h d (256 * b.val + x.val) : EReal)

variable {q : Fin 4 → KB} {x5 : FVec Ideal S2048x512 .bf16} {x6 : FVec Ideal S8x512x256 .bf16}
  {s : Fin 4 → Fin 512 → ℕ → ℝ} {v : Fin 4 → Fin 128 → ℕ → ℝ}
  {arg7 : Memref sig .tc .vmem S2048x512 .bf16} (harg7 : arg7.IsWhole)
  {arg8 : Memref sig .tc .vmem S8x512x256 .bf16} (harg8 : arg8.IsWhole)

theorem Data.keys512 (D : Data q x5 x6 s v) (h : Fin 4) {off : Fin 2 → ℕ} {n : ℕ} {col : ℕ} (e : off = ![n, col])
    (hcol : col = 128 * h.val) (inb : ∀ a, off a + S512x128.size a ≤ S2048x512.size a) (r c : Fin 512) :
    ∑ e, (View.readAt (Elt Ideal) arg7.view (Rect.unit (s := S2048x512) off S512x128.size inb).toLoadRect (harg7.unread x5) : KB) (ix2 r e)
      * q h (ix2 c e) = (s h c (n + r.val) : EReal) := by
  subst e hcol
  have h0 : n + 512 ≤ 2048 := inb 0
  rw [← D.score h c ⟨n + r.val, by omega⟩]
  refine Finset.sum_congr rfl fun x _ => ?_
  refine congrArg (· * _) (Eq.trans (harg7.readAt_unread (Val := Elt Ideal) x5 (Rect.unit (s := S2048x512) ![n, 128 * h.val] S512x128.size inb).toLoadRect (ix2 r x)) (congrArg x5 (funext fun a => Fin.ext ?_)))
  fin_cases a
  · show n + 1 * r.val = n + r.val; omega
  · show 128 * h.val + 1 * x.val = 128 * h.val + x.val; omega

theorem Data.keys256 (D : Data q x5 x6 s v) (h : Fin 4) {off : Fin 2 → ℕ} {n : ℕ} {col : ℕ} (e : off = ![n, col])
    (hcol : col = 128 * h.val) (inb : ∀ a, off a + S256x128.size a ≤ S2048x512.size a) (r : Fin 256) (c : Fin 512) :
    ∑ e, (View.readAt (Elt Ideal) arg7.view (Rect.unit (s := S2048x512) off S256x128.size inb).toLoadRect (harg7.unread x5)
      : FVec Ideal S256x128 .bf16) (ix2 r e) * q h (ix2 c e) = (s h c (n + r.val) : EReal) := by
  subst e hcol
  have h0 : n + 256 ≤ 2048 := inb 0
  rw [← D.score h c ⟨n + r.val, by omega⟩]
  refine Finset.sum_congr rfl fun x _ => ?_
  refine congrArg (· * _) (Eq.trans (harg7.readAt_unread (Val := Elt Ideal) x5 (Rect.unit (s := S2048x512) ![n, 128 * h.val] S256x128.size inb).toLoadRect (ix2 r x)) (congrArg x5 (funext fun a => Fin.ext ?_)))
  fin_cases a
  · show n + 1 * r.val = n + r.val; omega
  · show 128 * h.val + 1 * x.val = 128 * h.val + x.val; omega

theorem Data.values (D : Data q x5 x6 s v) (h : Fin 4) {off : Fin 3 → ℕ} {b n col : ℕ} (e : off = ![b, col, 0])
    (hcol : col = 128 * h.val) (hn : n = 256 * b) (inb : ∀ a, off a + S1x128x256.size a ≤ S8x512x256.size a)
    (d : Fin 128) (x : Fin 256) :
    (View.readAt (Elt Ideal) arg8.view (Rect.unit (s := S8x512x256) off S1x128x256.size inb).toLoadRect (harg8.unread x6) : VB) (ix3 0 d x)
      = (v h d (n + x.val) : EReal) := by
  subst e hcol hn
  have h0 : b + 1 ≤ 8 := inb 0
  rw [← D.value h d ⟨b, by omega⟩ x]
  refine Eq.trans (harg8.readAt_unread (Val := Elt Ideal) x6 (Rect.unit (s := S8x512x256) ![b, 128 * h.val, 0] S1x128x256.size inb).toLoadRect (ix3 0 d x)) (congrArg x6 (funext fun a => Fin.ext ?_))
  fin_cases a
  · show b + 1 * 0 = b; omega
  · show 128 * h.val + 1 * d.val = 128 * h.val + d.val; omega
  · show 0 + 1 * x.val = x.val; omega

/-! ### One head's part of the scratch -/

/-- Head `0`'s row of the maxima or the sums, and the other heads'. -/
abbrev hr0 : Rect S4x1x512 := Rect.unit ![0, 0, 0] S1x1x512.size inb_S4x1x512_S1x1x512_0_0_0
abbrev hr1 : Rect S4x1x512 := Rect.unit ![1, 0, 0] S1x1x512.size inb_S4x1x512_S1x1x512_1_0_0
abbrev hr2 : Rect S4x1x512 := Rect.unit ![2, 0, 0] S1x1x512.size inb_S4x1x512_S1x1x512_2_0_0
abbrev hr3 : Rect S4x1x512 := Rect.unit ![3, 0, 0] S1x1x512.size inb_S4x1x512_S1x1x512_3_0_0
/-- Head `0`'s part of the weighted sums, and the other heads'. -/
abbrev ha0 : Rect S4x128x512 := Rect.unit ![0, 0, 0] S1x128x512.size inb_S4x128x512_S1x128x512_0_0_0
abbrev ha1 : Rect S4x128x512 := Rect.unit ![1, 0, 0] S1x128x512.size inb_S4x128x512_S1x128x512_1_0_0
abbrev ha2 : Rect S4x128x512 := Rect.unit ![2, 0, 0] S1x128x512.size inb_S4x128x512_S1x128x512_2_0_0
abbrev ha3 : Rect S4x128x512 := Rect.unit ![3, 0, 0] S1x128x512.size inb_S4x128x512_S1x128x512_3_0_0

abbrev PM := List (View.Piece (Elt Ideal) S4x1x512 .f32)
abbrev PA := List (View.Piece (Elt Ideal) S4x128x512 .f32)

section four
variable (a : Memref sig .tc .vmem S4x1x512 .f32) (w0 w1 w2 w3 : MB) (L : PM)

/-- Four pieces, a head each, in front of a list: reading a head back gives its piece. -/
theorem four_0 : a.view.readCov (⟨hr3, w3⟩ :: ⟨hr2, w2⟩ :: ⟨hr1, w1⟩ :: ⟨hr0, w0⟩ :: L) hr0.toLoadRect = w0 := by
  rw [View.readCov_skip _ _ _ _ _ (by decide), View.readCov_skip _ _ _ _ _ (by decide), View.readCov_skip _ _ _ _ _ (by decide)]
  exact View.readCov_cons_toLoadRect _ _ _ _
theorem four_1 : a.view.readCov (⟨hr3, w3⟩ :: ⟨hr2, w2⟩ :: ⟨hr1, w1⟩ :: ⟨hr0, w0⟩ :: L) hr1.toLoadRect = w1 := by
  rw [View.readCov_skip _ _ _ _ _ (by decide), View.readCov_skip _ _ _ _ _ (by decide)]
  exact View.readCov_cons_toLoadRect _ _ _ _
theorem four_2 : a.view.readCov (⟨hr3, w3⟩ :: ⟨hr2, w2⟩ :: ⟨hr1, w1⟩ :: ⟨hr0, w0⟩ :: L) hr2.toLoadRect = w2 := by
  rw [View.readCov_skip _ _ _ _ _ (by decide)]
  exact View.readCov_cons_toLoadRect _ _ _ _
theorem four_3 : a.view.readCov (⟨hr3, w3⟩ :: ⟨hr2, w2⟩ :: ⟨hr1, w1⟩ :: ⟨hr0, w0⟩ :: L) hr3.toLoadRect = w3 :=
  View.readCov_cons_toLoadRect _ _ _ _

end four

section fourA
variable (a : Memref sig .tc .vmem S4x128x512 .f32) (w0 w1 w2 w3 : AB) (L : PA)

theorem fourA_0 : a.view.readCov (⟨ha3, w3⟩ :: ⟨ha2, w2⟩ :: ⟨ha1, w1⟩ :: ⟨ha0, w0⟩ :: L) ha0.toLoadRect = w0 := by
  rw [View.readCov_skip _ _ _ _ _ (by decide), View.readCov_skip _ _ _ _ _ (by decide), View.readCov_skip _ _ _ _ _ (by decide)]
  exact View.readCov_cons_toLoadRect _ _ _ _
theorem fourA_1 : a.view.readCov (⟨ha3, w3⟩ :: ⟨ha2, w2⟩ :: ⟨ha1, w1⟩ :: ⟨ha0, w0⟩ :: L) ha1.toLoadRect = w1 := by
  rw [View.readCov_skip _ _ _ _ _ (by decide), View.readCov_skip _ _ _ _ _ (by decide)]
  exact View.readCov_cons_toLoadRect _ _ _ _
theorem fourA_2 : a.view.readCov (⟨ha3, w3⟩ :: ⟨ha2, w2⟩ :: ⟨ha1, w1⟩ :: ⟨ha0, w0⟩ :: L) ha2.toLoadRect = w2 := by
  rw [View.readCov_skip _ _ _ _ _ (by decide)]
  exact View.readCov_cons_toLoadRect _ _ _ _
theorem fourA_3 : a.view.readCov (⟨ha3, w3⟩ :: ⟨ha2, w2⟩ :: ⟨ha1, w1⟩ :: ⟨ha0, w0⟩ :: L) ha3.toLoadRect = w3 :=
  View.readCov_cons_toLoadRect _ _ _ _

end fourA

/-- What the three scratch arrays hold for each head, after the stores listed. -/
def Inv (s : Fin 4 → Fin 512 → ℕ → ℝ) (v : Fin 4 → Fin 128 → ℕ → ℝ) (n : Fin 512 → ℕ)
    (a12 a13 : Memref sig .tc .vmem S4x1x512 .f32) (a14 : Memref sig .tc .vmem S4x128x512 .f32) (L12 L13 : PM) (L14 : PA) : Prop :=
  StV (s 0) (v 0) n (a12.view.readCov L12 hr0.toLoadRect) (a13.view.readCov L13 hr0.toLoadRect) (a14.view.readCov L14 ha0.toLoadRect) ∧
  StV (s 1) (v 1) n (a12.view.readCov L12 hr1.toLoadRect) (a13.view.readCov L13 hr1.toLoadRect) (a14.view.readCov L14 ha1.toLoadRect) ∧
  StV (s 2) (v 2) n (a12.view.readCov L12 hr2.toLoadRect) (a13.view.readCov L13 hr2.toLoadRect) (a14.view.readCov L14 ha2.toLoadRect) ∧
  StV (s 3) (v 3) n (a12.view.readCov L12 hr3.toLoadRect) (a13.view.readCov L13 hr3.toLoadRect) (a14.view.readCov L14 ha3.toLoadRect)

end Cert.Diff
-- ==== Proof.Diff.Pieces.lean ====
/-
  The four heads' updates are printed with different cuts into payloads; each is the one update of the step module.
-/
module

public import proofs.«01_k».proof.Proof.Diff.Step

@[expose] public section

set_option maxRecDepth 16384

noncomputable section

namespace Cert.Diff

open Idealize Idealize.ShloMosaic Cert.DiffIdeal Cert.DiffIdeal.Gen

variable (w : IVec S256x512 1) (o : OB) (q k : KB) (k' : FVec Ideal S256x128 .bf16) (va vb : VB) (m l : MB) (a : AB)

/-- The update of the scratch, as printed for heads 0 to 3 in the loop: -/
theorem up0M : k0_pay16 (k0_pay7 q k m) = upM q k m := rfl
theorem up0L : k0_pay14 (k0_pay8 q k m) (k0_pay10 o q k m va) (k0_pay11 o vb) (k0_pay12 q k m) (constant S144x512 .f32 0#32) l = upL o q k va vb m l := rfl
theorem up0A : k0_pay15 (k0_pay8 q k m) (k0_pay10 o q k m va) (k0_pay11 o vb) (k0_pay12 q k m) (constant S144x512 .f32 0#32) a = upA o q k va vb m a := rfl
theorem up1M : k0_pay25 (k0_pay18 (k0_pay3 q k) m) = upM q k m := rfl
theorem up1L : k0_pay23 o (k0_pay19 (k0_pay3 q k) m) (k0_pay20 (k0_pay3 q k) m) (k0_pay21 va) vb l = upL o q k va vb m l := rfl
theorem up1A : k0_pay24 o (k0_pay19 (k0_pay3 q k) m) (k0_pay20 (k0_pay3 q k) m) (k0_pay21 va) vb a = upA o q k va vb m a := rfl
theorem up2M : k0_pay32 (k0_pay27 (k0_pay4 q k) (k0_pay26 m)) = upM q k m := rfl
theorem up2L : k0_pay30 o (k0_pay4 q k) (k0_pay26 m) va vb l = upL o q k va vb m l := rfl
theorem up2A : k0_pay31 o (k0_pay4 q k) (k0_pay26 m) va vb a = upA o q k va vb m a := rfl
theorem up3M : k0_pay159 (k0_pay34 (k0_pay5 q k) m) = upM q k m := rfl
theorem up3L : k0_pay37 o (k0_pay5 q k) m va vb l = upL o q k va vb m l := rfl
theorem up3A : k0_pay158 (k0_pay35 (k0_pay5 q k) m) (k0_pay36 o (k0_pay5 q k) m va vb) a = upA o q k va vb m a := rfl

/-- with the second tile on the diagonal: -/
theorem dg0M : k0_pay86 (k0_pay79 w q k m) = dgM w q k m := rfl
theorem dg0L : k0_pay84 o (k0_pay80 w q k m) (k0_pay81 w q k m) (k0_pay82 w o q k m va) vb l = dgL w o q k va vb m l := rfl
theorem dg0A : k0_pay85 o (k0_pay80 w q k m) (k0_pay81 w q k m) (k0_pay82 w o q k m va) vb a = dgA w o q k va vb m a := rfl
theorem dg1M : k0_pay94 (k0_pay89 w (k0_pay74 q k) m) = dgM w q k m := rfl
theorem dg1L : k0_pay92 o (k0_pay87 w (k0_pay74 q k)) (k0_pay88 m) (k0_pay89 w (k0_pay74 q k) m) va vb l = dgL w o q k va vb m l := rfl
theorem dg1A : k0_pay93 o (k0_pay87 w (k0_pay74 q k)) (k0_pay88 m) (k0_pay89 w (k0_pay74 q k) m) va vb a = dgA w o q k va vb m a := rfl
theorem dg2M : k0_pay103 (k0_pay97 w (k0_pay75 q k) m) = dgM w q k m := rfl
theorem dg2L : k0_pay101 (k0_pay100 w o (k0_pay75 q k) m va vb l) = dgL w o q k va vb m l := rfl
theorem dg2A : k0_pay102 (k0_pay98 w (k0_pay75 q k) m) (k0_pay99 w o (k0_pay75 q k) m va vb) a = dgA w o q k va vb m a := rfl
theorem dg3L : k0_pay163 o (k0_pay107 w (k0_pay76 q k) m) (k0_pay108 w (k0_pay76 q k) m) (k0_pay109 w o (k0_pay76 q k) m va) vb l = dgL w o q k va vb m l := rfl
theorem dg3A : k0_pay164 o (k0_pay107 w (k0_pay76 q k) m) (k0_pay108 w (k0_pay76 q k) m) (k0_pay109 w o (k0_pay76 q k) m va) vb a = dgA w o q k va vb m a := rfl

/-- and with one tile, on the diagonal. -/
theorem on0M : k0_pay121 (k0_pay115 w q k' m) = onM w q k' m := rfl
theorem on0L : k0_pay119 (k0_pay118 w o q k' m va l) = onL w o q k' va m l := rfl
theorem on0A : k0_pay120 (k0_pay116 w q k' m) (k0_pay117 w o q k' m va) a = onA w o q k' va m a := rfl
theorem on1M : k0_pay131 (k0_pay124 w (k0_pay110 q k') m) = onM w q k' m := rfl
theorem on1L : k0_pay129 (k0_pay127 w (k0_pay110 q k') m l) (k0_pay128 w o (k0_pay110 q k') m va) = onL w o q k' va m l := rfl
theorem on1A : k0_pay130 (k0_pay125 w (k0_pay110 q k') m) (k0_pay126 w o (k0_pay110 q k') m va) a = onA w o q k' va m a := rfl
theorem on2M : k0_pay139 (k0_pay134 w (k0_pay111 q k') m) = onM w q k' m := rfl
theorem on2L : k0_pay137 (k0_pay135 w (k0_pay111 q k') m) (k0_pay136 w o (k0_pay111 q k') m va) l = onL w o q k' va m l := rfl
theorem on2A : k0_pay138 (k0_pay135 w (k0_pay111 q k') m) (k0_pay136 w o (k0_pay111 q k') m va) a = onA w o q k' va m a := rfl
theorem on3L : k0_pay167 (k0_pay143 w (k0_pay112 q k') m) (k0_pay144 w (k0_pay112 q k') m) (k0_pay145 o va) (constant S144x512 .f32 0#32) l = onL w o q k' va m l := rfl
theorem on3A : k0_pay168 (k0_pay143 w (k0_pay112 q k') m) (k0_pay144 w (k0_pay112 q k') m) (k0_pay145 o va) (constant S144x512 .f32 0#32) a = onA w o q k' va m a := rfl

end Cert.Diff
-- ==== Proof.Diff.Out.lean ====
/-
  What one head's store holds, entry by entry, and the masked queries.
-/
module

public import proofs.«01_k».proof.Proof.Diff.Pieces
public import Idealize.ShloMosaic.Lib.WordCmp

@[expose] public section

set_option maxRecDepth 16384

noncomputable section

namespace Cert.Diff

open Idealize Idealize.ShloMosaic Cert.DiffIdeal Cert.DiffIdeal.Gen Finset

variable (lam : FVec Ideal S1x1 .f32) (a : AB) (l : MB) (g : FVec Ideal S1x128 .f32) (gate : FVec Ideal S256x128 .bf16)

/-- One head's output from the scratch. -/
def outP : FVec Ideal S256x128 .bf16 := k0_pay172 lam a l g gate
theorem out0 : k0_pay171 (k0_pay170 lam a l g) gate = outP lam a l g gate := rfl
theorem out2 : k0_pay173 lam a l g gate = outP lam a l g gate := rfl
theorem out3 : k0_pay1 lam (k0_pay174 a) l g gate = outP lam a l g gate := rfl

/-- The difference of the two components' attentions at one entry. -/
def onP (r : Fin 256) (d : Fin 128) : EReal :=
  Ideal.div (a (ix3 0 d ⟨r, by omega⟩)) (l (ix3 0 0 ⟨r, by omega⟩))
    - lam (ix2 0 0) * Ideal.div (a (ix3 0 d ⟨256 + r, by omega⟩)) (l (ix3 0 0 ⟨256 + r, by omega⟩))

theorem outP_apply (r : Fin 256) (d : Fin 128) : outP lam a l g gate (ix2 r d)
    = onP lam a l r d * Ideal.rsqrt (Ideal.div (∑ x, onP lam a l r x * onP lam a l r x) (Ideal.ofBits .f32 1124073472#32)
        + Ideal.ofBits .f32 925353388#32) * g (ix2 0 d) * Ideal.ofBits .f32 1061997773#32 * gate (ix2 r d) := by
  unfold outP onP
  unfold_payloads
  pointwise

theorem lam_apply (a b c d : FVec Ideal S1x64 .f32) : k0_pay146 (F := Ideal) a b c d (ix2 0 0)
    = Ideal.exp (∑ x, a (ix2 0 x) * b (ix2 0 x)) - Ideal.exp (∑ x, c (ix2 0 x) * d (ix2 0 x))
      + Ideal.ofBits .f32 1045220557#32 := by
  unfold_payloads
  pointwise

theorem q0_apply (x : FVec Ideal S256x128 .bf16) (r : Fin 512) (d : Fin 128) : k0_pay149 (F := Ideal) x (ix2 r d)
    = if h : r.val < 256 then if d.val < 64 then x (ix2 ⟨r, h⟩ d) else 0
      else if 64 ≤ d.val then x (ix2 ⟨r - 256, by omega⟩ d) else 0 := by
  unfold_payloads
  pointwise
  have h1 : IntOp.cmpi .slt (BitVec.ofNat 32 d.val) 64#32 = 1 ↔ d.val < 64 :=
    WordCmp.cmpi_slt_ofNat_eq_one_iff (by omega) (by omega)
  have h2 : IntOp.cmpi .sge (BitVec.ofNat 32 d.val) 64#32 = 1 ↔ 64 ≤ d.val :=
    WordCmp.cmpi_sge_ofNat_eq_one_iff (by omega) (by omega)
  simp only [Scalar.select, h1, h2]
theorem q1_apply (x : FVec Ideal S256x128 .bf16) : k0_pay151 (F := Ideal) (iota Kind.tc S256x128 32 [1] iota_S256x128_d1_w32) x (k0_pay150) = k0_pay149 (F := Ideal) x := rfl
theorem q2_apply (x : FVec Ideal S256x128 .bf16) : k0_pay152 (F := Ideal) (iota Kind.tc S256x128 32 [1] iota_S256x128_d1_w32) x = k0_pay149 (F := Ideal) x := rfl
theorem q3_apply (x : FVec Ideal S256x128 .bf16) : k0_pay153 (F := Ideal) (iota Kind.tc S256x128 32 [1] iota_S256x128_d1_w32) x = k0_pay149 (F := Ideal) x := rfl
end Cert.Diff
-- ==== Proof.Diff.Ref.lean ====
/-
  The reference, cut into its steps: the masked scores, the softmax, lambda, the attention's output and the norm. Each
  step entry by entry.
-/
module

public import proofs.«01_k».proof.Proof.Gen.DiffRefIdeal.Run
public import Idealize.ShloMosaic.Lib.Pointwise
public import Idealize.ShloMosaic.Lib.ValueIdx
public import Idealize.ShloMosaic.Lib.WordCmp

@[expose] public section

set_option maxRecDepth 16384

noncomputable section

namespace Cert.Diff

open Idealize Idealize.ShloMosaic Cert.DiffRefIdeal Cert.DiffRefIdeal.Gen Cert.DiffRefIdeal.Value Finset

abbrev SB := FVec Ideal S8x4x2x2048x2048 .f32
abbrev RB := FVec Ideal S8x4x2x2048 .f32
abbrev RO := FVec Ideal S8x2048x4x128 .f32

/-- The scores, masked above the diagonal. -/
def rS (dq dk : FVec Ideal S16384x512 .bf16) : SB :=
  select (broadcastInDim S8x4x2x2048x2048 ![3, 4] bcast_S2048x2048_S8x4x2x2048x2048_3_4 (cmpi .sle (broadcastInDim S2048x2048 ![0, 1] bcast_S1x2048_S2048x2048_0_1 (broadcastInDim S1x2048 ![1] bcast_S2048_S1x2048_1 ((iotaInDim S2048 32 0)))) (broadcastInDim S2048x2048 ![0, 1] bcast_S2048x1_S2048x2048_0_1 (broadcastInDim S2048x1 ![0] bcast_S2048_S2048x1_0 ((iotaInDim S2048 32 0)))))) (Host.dotGeneral dot_S8x2048x4x2x64_S8x2048x4x2x64_S8x4x2x2048x2048_4_4_1_1_023_023 none (shapeCast _ (extf .f32 dq bitsLt_bf16_f32) shapeCasts_S16384x512_S8x2048x4x2x64) (shapeCast _ (extf .f32 dk bitsLt_bf16_f32) shapeCasts_S16384x512_S8x2048x4x2x64)) (broadcastInDim S8x4x2x2048x2048 ![] bcast_S_S8x4x2x2048x2048 (id (constant S_ .f32 0xFF800000#32)))

/-- The maximum of each row of scores, -/
def rM (S : SB) : RB :=
  (Host.reduce FloatOps.maximumf S ((constant S_ .f32 0xFF800000#32)) reducesTo_S8x4x2x2048x2048_S8x4x2x2048_d4 h_S_)
/-- raised to minus infinity at least. -/
def rN (S : SB) : RB :=
  (maximumf (broadcastInDim S8x4x2x2048 ![] bcast_S_S8x4x2x2048 ((constant S_ .f32 0xFF800000#32))) (rM S))

/-- The exponentials of the scores less a number per row. -/
def rX (S : SB) (M : RB) : SB :=
  (Host.exp (subf S (broadcastInDim S8x4x2x2048x2048 ![0, 1, 2, 3, 4] bcast_S8x4x2x2048x1_S8x4x2x2048x2048_0_1_2_3_4 (broadcastInDim S8x4x2x2048x1 ![0, 1, 2, 3] bcast_S8x4x2x2048_S8x4x2x2048x1_0_1_2_3 M))))

/-- The quotients by the row's sum. -/
def rP (E : SB) : SB :=
  (Host.divf E (broadcastInDim S8x4x2x2048x2048 ![0, 1, 2, 3, 4] bcast_S8x4x2x2048x1_S8x4x2x2048x2048_0_1_2_3_4 (broadcastInDim S8x4x2x2048x1 ![0, 1, 2, 3] bcast_S8x4x2x2048_S8x4x2x2048x1_0_1_2_3 (Host.reduceAdd E ((constant S_ .f32 0x00000000#32)) reducesTo_S8x4x2x2048x2048_S8x4x2x2048_d4 h_S_))))

/-- Lambda. -/
def rLam (l0 l1 l2 l3 : FVec Ideal S1x64 .f32) : FVec Ideal S_ .f32 :=
  (addf (subf (Host.exp (Host.reduceAdd (mulf l0 l1) ((constant S_ .f32 0x00000000#32)) reducesTo_S1x64_S_d0_1 h_S_)) (Host.exp (Host.reduceAdd (mulf l2 l3) ((constant S_ .f32 0x00000000#32)) reducesTo_S1x64_S_d0_1 h_S_))) ((constant S_ .f32 0x3E4CCCCD#32)))

/-- The difference of the two attentions, applied to the values. -/
def rO (dv : FVec Ideal S64x512x256 .bf16) (P : SB) (lam : FVec Ideal S_ .f32) : RO :=
  (transpose S8x2048x4x128 [0, 3, 1, 2] (Host.dotGeneral dot_S8x2048x4x128_S8x4x2048x2048_S8x4x128x2048_1_3_3_2_02_01 none (shapeCast _ (transpose S64x256x512 [0, 2, 1] (extf .f32 dv bitsLt_bf16_f32) transposes_S64x512x256_S64x256x512_0_2_1) shapeCasts_S64x256x512_S8x2048x4x128) (subf (shapeCast _ (extractStridedSlice S8x4x1x2048x2048 ![0, 0, 0, 0, 0] P slices_S8x4x2x2048x2048_S8x4x1x2048x2048_0_0_0_0_0) shapeCasts_S8x4x1x2048x2048_S8x4x2048x2048) (mulf (broadcastInDim S8x4x2048x2048 ![] bcast_S_S8x4x2048x2048 lam) (shapeCast _ (extractStridedSlice S8x4x1x2048x2048 ![0, 0, 1, 0, 0] P slices_S8x4x2x2048x2048_S8x4x1x2048x2048_0_0_1_0_0) shapeCasts_S8x4x1x2048x2048_S8x4x2048x2048)))) transposes_S8x4x128x2048_S8x2048x4x128_0_3_1_2)

/-- The norm of each head and the gate. -/
def rFin (o : RO) (g : FVec Ideal S1x128 .f32) (gate : FVec Ideal S16384x2048 .bf16) : FVec Ideal S16384x512 .bf16 :=
  (truncf .bf16 (mulf (shapeCast _ (mulf (mulf (mulf o (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf o o) ((constant S_ .f32 0x00000000#32)) reducesTo_S8x2048x4x128_S8x2048x4_d3 h_S_)) (broadcastInDim S8x2048x4x1 ![] bcast_S_S8x2048x4x1 ((constant S_ .f32 0x43000000#32)))) (broadcastInDim S8x2048x4x1 ![] bcast_S_S8x2048x4x1 ((constant S_ .f32 0x3727C5AC#32))))))) (broadcastInDim S8x2048x4x128 ![0, 1, 2, 3] bcast_S1x1x1x128_S8x2048x4x128_0_1_2_3 (broadcastInDim S1x1x1x128 ![2, 3] bcast_S1x128_S1x1x1x128_2_3 g))) (broadcastInDim S8x2048x4x128 ![] bcast_S_S8x2048x4x128 ((constant S_ .f32 0x3F4CCCCD#32)))) shapeCasts_S8x2048x4x128_S16384x512) (extf .f32 (extractStridedSlice S16384x512 ![0, 1024] gate slices_S16384x2048_S16384x512_0_1024) bitsLt_bf16_f32)) bitsLt_bf16_f32)

/-- The steps, one after the other. -/
def rAll (l0 l1 l2 l3 : FVec Ideal S1x64 .f32) (dq dk : FVec Ideal S16384x512 .bf16) (dv : FVec Ideal S64x512x256 .bf16)
    (gate : FVec Ideal S16384x2048 .bf16) (g : FVec Ideal S1x128 .f32) : FVec Ideal S16384x512 .bf16 :=
  rFin (rO dv (rP (rX (rS dq dk) (rN (rS dq dk)))) (rLam l0 l1 l2 l3)) g gate

/-- The reference's result is its steps, one after the other. -/
theorem ref_eq (m : (ℓ : Loc nD τ sig) → Buf (Elt Ideal) ℓ) (c : Dev nD) : res_out0 (F := Ideal) m c
    = rAll (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

theorem rS_apply (dq dk : FVec Ideal S16384x512 .bf16) (b : Fin 8) (h : Fin 4) (t : Fin 2) (i j : Fin 2048) :
    rS dq dk (ix5 b h t i j) = if j.val ≤ i.val then
      ∑ x : Fin 64, dq (ix2 ⟨b.val * 2048 + i.val, by omega⟩ ⟨h.val * 128 + t.val * 64 + x.val, by omega⟩)
        * dk (ix2 ⟨b.val * 2048 + j.val, by omega⟩ ⟨h.val * 128 + t.val * 64 + x.val, by omega⟩)
      else ⊥ := by
  unfold rS
  pointwise
  have h1 : IntOp.cmpi .sle (BitVec.ofNat 32 j.val) (BitVec.ofNat 32 i.val) = 1 ↔ j.val ≤ i.val :=
    WordCmp.cmpi_sle_ofNat_eq_one_iff (by omega) (by omega)
  simp only [Scalar.select, h1]
  rfl

theorem reduces_row : S8x4x2x2048x2048.Reduces [4] S8x4x2x2048 := by decide

theorem rM_apply (S : SB) (b : Fin 8) (h : Fin 4) (t : Fin 2) (i : Fin 2048) :
    rM S (ix4 b h t i) = (univ : Finset (Fin 2048)).fold max ⊥ (fun x => S (ix5 b h t i x)) := by
  unfold rM
  rw [Host.reduce_eq_fold_single FloatOps.maximumf S _ reducesTo_S8x4x2x2048x2048_S8x4x2x2048_d4 reduces_row]
  have hf : (S ∘ reduces_row.lift (ix4 b h t i)) = fun k : Fin 2048 => S (ix5 b h t i k) := by
    refine funext fun k => congrArg S ?_
    funext a
    fin_cases a <;> rfl
  exact congrArg (fun f => Finset.fold max (⊥ : EReal) f (Finset.univ : Finset (Fin 2048))) hf

theorem max_apply (u v : RB) (x) : maximumf u v x = max (u x) (v x) := rfl
theorem bot_apply (x) : (broadcastInDim S8x4x2x2048 ![] bcast_S_S8x4x2x2048 ((constant S_ .f32 0xFF800000#32)) : RB) x = ⊥ := rfl
theorem rN_apply (S : SB) (x) : rN S x = max ⊥ (rM S x) := by
  unfold rN
  rw [max_apply, bot_apply]

theorem rX_apply (S : SB) (M : RB) (b : Fin 8) (h : Fin 4) (t : Fin 2) (i j : Fin 2048) :
    rX S M (ix5 b h t i j) = Ideal.exp (S (ix5 b h t i j) - M (ix4 b h t i)) := by
  unfold rX
  pointwise

theorem rP_apply (E : SB) (b : Fin 8) (h : Fin 4) (t : Fin 2) (i j : Fin 2048) :
    rP E (ix5 b h t i j) = Ideal.div (E (ix5 b h t i j)) (∑ x, E (ix5 b h t i x)) := by
  unfold rP
  pointwise

theorem rLam_apply (l0 l1 l2 l3 : FVec Ideal S1x64 .f32) (x : S_.Idx) :
    rLam l0 l1 l2 l3 x = Ideal.exp (∑ x, ∑ y, l0 (ix2 x y) * l1 (ix2 x y)) - Ideal.exp (∑ x, ∑ y, l2 (ix2 x y) * l3 (ix2 x y))
      + Ideal.ofBits .f32 1045220557#32 := by
  unfold rLam
  pointwise

theorem rO_apply (dv : FVec Ideal S64x512x256 .bf16) (P : SB) (lam : FVec Ideal S_ .f32) (b : Fin 8) (i : Fin 2048) (h : Fin 4) (d : Fin 128) :
    rO dv P lam (ix4 b i h d) = ∑ x : Fin 2048,
      dv (ix3 ⟨b.val * 8 + x.val / 256, by omega⟩ ⟨h.val * 128 + d.val, by omega⟩ ⟨x.val % 256, by omega⟩)
        * (P (ix5 b h 0 i x) - lam ix0 * P (ix5 b h 1 i x)) := by
  unfold rO
  pointwise

theorem rFin_apply (o : RO) (g : FVec Ideal S1x128 .f32) (gate : FVec Ideal S16384x2048 .bf16) (r : Fin 16384) (d : Fin 512) :
    rFin o g gate (ix2 r d)
      = o (ix4 ⟨r.val / 2048, by omega⟩ ⟨r.val % 2048, by omega⟩ ⟨d.val / 128, by omega⟩ ⟨d.val % 128, by omega⟩)
        * Ideal.rsqrt (Ideal.div (∑ x,
            o (ix4 ⟨r.val / 2048, by omega⟩ ⟨r.val % 2048, by omega⟩ ⟨d.val / 128, by omega⟩ x)
              * o (ix4 ⟨r.val / 2048, by omega⟩ ⟨r.val % 2048, by omega⟩ ⟨d.val / 128, by omega⟩ x))
            (Ideal.ofBits .f32 1124073472#32) + Ideal.ofBits .f32 925353388#32)
        * g (ix2 0 ⟨d.val % 128, by omega⟩) * Ideal.ofBits .f32 1061997773#32 * gate (ix2 r ⟨1024 + d.val, by omega⟩) := by
  unfold rFin
  pointwise

end Cert.Diff
-- ==== Proof.Diff.Softmax.lean ====
/-
  The reference's attention over finite queries, keys and values, as real numbers: each weight of the softmax, and the
  difference of the two attentions applied to the values.
-/
module

public import proofs.«01_k».proof.Proof.Diff.Ref
public import proofs.«01_k».proof.Proof.Diff.Online

@[expose] public section

set_option maxRecDepth 16384

noncomputable section

namespace Cert.Diff

open Idealize Idealize.ShloMosaic Finset

/-- The score of query `i` and key `j` of batch `b` in component `t` of head `h`. -/
def score (xq xk : ℕ → ℕ → ℝ) (b h t i j : ℕ) : ℝ :=
  ∑ x : Fin 64, xq (b * 2048 + i) (h * 128 + t * 64 + x.val) * xk (b * 2048 + j) (h * 128 + t * 64 + x.val)

/-- Entry `d` of the value of key `j`. -/
def value (xv : ℕ → ℕ → ℕ → ℝ) (b h d j : ℕ) : ℝ := xv (b * 8 + j / 256) (h * 128 + d) (j % 256)

/-- The two attentions' difference. -/
def attn (xq xk : ℕ → ℕ → ℝ) (xv : ℕ → ℕ → ℕ → ℝ) (lam : ℝ) (b i h d : ℕ) : ℝ :=
  (∑ j ∈ range (i + 1), weight (score xq xk b h 0 i) (i + 1) j * value xv b h d j)
    - lam * ∑ j ∈ range (i + 1), weight (score xq xk b h 1 i) (i + 1) j * value xv b h d j

/-- A sum over the keys not after `i`. -/
theorem sum_seen (f : ℕ → ℝ) (i : Fin 2048) :
    (∑ x : Fin 2048, if x.val ≤ i.val then f x.val else 0) = ∑ j ∈ range (i.val + 1), f j := by
  have := span_sum (C := 2048) f 0 (i.val + 1) (by omega) (by omega)
  rw [← this, sum_range_zero, zero_add]
  refine sum_congr rfl fun x _ => ?_
  simp only [zero_add, Nat.lt_succ_iff]

/-- A row of the softmax of masked real scores. -/
theorem softmax_row (S : SB) (b : Fin 8) (h : Fin 4) (t : Fin 2) (i : Fin 2048) (s : ℕ → ℝ)
    (hS : ∀ j : Fin 2048, S (ix5 b h t i j) = if j.val ≤ i.val then (s j.val : EReal) else ⊥) (j : Fin 2048) :
    rP (rX S (rN S)) (ix5 b h t i j) = ((if j.val ≤ i.val then weight s (i.val + 1) j.val else 0 : ℝ) : EReal) := by
  obtain ⟨μ, hμ⟩ := max_real (fun x => S (ix5 b h t i x)) (fun x => by rw [hS]; split_ifs <;> simp)
    ⟨i, by rw [hS, if_pos le_rfl]; simp⟩ ⊥ bot_ne_top
  have hN : rN S (ix4 b h t i) = (μ : EReal) := by rw [rN_apply, rM_apply, hμ]
  have hE : ∀ x, rX S (rN S) (ix5 b h t i x) = ((if x.val ≤ i.val then Real.exp (s x.val - μ) else 0 : ℝ) : EReal) := by
    intro x
    rw [rX_apply, hN, hS]
    split_ifs
    · rw [← EReal.coe_sub, Ideal.exp_coe]
    · rw [EReal.bot_sub, Ideal.exp_bot, EReal.coe_zero]
  rw [rP_apply]
  have hT : ∑ x, rX S (rN S) (ix5 b h t i x) = ((∑ j ∈ range (i.val + 1), Real.exp (s j - μ) : ℝ) : EReal) := by
    rw [← sum_seen (fun j => Real.exp (s j - μ)) i, coe_sum]
    exact sum_congr rfl fun x _ => hE x
  have hp := sum_exp_pos (fun j => s j - μ) (Nat.succ_pos i.val)
  rw [hE, hT, Ideal.div_coe hp.ne', ← EReal.coe_mul]
  refine congrArg Real.toEReal ?_
  rw [ite_mul, zero_mul]
  split_ifs
  · rw [← weight_base s (i.val + 1) j.val μ, mul_one_div]
  · rfl

variable {dq dk : FVec Ideal Cert.DiffRefIdeal.S16384x512 .bf16} {dv : FVec Ideal Cert.DiffRefIdeal.S64x512x256 .bf16} {xq xk : ℕ → ℕ → ℝ} {xv : ℕ → ℕ → ℕ → ℝ}
  (hq : ∀ r c, dq (ix2 r c) = (xq r.val c.val : EReal)) (hk : ∀ r c, dk (ix2 r c) = (xk r.val c.val : EReal))
  (hv : ∀ a r c, dv (ix3 a r c) = (xv a.val r.val c.val : EReal))

include hq hk in
/-- The reference's weights. -/
theorem ref_weights (b : Fin 8) (h : Fin 4) (t : Fin 2) (i j : Fin 2048) :
    rP (rX (rS dq dk) (rN (rS dq dk))) (ix5 b h t i j)
      = ((if j.val ≤ i.val then weight (score xq xk b h t i) (i.val + 1) j.val else 0 : ℝ) : EReal) := by
  refine softmax_row _ b h t i _ (fun j => ?_) j
  rw [rS_apply]
  simp only [hq, hk]
  refine if_congr Iff.rfl ?_ rfl
  unfold score
  rw [coe_sum]
  exact sum_congr rfl fun x _ => (EReal.coe_mul _ _).symm

include hq hk hv in
/-- The reference's attention. -/
theorem ref_attn (lam : FVec Ideal Cert.DiffRefIdeal.S_ .f32) (la : ℝ) (hl : lam ix0 = (la : EReal)) (b : Fin 8) (i : Fin 2048) (h : Fin 4)
    (d : Fin 128) : rO dv (rP (rX (rS dq dk) (rN (rS dq dk)))) lam (ix4 b i h d) = (attn xq xk xv la b i h d : EReal) := by
  rw [rO_apply]
  simp only [ref_weights hq hk, hv, hl]
  have e : ∀ x : Fin 2048, (xv (b.val * 8 + x.val / 256) (h.val * 128 + d.val) (x.val % 256) : EReal)
      * (((if x.val ≤ i.val then weight (score xq xk b h (0 : Fin 2).val i) (i.val + 1) x.val else 0 : ℝ) : EReal)
        - (la : EReal) * ((if x.val ≤ i.val then weight (score xq xk b h (1 : Fin 2).val i) (i.val + 1) x.val else 0 : ℝ) : EReal))
      = ((if x.val ≤ i.val then weight (score xq xk b h 0 i) (i.val + 1) x.val * value xv b h d x.val
          - la * (weight (score xq xk b h 1 i) (i.val + 1) x.val * value xv b h d x.val) else 0 : ℝ) : EReal) := by
    intro x
    rw [← EReal.coe_mul, ← EReal.coe_sub, ← EReal.coe_mul]
    refine congrArg Real.toEReal ?_
    unfold value
    split_ifs
    · show _ * (weight (score xq xk b h 0 i) _ _ - la * weight (score xq xk b h 1 i) _ _) = _
      ring
    · ring
  rw [sum_congr rfl fun x _ => e x, ← coe_sum, sum_seen (fun j => weight (score xq xk b h 0 i) (i.val + 1) j * value xv b h d j
          - la * (weight (score xq xk b h 1 i) (i.val + 1) j * value xv b h d j)) i, sum_sub_distrib, ← mul_sum]
  rfl

end Cert.Diff
-- ==== Proof.Diff.Tile.lean ====
/-
  One grid point over finite queries, keys and values: its blocks as real numbers, the scores of the masked queries, and
  what each head's store holds.
-/
module

public import proofs.«01_k».proof.Proof.Diff.Reads
public import proofs.«01_k».proof.Proof.Diff.Out
public import proofs.«01_k».proof.Proof.Diff.Softmax

@[expose] public section

set_option maxRecDepth 16384

noncomputable section

namespace Cert.Diff

open Idealize Idealize.ShloMosaic Cert.DiffIdeal Cert.DiffIdeal.Gen Finset

/-- The blocks of queries, keys and values of the point at batch `b` and row tile `qi`. -/
structure Blocks (xq xk : ℕ → ℕ → ℝ) (xv : ℕ → ℕ → ℕ → ℝ) (b qi : ℕ) (x4 : FVec Ideal S256x512 .bf16)
    (x5 : FVec Ideal S2048x512 .bf16) (x6 : FVec Ideal S8x512x256 .bf16) : Prop where
  queries : ∀ (r : Fin 256) (k : Fin 512), x4 (ix2 r k) = (xq (b * 2048 + (256 * qi + r.val)) k.val : EReal)
  keys : ∀ (r : Fin 2048) (k : Fin 512), x5 (ix2 r k) = (xk (b * 2048 + r.val) k.val : EReal)
  values : ∀ (a : Fin 8) (k : Fin 512) (x : Fin 256), x6 (ix3 a k x) = (xv (b * 8 + a.val) k.val x.val : EReal)

/-- The scores of each score column: component 0 in the first 256 columns, component 1 in the others. -/
def cs (xq xk : ℕ → ℕ → ℝ) (b qi : ℕ) : Fin 4 → Fin 512 → ℕ → ℝ :=
  fun h c j => score xq xk b h.val (c.val / 256) (256 * qi + c.val % 256) j
/-- The values of each channel. -/
def cv (xv : ℕ → ℕ → ℕ → ℝ) (b : ℕ) : Fin 4 → Fin 128 → ℕ → ℝ := fun h d j => value xv b h.val d.val j

/-- A masked query keeps the lanes of its own component. -/
theorem masked_query (x : FVec Ideal S256x128 .bf16) (f : ℕ → ℕ → ℝ) (hx : ∀ r e, x (ix2 r e) = (f r.val e.val : EReal))
    (c : Fin 512) (e : Fin 128) : k0_pay149 (F := Ideal) x (ix2 c e)
      = ((if e.val / 64 = c.val / 256 then f (c.val % 256) e.val else 0 : ℝ) : EReal) := by
  rw [q0_apply]
  by_cases h : c.val < 256
  · rw [dif_pos h, hx]
    have h1 : c.val % 256 = c.val := by omega
    by_cases he : e.val < 64
    · rw [if_pos he, if_pos (by omega)]; simp only [h1]
    · rw [if_neg he, if_neg (by omega), EReal.coe_zero]
  · rw [dif_neg h, hx]
    have h1 : c.val % 256 = c.val - 256 := by omega
    by_cases he : 64 ≤ e.val
    · rw [if_pos he, if_pos (by omega)]; simp only [h1]
    · rw [if_neg he, if_neg (by omega), EReal.coe_zero]

/-- A sum over one component's lanes. -/
theorem half_sum (f : ℕ → ℝ) (t : ℕ) (ht : t < 2) :
    (∑ e : Fin 128, if e.val / 64 = t then f e.val else 0) = ∑ x : Fin 64, f (t * 64 + x.val) := by
  have e := Fin.sum_univ_add (a := 64) (b := 64) fun e : Fin 128 => if e.val / 64 = t then f e.val else 0
  refine e.trans ?_
  simp only [Fin.val_castAdd, Fin.val_natAdd]
  have h0 : ∀ x : Fin 64, x.val / 64 = 0 := fun x => by omega
  have h1 : ∀ x : Fin 64, (64 + x.val) / 64 = 1 := fun x => by omega
  simp only [h0, h1]
  interval_cases t <;> simp

variable {xq xk : ℕ → ℕ → ℝ} {xv : ℕ → ℕ → ℕ → ℝ} {b qi : ℕ} {x4 : FVec Ideal S256x512 .bf16}
  {x5 : FVec Ideal S2048x512 .bf16} {x6 : FVec Ideal S8x512x256 .bf16}

/-- The scores and values that the loops meet. -/
theorem Blocks.data (B : Blocks xq xk xv b qi x4 x5 x6) (q : Fin 4 → KB)
    (hq : ∀ h c e, q h (ix2 c e)
      = ((if e.val / 64 = c.val / 256 then xq (b * 2048 + (256 * qi + c.val % 256)) (128 * h.val + e.val) else 0 : ℝ) : EReal)) :
    Data q x5 x6 (cs xq xk b qi) (cv xv b) where
  score h c j := by
    have e : ∀ e : Fin 128, x5 (ix2 j ⟨128 * h.val + e.val, by omega⟩) * q h (ix2 c e)
        = ((if e.val / 64 = c.val / 256 then xq (b * 2048 + (256 * qi + c.val % 256)) (128 * h.val + e.val)
            * xk (b * 2048 + j.val) (128 * h.val + e.val) else 0 : ℝ) : EReal) := by
      intro e
      rw [B.keys, hq, ← EReal.coe_mul]
      refine congrArg Real.toEReal ?_
      rw [mul_ite, mul_zero, mul_comm]
    rw [sum_congr rfl fun x _ => e x, ← coe_sum, half_sum (fun e => xq (b * 2048 + (256 * qi + c.val % 256)) (128 * h.val + e)
            * xk (b * 2048 + j.val) (128 * h.val + e)) _ (by omega)]
    unfold cs score
    refine congrArg Real.toEReal (sum_congr rfl fun x _ => ?_)
    have : 128 * h.val + (c.val / 256 * 64 + x.val) = h.val * 128 + c.val / 256 * 64 + x.val := by omega
    rw [this]
  value h d a x := by
    rw [B.values]
    unfold cv value
    refine congrArg Real.toEReal ?_
    have h1 : (256 * a.val + x.val) / 256 = a.val := by omega
    have h2 : (256 * a.val + x.val) % 256 = x.val := by omega
    have h3 : 128 * h.val + d.val = h.val * 128 + d.val := by omega
    rw [h1, h2, ← h3]

/-- A block of 128 columns of a staged block. -/
theorem read_slice {arg : Memref sig .tc .vmem S256x512 .bf16} (harg : arg.IsWhole) (x : FVec Ideal S256x512 .bf16) (n : ℕ)
    (inb : ∀ a, (![0, n] : Fin 2 → ℕ) a + S256x128.size a ≤ S256x512.size a) (r : Fin 256) (d : Fin 128) :
    (View.readAt (Elt Ideal) arg.view (Rect.unit (s := S256x512) ![0, n] S256x128.size inb).toLoadRect (harg.unread x)
      : FVec Ideal S256x128 .bf16) (ix2 r d) = x (ix2 r ⟨n + d.val, by have h : n + 128 ≤ 512 := inb 1; omega⟩) := by
  refine Eq.trans (harg.readAt_unread (Val := Elt Ideal) x (Rect.unit (s := S256x512) ![0, n] S256x128.size inb).toLoadRect (ix2 r d)) (congrArg x (funext fun a => Fin.ext ?_))
  fin_cases a
  · show 0 + 1 * r.val = r.val; omega
  · show n + 1 * d.val = n + d.val; omega

/-- A row read whole. -/
theorem read_64 {arg : Memref sig .tc .vmem S1x64 .f32} (harg : arg.IsWhole) (x : FVec Ideal S1x64 .f32)
    (inb : ∀ a, (![0, 0] : Fin 2 → ℕ) a + S1x64.size a ≤ S1x64.size a) :
    (View.readAt (Elt Ideal) arg.view (Rect.unit (s := S1x64) ![0, 0] S1x64.size inb).toLoadRect (harg.unread x)
      : FVec Ideal S1x64 .f32) = x := by
  funext y
  refine Eq.trans (harg.readAt_unread (Val := Elt Ideal) x (Rect.unit (s := S1x64) ![0, 0] S1x64.size inb).toLoadRect y) (congrArg x (funext fun a => Fin.ext ?_))
  fin_cases a
  · show 0 + 1 * (y 0).val = (y 0).val; omega
  · show 0 + 1 * (y 1).val = (y 1).val; omega
theorem read_128 {arg : Memref sig .tc .vmem S1x128 .f32} (harg : arg.IsWhole) (x : FVec Ideal S1x128 .f32)
    (inb : ∀ a, (![0, 0] : Fin 2 → ℕ) a + S1x128.size a ≤ S1x128.size a) :
    (View.readAt (Elt Ideal) arg.view (Rect.unit (s := S1x128) ![0, 0] S1x128.size inb).toLoadRect (harg.unread x)
      : FVec Ideal S1x128 .f32) = x := by
  funext y
  refine Eq.trans (harg.readAt_unread (Val := Elt Ideal) x (Rect.unit (s := S1x128) ![0, 0] S1x128.size inb).toLoadRect y) (congrArg x (funext fun a => Fin.ext ?_))
  fin_cases a
  · show 0 + 1 * (y 0).val = (y 0).val; omega
  · show 0 + 1 * (y 1).val = (y 1).val; omega

variable {lam : FVec Ideal S1x1 .f32} {a : AB} {m l : MB} {la : ℝ}

/-- The difference of the two components is the attention's. -/
theorem on_real (h : Fin 4) (hst : StV (cs xq xk b qi h) (cv xv b h) (fun c => 256 * qi + (c.val % 256 + 1)) m l a)
    (hl : lam (ix2 0 0) = (la : EReal)) (r : Fin 256) (d : Fin 128) :
    onP lam a l r d = (attn xq xk xv la b (256 * qi + r.val) h.val d.val : EReal) := by
  have q0 := (hst ⟨r.val, by omega⟩ d).quotient (Nat.succ_pos _)
  have q1 := (hst ⟨256 + r.val, by omega⟩ d).quotient (Nat.succ_pos _)
  have s0 : cs xq xk b qi h ⟨r.val, by omega⟩ = score xq xk b h.val 0 (256 * qi + r.val) := by
    funext j
    unfold cs
    have h1 : r.val / 256 = 0 := by omega
    have h2 : r.val % 256 = r.val := by omega
    simp only [h1, h2]
  have s1 : cs xq xk b qi h ⟨256 + r.val, by omega⟩ = score xq xk b h.val 1 (256 * qi + r.val) := by
    funext j
    unfold cs
    have h1 : (256 + r.val) / 256 = 1 := by omega
    have h2 : (256 + r.val) % 256 = r.val := by omega
    simp only [h1, h2]
  have n0 : 256 * qi + (r.val % 256 + 1) = 256 * qi + r.val + 1 := by omega
  have n1 : 256 * qi + ((256 + r.val) % 256 + 1) = 256 * qi + r.val + 1 := by omega
  simp only [s0, n0] at q0
  simp only [s1, n1] at q1
  unfold onP
  rw [q0, q1, hl, ← EReal.coe_mul, ← EReal.coe_sub]
  rfl

/-- The norm of one head at one entry, times the gate. -/
def normed (o : ℕ → EReal) (d : ℕ) (gd gt : EReal) : EReal :=
  o d * Ideal.rsqrt (Ideal.div (∑ x : Fin 128, o x.val * o x.val) (Ideal.ofBits .f32 1124073472#32)
    + Ideal.ofBits .f32 925353388#32) * gd * Ideal.ofBits .f32 1061997773#32 * gt

/-- What the point leaves in its block of the result. -/
def want (xq xk : ℕ → ℕ → ℝ) (xv : ℕ → ℕ → ℕ → ℝ) (la : ℝ) (b qi : ℕ) (x7 : FVec Ideal S256x512 .bf16)
    (x8 : FVec Ideal S1x128 .f32) (y : S256x512.Idx) : EReal :=
  normed (fun e => (attn xq xk xv la b (256 * qi + (y 0).val) ((y 1).val / 128) e : EReal)) ((y 1).val % 128)
    (x8 (ix2 0 ⟨(y 1).val % 128, Nat.mod_lt _ (by norm_num)⟩)) (x7 y)

/-- One head's store holds its columns of it. -/
theorem piece (h : Fin 4) (hst : StV (cs xq xk b qi h) (cv xv b h) (fun c => 256 * qi + (c.val % 256 + 1)) m l a)
    (hl : lam (ix2 0 0) = (la : EReal)) (x7 : FVec Ideal S256x512 .bf16) (x8 : FVec Ideal S1x128 .f32)
    (gate : FVec Ideal S256x128 .bf16) (n : ℕ) (hn : n = 128 * h.val)
    (inb : ∀ a, (![0, n] : Fin 2 → ℕ) a + S256x128.size a ≤ S256x512.size a)
    (hg : ∀ r d, gate (ix2 r d) = x7 (ix2 r ⟨n + d.val, by omega⟩)) (x : S256x128.Idx) :
    outP lam a l x8 gate x = want xq xk xv la b qi x7 x8 ((Rect.unit (s := S256x512) ![0, n] S256x128.size inb).emb x) := by
  subst hn
  obtain ⟨r, d, rfl⟩ : ∃ r d, x = ix2 r d := ⟨_, _, eq_ix2 x⟩
  have e : (Rect.unit (s := S256x512) ![0, 128 * h.val] S256x128.size inb).emb (ix2 r d)
      = ix2 r ⟨128 * h.val + d.val, by omega⟩ := by
    funext k
    refine Fin.ext ?_
    fin_cases k
    · show 0 + 1 * r.val = r.val; omega
    · show 128 * h.val + 1 * d.val = 128 * h.val + d.val; omega
  have h1 : (128 * h.val + d.val) / 128 = h.val := by omega
  have h2 : (128 * h.val + d.val) % 128 = d.val := by omega
  rw [e, outP_apply]
  simp only [on_real h hst hl, hg]
  unfold want normed
  simp only [ix2_0, ix2_1, h1, h2]

end Cert.Diff
-- ==== Proof.Diff.Trip.lean ====
/-
  The loop over pairs of tiles before the diagonal: one trip carries each head's scratch over 512 more keys, and so
  the loop carries it over all the keys before the last one or two tiles.
-/
module

public import proofs.«01_k».proof.Proof.Gen.DiffIdeal.Loops
public import proofs.«01_k».proof.Proof.Diff.Reads
public import proofs.«01_k».proof.Proof.Diff.Pieces

@[expose] public section

set_option maxRecDepth 16384

noncomputable section

namespace Cert.Diff

open Idealize Idealize.ShloMosaic Cert.DiffIdeal Cert.DiffIdeal.Gen Finset

section
variable (𝒱 : Variants) (c : Dev nD) (bd : Option 𝒱.V) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S256x512 .bf16) (harg6 : arg6.IsWhole) (arg7 : Memref sig .tc .vmem S2048x512 .bf16) (harg7 : arg7.IsWhole) (arg8 : Memref sig .tc .vmem S8x512x256 .bf16) (harg8 : arg8.IsWhole) (arg9 : Memref sig .tc .vmem S256x512 .bf16) (harg9 : arg9.IsWhole) (arg10 : Memref sig .tc .vmem S1x128 .f32) (harg10 : arg10.IsWhole) (arg11 : Memref sig .tc .vmem S256x512 .bf16) (harg11 : arg11.IsWhole) (arg12 : Memref sig .tc .vmem S4x1x512 .f32) (harg12 : arg12.IsWhole) (arg13 : Memref sig .tc .vmem S4x1x512 .f32) (harg13 : arg13.IsWhole) (arg14 : Memref sig .tc .vmem S4x128x512 .f32) (harg14 : arg14.IsWhole) (arg1 : BitVec 32) (v24 : OB) (v33 v42 v51 v60 : KB) (v69 : FVec Ideal S4x128x512 .f32)
  (x5 : FVec Ideal S2048x512 .bf16) (x6 : FVec Ideal S8x512x256 .bf16)
  {s : Fin 4 → Fin 512 → ℕ → ℝ} {v : Fin 4 → Fin 128 → ℕ → ℝ}

/-- One trip: each head's scratch after 512 more keys. -/
theorem trip_inv (ho : ∀ x, v24 (ix2 0 x) = 1) (D : Data ![v33, v42, v51, v60] x5 x6 s v)
    (k : Fin (k0_t1_loop i).trips) (L12 L13 : PM) (L14 : PA)
    (H : Inv s v (fun _ => 512 * k.val) arg12 arg13 arg14 L12 L13 L14) :
    Inv s v (fun _ => 512 * k.val + 512) arg12 arg13 arg14
      ((tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v24 v33 v42 v51 v60 v69 (harg7.unread x5) (harg8.unread x6) k (arg12.view.writes (Elt Ideal) arg12.view.junk L12) (arg13.view.writes (Elt Ideal) arg13.view.junk L13) (arg14.view.writes (Elt Ideal) arg14.view.junk L14)).1 ++ L12)
      ((tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v24 v33 v42 v51 v60 v69 (harg7.unread x5) (harg8.unread x6) k (arg12.view.writes (Elt Ideal) arg12.view.junk L12) (arg13.view.writes (Elt Ideal) arg13.view.junk L13) (arg14.view.writes (Elt Ideal) arg14.view.junk L14)).2.1 ++ L13)
      ((tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v24 v33 v42 v51 v60 v69 (harg7.unread x5) (harg8.unread x6) k (arg12.view.writes (Elt Ideal) arg12.view.junk L12) (arg13.view.writes (Elt Ideal) arg13.view.junk L13) (arg14.view.writes (Elt Ideal) arg14.view.junk L14)).2.2 ++ L14) := by
  obtain ⟨H0, H1, H2, H3⟩ := H
  unfold tripL_k0_t1 trip_k0_t1
  dsimp only [List.cons_append, List.nil_append, trip_k0_t1.sl.cst_145, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.v309, trip_k0_t1.sl.v334, trip_k0_t1.sl.v342, trip_k0_t1.sl.v354, trip_k0_t1.sl.v379, trip_k0_t1.sl.v387, trip_k0_t1.sl.v399, trip_k0_t1.sl.v424, trip_k0_t1.sl.v432]
  refine ⟨?_, ?_, ?_, ?_⟩
  · rw [four_0, four_0, fourA_0]
    rw [up0M, up0L, up0A]
    exact H0.up v24 ho v33 _ _ _ (D.keys512 harg7 0 (off1 i k) rfl (k0_off1_inb i k))
      (D.values harg8 0 (off5 i k) rfl (by omega) (k0_off5_inb i k))
      (fun d x => (D.values harg8 0 (off6 i k) rfl rfl (k0_off6_inb i k) d x).trans (by congr 2; omega))
  · rw [four_1, four_1, fourA_1]
    rw [up1M, up1L, up1A]
    exact H1.up v24 ho v42 _ _ _ (D.keys512 harg7 1 (off2 i k) rfl (k0_off2_inb i k))
      (D.values harg8 1 (off7 i k) rfl (by omega) (k0_off7_inb i k))
      (fun d x => (D.values harg8 1 (off8 i k) rfl rfl (k0_off8_inb i k) d x).trans (by congr 2; omega))
  · rw [four_2, four_2, fourA_2]
    rw [up2M, up2L, up2A]
    exact H2.up v24 ho v51 _ _ _ (D.keys512 harg7 2 (off3 i k) rfl (k0_off3_inb i k))
      (D.values harg8 2 (off9 i k) rfl (by omega) (k0_off9_inb i k))
      (fun d x => (D.values harg8 2 (off10 i k) rfl rfl (k0_off10_inb i k) d x).trans (by congr 2; omega))
  · rw [four_3, four_3, fourA_3]
    rw [up3M, up3L, up3A]
    exact H3.up v24 ho v60 _ _ _ (D.keys512 harg7 3 (off4 i k) rfl (k0_off4_inb i k))
      (D.values harg8 3 (off11 i k) rfl (by omega) (k0_off11_inb i k))
      (fun d x => (D.values harg8 3 (off12 i k) rfl rfl (k0_off12_inb i k) d x).trans (by congr 2; omega))

/-- The loop: each head's scratch after `512 * n` keys. -/
theorem loop_inv (ho : ∀ x, v24 (ix2 0 x) = 1) (D : Data ![v33, v42, v51, v60] x5 x6 s v) (L12 L13 : PM) (L14 : PA)
    (H : Inv s v (fun _ => 0) arg12 arg13 arg14 L12 L13 L14) (n : ℕ) (hn : n ≤ (k0_t1_loop i).trips) :
    Inv s v (fun _ => 512 * n) arg12 arg13 arg14
      ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v24 v33 v42 v51 v60 v69 (harg7.unread x5) (harg8.unread x6) (arg12.view.writes (Elt Ideal) arg12.view.junk L12) (arg13.view.writes (Elt Ideal) arg13.view.junk L13) (arg14.view.writes (Elt Ideal) arg14.view.junk L14) n).1 ++ L12)
      ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v24 v33 v42 v51 v60 v69 (harg7.unread x5) (harg8.unread x6) (arg12.view.writes (Elt Ideal) arg12.view.junk L12) (arg13.view.writes (Elt Ideal) arg13.view.junk L13) (arg14.view.writes (Elt Ideal) arg14.view.junk L14) n).2.1 ++ L13)
      ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v24 v33 v42 v51 v60 v69 (harg7.unread x5) (harg8.unread x6) (arg12.view.writes (Elt Ideal) arg12.view.junk L12) (arg13.view.writes (Elt Ideal) arg13.view.junk L13) (arg14.view.writes (Elt Ideal) arg14.view.junk L14) n).2.2 ++ L14) := by
  induction n with
  | zero => exact H
  | succ n ih =>
    have hk : n < (k0_t1_loop i).trips := hn
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v24 v33 v42 v51 v60 v69 (harg7.unread x5) (harg8.unread x6) (arg12.view.writes (Elt Ideal) arg12.view.junk L12) (arg13.view.writes (Elt Ideal) arg13.view.junk L13) (arg14.view.writes (Elt Ideal) arg14.view.junk L14) ⟨n, hk⟩
    dsimp only at e
    rw [e]
    have t := trip_inv 𝒱 c bd i arg2 harg2 arg3 harg3 arg4 harg4 arg5 harg5 arg6 harg6 arg7 harg7 arg8 harg8 arg9 harg9 arg10 harg10 arg11 harg11 arg12 harg12 arg13 harg13 arg14 harg14 arg1 v24 v33 v42 v51 v60 v69 x5 x6 ho D ⟨n, hk⟩ _ _ _ (ih (Nat.le_of_lt hk))
    simp only [View.writes_append] at t
    simp only [List.append_assoc]
    exact t

/-- Both loops, as they are printed: all the tiles before the last pair or the last one. -/
theorem loops_inv (v94 : BitVec 32) (ho : ∀ x, v24 (ix2 0 x) = 1) (D : Data ![v33, v42, v51, v60] x5 x6 s v) (L12 L13 : PM) (L14 : PA)
    (H : Inv s v (fun _ => 0) arg12 arg13 arg14 L12 L13 L14) :
    Inv s v (fun _ => 512 * ((i 1).val / 2)) arg12 arg13 arg14
      ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v24 v33 v42 v51 v60 v69 v94 (harg7.unread x5) (harg8.unread x6) (arg12.view.writes (Elt Ideal) arg12.view.junk ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v24 v33 v42 v51 v60 v69 (harg7.unread x5) (harg8.unread x6) (arg12.view.writes (Elt Ideal) arg12.view.junk L12) (arg13.view.writes (Elt Ideal) arg13.view.junk L13) (arg14.view.writes (Elt Ideal) arg14.view.junk L14) (Scf.trips (k0_t1_loop i).lb (k0_t1_loop i).ub (k0_t1_loop i).st)).1 ++ L12)) (arg13.view.writes (Elt Ideal) arg13.view.junk ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v24 v33 v42 v51 v60 v69 (harg7.unread x5) (harg8.unread x6) (arg12.view.writes (Elt Ideal) arg12.view.junk L12) (arg13.view.writes (Elt Ideal) arg13.view.junk L13) (arg14.view.writes (Elt Ideal) arg14.view.junk L14) (Scf.trips (k0_t1_loop i).lb (k0_t1_loop i).ub (k0_t1_loop i).st)).2.1 ++ L13)) (arg14.view.writes (Elt Ideal) arg14.view.junk ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v24 v33 v42 v51 v60 v69 (harg7.unread x5) (harg8.unread x6) (arg12.view.writes (Elt Ideal) arg12.view.junk L12) (arg13.view.writes (Elt Ideal) arg13.view.junk L13) (arg14.view.writes (Elt Ideal) arg14.view.junk L14) (Scf.trips (k0_t1_loop i).lb (k0_t1_loop i).ub (k0_t1_loop i).st)).2.2 ++ L14)) (Scf.trips (k0_t2_loop i).lb (k0_t2_loop i).ub (k0_t2_loop i).st)).1 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v24 v33 v42 v51 v60 v69 (harg7.unread x5) (harg8.unread x6) (arg12.view.writes (Elt Ideal) arg12.view.junk L12) (arg13.view.writes (Elt Ideal) arg13.view.junk L13) (arg14.view.writes (Elt Ideal) arg14.view.junk L14) (Scf.trips (k0_t1_loop i).lb (k0_t1_loop i).ub (k0_t1_loop i).st)).1 ++ L12))
      ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v24 v33 v42 v51 v60 v69 v94 (harg7.unread x5) (harg8.unread x6) (arg12.view.writes (Elt Ideal) arg12.view.junk ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v24 v33 v42 v51 v60 v69 (harg7.unread x5) (harg8.unread x6) (arg12.view.writes (Elt Ideal) arg12.view.junk L12) (arg13.view.writes (Elt Ideal) arg13.view.junk L13) (arg14.view.writes (Elt Ideal) arg14.view.junk L14) (Scf.trips (k0_t1_loop i).lb (k0_t1_loop i).ub (k0_t1_loop i).st)).1 ++ L12)) (arg13.view.writes (Elt Ideal) arg13.view.junk ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v24 v33 v42 v51 v60 v69 (harg7.unread x5) (harg8.unread x6) (arg12.view.writes (Elt Ideal) arg12.view.junk L12) (arg13.view.writes (Elt Ideal) arg13.view.junk L13) (arg14.view.writes (Elt Ideal) arg14.view.junk L14) (Scf.trips (k0_t1_loop i).lb (k0_t1_loop i).ub (k0_t1_loop i).st)).2.1 ++ L13)) (arg14.view.writes (Elt Ideal) arg14.view.junk ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v24 v33 v42 v51 v60 v69 (harg7.unread x5) (harg8.unread x6) (arg12.view.writes (Elt Ideal) arg12.view.junk L12) (arg13.view.writes (Elt Ideal) arg13.view.junk L13) (arg14.view.writes (Elt Ideal) arg14.view.junk L14) (Scf.trips (k0_t1_loop i).lb (k0_t1_loop i).ub (k0_t1_loop i).st)).2.2 ++ L14)) (Scf.trips (k0_t2_loop i).lb (k0_t2_loop i).ub (k0_t2_loop i).st)).2.1 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v24 v33 v42 v51 v60 v69 (harg7.unread x5) (harg8.unread x6) (arg12.view.writes (Elt Ideal) arg12.view.junk L12) (arg13.view.writes (Elt Ideal) arg13.view.junk L13) (arg14.view.writes (Elt Ideal) arg14.view.junk L14) (Scf.trips (k0_t1_loop i).lb (k0_t1_loop i).ub (k0_t1_loop i).st)).2.1 ++ L13))
      ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v24 v33 v42 v51 v60 v69 v94 (harg7.unread x5) (harg8.unread x6) (arg12.view.writes (Elt Ideal) arg12.view.junk ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v24 v33 v42 v51 v60 v69 (harg7.unread x5) (harg8.unread x6) (arg12.view.writes (Elt Ideal) arg12.view.junk L12) (arg13.view.writes (Elt Ideal) arg13.view.junk L13) (arg14.view.writes (Elt Ideal) arg14.view.junk L14) (Scf.trips (k0_t1_loop i).lb (k0_t1_loop i).ub (k0_t1_loop i).st)).1 ++ L12)) (arg13.view.writes (Elt Ideal) arg13.view.junk ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v24 v33 v42 v51 v60 v69 (harg7.unread x5) (harg8.unread x6) (arg12.view.writes (Elt Ideal) arg12.view.junk L12) (arg13.view.writes (Elt Ideal) arg13.view.junk L13) (arg14.view.writes (Elt Ideal) arg14.view.junk L14) (Scf.trips (k0_t1_loop i).lb (k0_t1_loop i).ub (k0_t1_loop i).st)).2.1 ++ L13)) (arg14.view.writes (Elt Ideal) arg14.view.junk ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v24 v33 v42 v51 v60 v69 (harg7.unread x5) (harg8.unread x6) (arg12.view.writes (Elt Ideal) arg12.view.junk L12) (arg13.view.writes (Elt Ideal) arg13.view.junk L13) (arg14.view.writes (Elt Ideal) arg14.view.junk L14) (Scf.trips (k0_t1_loop i).lb (k0_t1_loop i).ub (k0_t1_loop i).st)).2.2 ++ L14)) (Scf.trips (k0_t2_loop i).lb (k0_t2_loop i).ub (k0_t2_loop i).st)).2.2 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v24 v33 v42 v51 v60 v69 (harg7.unread x5) (harg8.unread x6) (arg12.view.writes (Elt Ideal) arg12.view.junk L12) (arg13.view.writes (Elt Ideal) arg13.view.junk L13) (arg14.view.writes (Elt Ideal) arg14.view.junk L14) (Scf.trips (k0_t1_loop i).lb (k0_t1_loop i).ub (k0_t1_loop i).st)).2.2 ++ L14)) := by
  have h1 : Scf.trips (k0_t1_loop i).lb (k0_t1_loop i).ub (k0_t1_loop i).st = (i 1).val / 2 := trips1 i
  have h2 : Scf.trips (k0_t2_loop i).lb (k0_t2_loop i).ub (k0_t2_loop i).st = 0 := trips2 i
  rw [h2, h1]
  simp only [pb_k0_t2.eq_1, List.nil_append]
  exact loop_inv 𝒱 c bd i arg2 harg2 arg3 harg3 arg4 harg4 arg5 harg5 arg6 harg6 arg7 harg7 arg8 harg8 arg9 harg9 arg10 harg10 arg11 harg11 arg12 harg12 arg13 harg13 arg14 harg14 arg1 v24 v33 v42 v51 v60 v69 x5 x6 ho D L12 L13 L14 H _ (trips1 i).ge

end

/-- The scratch as the kernel fills it at first: no key. -/
theorem fill_inv (s : Fin 4 → Fin 512 → ℕ → ℝ) (v : Fin 4 → Fin 128 → ℕ → ℝ)
    (arg12 arg13 : Memref sig .tc .vmem S4x1x512 .f32) (arg14 : Memref sig .tc .vmem S4x128x512 .f32)
    (inb : ∀ a, (![0, 0, 0] : Fin 3 → ℕ) a + S4x1x512.size a ≤ S4x1x512.size a)
    (inb' : ∀ a, (![0, 0, 0] : Fin 3 → ℕ) a + S4x128x512.size a ≤ S4x128x512.size a) :
    Inv s v (fun _ => 0) arg12 arg13 arg14
      [⟨Rect.unit (s := S4x1x512) ![0, 0, 0] S4x1x512.size inb, k0_pay154 (F := Ideal)⟩]
      [⟨Rect.unit (s := S4x1x512) ![0, 0, 0] S4x1x512.size inb, k0_pay155 (F := Ideal)⟩]
      [⟨Rect.unit (s := S4x128x512) ![0, 0, 0] S4x128x512.size inb', k0_pay157 (k0_pay156 (F := Ideal))⟩] := by
  have z : ∀ a : Fin 3, (![0, 0, 0] : Fin 3 → ℕ) a = 0 := by decide
  have e12 : ∀ x, (k0_pay154 (F := Ideal)) x = ⊥ := fun x => by unfold_payloads; pointwise; exact ofBits_bot
  have e13 : ∀ x, (k0_pay155 (F := Ideal)) x = 0 := fun x => by unfold_payloads; pointwise
  have e14 : ∀ x, k0_pay157 (k0_pay156 (F := Ideal)) x = 0 := fun x => by unfold_payloads; pointwise
  refine ⟨?_, ?_, ?_, ?_⟩
  all_goals
    intro c d
    rw [View.readCov_fill arg12.view inb _ [] _ z, View.readCov_fill arg13.view inb _ [] _ z, View.readCov_fill arg14.view inb' _ [] _ z]
    show St _ _ 0 (k0_pay154 (F := Ideal) _) (k0_pay155 (F := Ideal) _) (k0_pay157 (k0_pay156 (F := Ideal)) _)
    rw [e12, e13, e14]
    exact St.zero _ _

/-- The row of ones that sums the weights. -/
theorem ones_apply (x : Fin 256) : k0_pay148 (F := Ideal) (ix2 0 x) = 1 := by
  unfold_payloads
  pointwise

end Cert.Diff
-- ==== Proof.Diff.CaseA.lean ====
/-
  The scratch of each head at the end of one grid point: the row tile is even (one tile of keys on the diagonal)..
-/
module

public import proofs.«01_k».proof.Proof.Gen.DiffIdeal.Frame.RunA
public import proofs.«01_k».proof.Proof.Diff.Trip

@[expose] public section

set_option maxRecDepth 16384

noncomputable section

namespace Cert.Diff

open Idealize Idealize.ShloMosaic Cert.DiffIdeal Cert.DiffIdeal.Gen Finset

section
variable (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S256x512 .bf16) (harg6 : arg6.IsWhole) (arg7 : Memref sig .tc .vmem S2048x512 .bf16) (harg7 : arg7.IsWhole) (arg8 : Memref sig .tc .vmem S8x512x256 .bf16) (harg8 : arg8.IsWhole) (arg9 : Memref sig .tc .vmem S256x512 .bf16) (harg9 : arg9.IsWhole) (arg10 : Memref sig .tc .vmem S1x128 .f32) (harg10 : arg10.IsWhole) (arg11 : Memref sig .tc .vmem S256x512 .bf16) (harg11 : arg11.IsWhole) (arg12 : Memref sig .tc .vmem S4x1x512 .f32) (harg12 : arg12.IsWhole) (arg13 : Memref sig .tc .vmem S4x1x512 .f32) (harg13 : arg13.IsWhole) (arg14 : Memref sig .tc .vmem S4x128x512 .f32) (harg14 : arg14.IsWhole) (hc1 : cond0_1 i)
  (x4 : FVec Ideal S256x512 .bf16) (x5 : FVec Ideal S2048x512 .bf16) (x6 : FVec Ideal S8x512x256 .bf16)
  {s : Fin 4 → Fin 512 → ℕ → ℝ} {v : Fin 4 → Fin 128 → ℕ → ℝ}

theorem finalA0 (D : Data ![(kernelRun0_A.sl.r_1 (F := Ideal) c arg6 harg6 x4), (kernelRun0_A.sl.r_3 (F := Ideal) c arg6 harg6 x4), (kernelRun0_A.sl.r_4 (F := Ideal) c arg6 harg6 x4), (kernelRun0_A.sl.r_5 (F := Ideal) c arg6 harg6 x4)] x5 x6 s v) (hq : (i 1).val % 2 = 0) :
    ∃ m, StV (s 0) (v 0) (fun c => 256 * (i 1).val + (c.val % 256 + 1)) m
      (kernelRun0_A.sl.v123 (F := Ideal) c i arg2 harg2 arg3 harg3 arg4 harg4 arg5 harg5 arg6 harg6 arg7 harg7 arg8 harg8 arg9 harg9 arg10 harg10 arg11 harg11 arg12 harg12 arg13 harg13 arg14 harg14 hc1 x4 x5 x6) (kernelRun0_A.sl.v121 (F := Ideal) c i arg2 harg2 arg3 harg3 arg4 harg4 arg5 harg5 arg6 harg6 arg7 harg7 arg8 harg8 arg9 harg9 arg10 harg10 arg11 harg11 arg12 harg12 arg13 harg13 arg14 harg14 hc1 x4 x5 x6) := by
  have B := (loops_inv Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k0_pay148 (F := Ideal)) (kernelRun0_A.sl.r_1 (F := Ideal) c arg6 harg6 x4) (kernelRun0_A.sl.r_3 (F := Ideal) c arg6 harg6 x4) (kernelRun0_A.sl.r_4 (F := Ideal) c arg6 harg6 x4) (kernelRun0_A.sl.r_5 (F := Ideal) c arg6 harg6 x4) (k0_pay156 (F := Ideal)) x5 x6 (kernelRun0_A.sl.v94 i) ones_apply D _ _ _ (fill_inv s v arg12 arg13 arg14 inb_S4x1x512_S4x1x512_0_0_0 inb_S4x128x512_S4x128x512_0_0_0)).1
  have n0 : 512 * ((i 1).val / 2) = 256 * (i 1).val := by omega
  rw [n0] at B
  apply Exists.intro
  dsimp only [kernelRun0_A.sl.v123, kernelRun0_A.sl.v121, kernelRun0_A.sl.HS0_1_1, kernelRun0_A.sl.HS0_2, kernelRun0_A.sl.HS0_3, kernelRun0_A.sl.HS1_1_1, kernelRun0_A.sl.HS1_2, kernelRun0_A.sl.HS1_3, kernelRun0_A.sl.HS1_4, kernelRun0_A.sl.HS2_1_1, kernelRun0_A.sl.HS2_2, kernelRun0_A.sl.HS2_3, kernelRun0_A.sl.HS2_4, kernelRun0_A.sl.r_9, kernelRun0_A.sl.r_10, kernelRun0_A.sl.r_11, kernelRun0_A.sl.r_12, kernelRun0_A.sl.v265, kernelRun0_A.sl.v281, kernelRun0_A.sl.v289]
  simp (disch := decide) only [↓View.readCov_skip, View.readCov_cons_toLoadRect]
  rw [on0L, on0A]
  exact B.on _ ones_apply (kernelRun0_A.sl.r_1 (F := Ideal) c arg6 harg6 x4) _ _ (D.keys256 harg7 0 (off37 i) rfl (k0_off37_inb i hc1))
    (D.values harg8 0 (off41 i) rfl rfl (k0_off41_inb i hc1))

theorem finalA1 (D : Data ![(kernelRun0_A.sl.r_1 (F := Ideal) c arg6 harg6 x4), (kernelRun0_A.sl.r_3 (F := Ideal) c arg6 harg6 x4), (kernelRun0_A.sl.r_4 (F := Ideal) c arg6 harg6 x4), (kernelRun0_A.sl.r_5 (F := Ideal) c arg6 harg6 x4)] x5 x6 s v) (hq : (i 1).val % 2 = 0) :
    ∃ m, StV (s 1) (v 1) (fun c => 256 * (i 1).val + (c.val % 256 + 1)) m
      (kernelRun0_A.sl.v155 (F := Ideal) c i arg2 harg2 arg3 harg3 arg4 harg4 arg5 harg5 arg6 harg6 arg7 harg7 arg8 harg8 arg9 harg9 arg10 harg10 arg11 harg11 arg12 harg12 arg13 harg13 arg14 harg14 hc1 x4 x5 x6) (kernelRun0_A.sl.v153 (F := Ideal) c i arg2 harg2 arg3 harg3 arg4 harg4 arg5 harg5 arg6 harg6 arg7 harg7 arg8 harg8 arg9 harg9 arg10 harg10 arg11 harg11 arg12 harg12 arg13 harg13 arg14 harg14 hc1 x4 x5 x6) := by
  have B := (loops_inv Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k0_pay148 (F := Ideal)) (kernelRun0_A.sl.r_1 (F := Ideal) c arg6 harg6 x4) (kernelRun0_A.sl.r_3 (F := Ideal) c arg6 harg6 x4) (kernelRun0_A.sl.r_4 (F := Ideal) c arg6 harg6 x4) (kernelRun0_A.sl.r_5 (F := Ideal) c arg6 harg6 x4) (k0_pay156 (F := Ideal)) x5 x6 (kernelRun0_A.sl.v94 i) ones_apply D _ _ _ (fill_inv s v arg12 arg13 arg14 inb_S4x1x512_S4x1x512_0_0_0 inb_S4x128x512_S4x128x512_0_0_0)).2.1
  have n0 : 512 * ((i 1).val / 2) = 256 * (i 1).val := by omega
  rw [n0] at B
  apply Exists.intro
  dsimp only [kernelRun0_A.sl.v155, kernelRun0_A.sl.v153, kernelRun0_A.sl.HS0_1_1, kernelRun0_A.sl.HS0_2, kernelRun0_A.sl.HS0_3, kernelRun0_A.sl.HS1_1_1, kernelRun0_A.sl.HS1_2, kernelRun0_A.sl.HS1_3, kernelRun0_A.sl.HS1_4, kernelRun0_A.sl.HS2_1_1, kernelRun0_A.sl.HS2_2, kernelRun0_A.sl.HS2_3, kernelRun0_A.sl.HS2_4, kernelRun0_A.sl.r_6, kernelRun0_A.sl.r_13, kernelRun0_A.sl.r_14, kernelRun0_A.sl.r_15, kernelRun0_A.sl.r_16, kernelRun0_A.sl.r_17, kernelRun0_A.sl.v303, kernelRun0_A.sl.v319, kernelRun0_A.sl.v327]
  simp (disch := decide) only [↓View.readCov_skip, View.readCov_cons_toLoadRect]
  rw [on1L, on1A]
  exact B.on _ ones_apply (kernelRun0_A.sl.r_3 (F := Ideal) c arg6 harg6 x4) _ _ (D.keys256 harg7 1 (off38 i) rfl (k0_off38_inb i hc1))
    (D.values harg8 1 (off42 i) rfl rfl (k0_off42_inb i hc1))

theorem finalA2 (D : Data ![(kernelRun0_A.sl.r_1 (F := Ideal) c arg6 harg6 x4), (kernelRun0_A.sl.r_3 (F := Ideal) c arg6 harg6 x4), (kernelRun0_A.sl.r_4 (F := Ideal) c arg6 harg6 x4), (kernelRun0_A.sl.r_5 (F := Ideal) c arg6 harg6 x4)] x5 x6 s v) (hq : (i 1).val % 2 = 0) :
    ∃ m, StV (s 2) (v 2) (fun c => 256 * (i 1).val + (c.val % 256 + 1)) m
      (kernelRun0_A.sl.v187 (F := Ideal) c i arg2 harg2 arg3 harg3 arg4 harg4 arg5 harg5 arg6 harg6 arg7 harg7 arg8 harg8 arg9 harg9 arg10 harg10 arg11 harg11 arg12 harg12 arg13 harg13 arg14 harg14 hc1 x4 x5 x6) (kernelRun0_A.sl.v185 (F := Ideal) c i arg2 harg2 arg3 harg3 arg4 harg4 arg5 harg5 arg6 harg6 arg7 harg7 arg8 harg8 arg9 harg9 arg10 harg10 arg11 harg11 arg12 harg12 arg13 harg13 arg14 harg14 hc1 x4 x5 x6) := by
  have B := (loops_inv Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k0_pay148 (F := Ideal)) (kernelRun0_A.sl.r_1 (F := Ideal) c arg6 harg6 x4) (kernelRun0_A.sl.r_3 (F := Ideal) c arg6 harg6 x4) (kernelRun0_A.sl.r_4 (F := Ideal) c arg6 harg6 x4) (kernelRun0_A.sl.r_5 (F := Ideal) c arg6 harg6 x4) (k0_pay156 (F := Ideal)) x5 x6 (kernelRun0_A.sl.v94 i) ones_apply D _ _ _ (fill_inv s v arg12 arg13 arg14 inb_S4x1x512_S4x1x512_0_0_0 inb_S4x128x512_S4x128x512_0_0_0)).2.2.1
  have n0 : 512 * ((i 1).val / 2) = 256 * (i 1).val := by omega
  rw [n0] at B
  apply Exists.intro
  dsimp only [kernelRun0_A.sl.v187, kernelRun0_A.sl.v185, kernelRun0_A.sl.HS0_1_1, kernelRun0_A.sl.HS0_2, kernelRun0_A.sl.HS0_3, kernelRun0_A.sl.HS1_1_1, kernelRun0_A.sl.HS1_2, kernelRun0_A.sl.HS1_3, kernelRun0_A.sl.HS1_4, kernelRun0_A.sl.HS2_1_1, kernelRun0_A.sl.HS2_2, kernelRun0_A.sl.HS2_3, kernelRun0_A.sl.HS2_4, kernelRun0_A.sl.r_7, kernelRun0_A.sl.r_18, kernelRun0_A.sl.r_19, kernelRun0_A.sl.r_20, kernelRun0_A.sl.v341, kernelRun0_A.sl.v357, kernelRun0_A.sl.v365]
  simp (disch := decide) only [↓View.readCov_skip, View.readCov_cons_toLoadRect]
  rw [on2L, on2A]
  exact B.on _ ones_apply (kernelRun0_A.sl.r_4 (F := Ideal) c arg6 harg6 x4) _ _ (D.keys256 harg7 2 (off39 i) rfl (k0_off39_inb i hc1))
    (D.values harg8 2 (off43 i) rfl rfl (k0_off43_inb i hc1))

theorem finalA3 (D : Data ![(kernelRun0_A.sl.r_1 (F := Ideal) c arg6 harg6 x4), (kernelRun0_A.sl.r_3 (F := Ideal) c arg6 harg6 x4), (kernelRun0_A.sl.r_4 (F := Ideal) c arg6 harg6 x4), (kernelRun0_A.sl.r_5 (F := Ideal) c arg6 harg6 x4)] x5 x6 s v) (hq : (i 1).val % 2 = 0) :
    ∃ m, StV (s 3) (v 3) (fun c => 256 * (i 1).val + (c.val % 256 + 1)) m
      (kernelRun0_A.sl.v219 (F := Ideal) c i arg2 harg2 arg3 harg3 arg4 harg4 arg5 harg5 arg6 harg6 arg7 harg7 arg8 harg8 arg9 harg9 arg10 harg10 arg11 harg11 arg12 harg12 arg13 harg13 arg14 harg14 hc1 x4 x5 x6) (kernelRun0_A.sl.v217 (F := Ideal) c i arg2 harg2 arg3 harg3 arg4 harg4 arg5 harg5 arg6 harg6 arg7 harg7 arg8 harg8 arg9 harg9 arg10 harg10 arg11 harg11 arg12 harg12 arg13 harg13 arg14 harg14 hc1 x4 x5 x6) := by
  have B := (loops_inv Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k0_pay148 (F := Ideal)) (kernelRun0_A.sl.r_1 (F := Ideal) c arg6 harg6 x4) (kernelRun0_A.sl.r_3 (F := Ideal) c arg6 harg6 x4) (kernelRun0_A.sl.r_4 (F := Ideal) c arg6 harg6 x4) (kernelRun0_A.sl.r_5 (F := Ideal) c arg6 harg6 x4) (k0_pay156 (F := Ideal)) x5 x6 (kernelRun0_A.sl.v94 i) ones_apply D _ _ _ (fill_inv s v arg12 arg13 arg14 inb_S4x1x512_S4x1x512_0_0_0 inb_S4x128x512_S4x128x512_0_0_0)).2.2.2
  have n0 : 512 * ((i 1).val / 2) = 256 * (i 1).val := by omega
  rw [n0] at B
  apply Exists.intro
  dsimp only [kernelRun0_A.sl.v219, kernelRun0_A.sl.v217, kernelRun0_A.sl.HS0_1_1, kernelRun0_A.sl.HS0_2, kernelRun0_A.sl.HS0_3, kernelRun0_A.sl.HS1_1_1, kernelRun0_A.sl.HS1_2, kernelRun0_A.sl.HS1_3, kernelRun0_A.sl.HS1_4, kernelRun0_A.sl.HS2_1_1, kernelRun0_A.sl.HS2_2, kernelRun0_A.sl.HS2_3, kernelRun0_A.sl.HS2_4, kernelRun0_A.sl.r_8, kernelRun0_A.sl.r_22, kernelRun0_A.sl.r_23, kernelRun0_A.sl.r_24, kernelRun0_A.sl.cst_210, kernelRun0_A.sl.v379, kernelRun0_A.sl.v395, kernelRun0_A.sl.v403]
  simp (disch := decide) only [↓View.readCov_skip, View.readCov_cons_toLoadRect]
  rw [on3L, on3A]
  exact B.on _ ones_apply (kernelRun0_A.sl.r_5 (F := Ideal) c arg6 harg6 x4) _ _ (D.keys256 harg7 3 (off40 i) rfl (k0_off40_inb i hc1))
    (D.values harg8 3 (off44 i) rfl rfl (k0_off44_inb i hc1))

end

end Cert.Diff
-- ==== Proof.Diff.OutA.lean ====
/-
  What a grid point leaves in its block of the result, where the row tile is even.
-/
module

public import proofs.«01_k».proof.Proof.Gen.DiffIdeal.Frame
public import proofs.«01_k».proof.Proof.Diff.Tile
public import proofs.«01_k».proof.Proof.Diff.CaseA

@[expose] public section

set_option maxRecDepth 16384

noncomputable section

namespace Cert.Diff

open Idealize Idealize.ShloMosaic Cert.DiffIdeal Cert.DiffIdeal.Gen Finset

variable {xq xk : ℕ → ℕ → ℝ} {xv : ℕ → ℕ → ℕ → ℝ} {b : ℕ} {la : ℝ}

/-- What the point leaves in its block: row tile even. -/
theorem outA_eq (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S256x512 .bf16) (harg6 : arg6.IsWhole) (arg7 : Memref sig .tc .vmem S2048x512 .bf16) (harg7 : arg7.IsWhole) (arg8 : Memref sig .tc .vmem S8x512x256 .bf16) (harg8 : arg8.IsWhole) (arg9 : Memref sig .tc .vmem S256x512 .bf16) (harg9 : arg9.IsWhole) (arg10 : Memref sig .tc .vmem S1x128 .f32) (harg10 : arg10.IsWhole) (arg11 : Memref sig .tc .vmem S256x512 .bf16) (harg11 : arg11.IsWhole) (arg12 : Memref sig .tc .vmem S4x1x512 .f32) (harg12 : arg12.IsWhole) (arg13 : Memref sig .tc .vmem S4x1x512 .f32) (harg13 : arg13.IsWhole) (arg14 : Memref sig .tc .vmem S4x128x512 .f32) (harg14 : arg14.IsWhole)
    (hc0 : ¬cond0_0 i) (hc1 : cond0_1 i) (x0 x1 x2 x3 : FVec Ideal S1x64 .f32) (x4 : FVec Ideal S256x512 .bf16) (x5 : FVec Ideal S2048x512 .bf16)
    (x6 : FVec Ideal S8x512x256 .bf16) (x7 : FVec Ideal S256x512 .bf16) (x8 : FVec Ideal S1x128 .f32)
    (B : Blocks xq xk xv b (i 1).val x4 x5 x6) (hl : k0_pay146 (F := Ideal) x0 x1 x2 x3 (ix2 0 0) = (la : EReal))
    (hq : (i 1).val % 2 = 0) (y : S256x512.Idx) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 y = want xq xk xv la b (i 1).val x7 x8 y := by
  have D := B.data ![(kernelRun0_A.sl.r_1 (F := Ideal) c arg6 harg6 x4), (kernelRun0_A.sl.r_3 (F := Ideal) c arg6 harg6 x4), (kernelRun0_A.sl.r_4 (F := Ideal) c arg6 harg6 x4), (kernelRun0_A.sl.r_5 (F := Ideal) c arg6 harg6 x4)] (fun h c e => by
    fin_cases h
    · exact masked_query _ (fun r e => xq (b * 2048 + (256 * (i 1).val + r)) (128 * 0 + e)) (fun r e => (read_slice harg6 x4 0 _ r e).trans (B.queries r _)) c e
    · exact masked_query _ (fun r e => xq (b * 2048 + (256 * (i 1).val + r)) (128 * 1 + e)) (fun r e => (read_slice harg6 x4 128 _ r e).trans (B.queries r _)) c e
    · exact masked_query _ (fun r e => xq (b * 2048 + (256 * (i 1).val + r)) (128 * 2 + e)) (fun r e => (read_slice harg6 x4 256 _ r e).trans (B.queries r _)) c e
    · exact masked_query _ (fun r e => xq (b * 2048 + (256 * (i 1).val + r)) (128 * 3 + e)) (fun r e => (read_slice harg6 x4 384 _ r e).trans (B.queries r _)) c e)
  have hlam : kernelRun0_A.sl.r (F := Ideal) c arg2 harg2 arg3 harg3 arg4 harg4 arg5 harg5 x0 x1 x2 x3 = k0_pay146 (F := Ideal) x0 x1 x2 x3 := by
    dsimp only [kernelRun0_A.sl.r]
    rw [read_64, read_64, read_64, read_64]
  obtain ⟨m0, S0⟩ := (finalA0 c i arg2 harg2 arg3 harg3 arg4 harg4 arg5 harg5 arg6 harg6 arg7 harg7 arg8 harg8 arg9 harg9 arg10 harg10 arg11 harg11 arg12 harg12 arg13 harg13 arg14 harg14 hc1 x4 x5 x6 D hq)
  obtain ⟨m1, S1⟩ := (finalA1 c i arg2 harg2 arg3 harg3 arg4 harg4 arg5 harg5 arg6 harg6 arg7 harg7 arg8 harg8 arg9 harg9 arg10 harg10 arg11 harg11 arg12 harg12 arg13 harg13 arg14 harg14 hc1 x4 x5 x6 D hq)
  obtain ⟨m2, S2⟩ := (finalA2 c i arg2 harg2 arg3 harg3 arg4 harg4 arg5 harg5 arg6 harg6 arg7 harg7 arg8 harg8 arg9 harg9 arg10 harg10 arg11 harg11 arg12 harg12 arg13 harg13 arg14 harg14 hc1 x4 x5 x6 D hq)
  obtain ⟨m3, S3⟩ := (finalA3 c i arg2 harg2 arg3 harg3 arg4 harg4 arg5 harg5 arg6 harg6 arg7 harg7 arg8 harg8 arg9 harg9 arg10 harg10 arg11 harg11 arg12 harg12 arg13 harg13 arg14 harg14 hc1 x4 x5 x6 D hq)
  unfold out0_A_9
  refine View.read_writes_apply_of_pieces _ _ (want xq xk xv la b (i 1).val x7 x8) _ (fun p hp x => ?_) y
    (cover0_A_9 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 y)
  unfold kernelRun0_A at hp
  dsimp only at hp
  rcases List.mem_cons.mp hp with rfl | hp
  · dsimp only [kernelRun0_A.sl.r_27]
    rw [hlam, read_128]
    exact piece 3 S3 hl x7 x8 _ 384 rfl _ (fun r d => read_slice harg9 x7 384 _ r d) x
  rcases List.mem_cons.mp hp with rfl | hp
  · dsimp only
    rw [hlam, read_128]
    exact piece 2 S2 hl x7 x8 _ 256 rfl _ (fun r d => read_slice harg9 x7 256 _ r d) x
  rcases List.mem_cons.mp hp with rfl | hp
  · dsimp only [kernelRun0_A.sl.r_26]
    rw [hlam, read_128]
    exact piece 1 S1 hl x7 x8 _ 128 rfl _ (fun r d => read_slice harg9 x7 128 _ r d) x
  rcases List.mem_cons.mp hp with rfl | hp
  · dsimp only [kernelRun0_A.sl.r_25]
    rw [hlam, read_128]
    exact piece 0 S0 hl x7 x8 _ 0 rfl _ (fun r d => read_slice harg9 x7 0 _ r d) x
  exact absurd hp List.not_mem_nil

end Cert.Diff
-- ==== Proof.Diff.CaseB.lean ====
/-
  The scratch of each head at the end of one grid point: the row tile is odd (the last two tiles of keys together)..
-/
module

public import proofs.«01_k».proof.Proof.Gen.DiffIdeal.Frame.RunB
public import proofs.«01_k».proof.Proof.Diff.Trip

@[expose] public section

set_option maxRecDepth 16384

noncomputable section

namespace Cert.Diff

open Idealize Idealize.ShloMosaic Cert.DiffIdeal Cert.DiffIdeal.Gen Finset

section
variable (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S256x512 .bf16) (harg6 : arg6.IsWhole) (arg7 : Memref sig .tc .vmem S2048x512 .bf16) (harg7 : arg7.IsWhole) (arg8 : Memref sig .tc .vmem S8x512x256 .bf16) (harg8 : arg8.IsWhole) (arg9 : Memref sig .tc .vmem S256x512 .bf16) (harg9 : arg9.IsWhole) (arg10 : Memref sig .tc .vmem S1x128 .f32) (harg10 : arg10.IsWhole) (arg11 : Memref sig .tc .vmem S256x512 .bf16) (harg11 : arg11.IsWhole) (arg12 : Memref sig .tc .vmem S4x1x512 .f32) (harg12 : arg12.IsWhole) (arg13 : Memref sig .tc .vmem S4x1x512 .f32) (harg13 : arg13.IsWhole) (arg14 : Memref sig .tc .vmem S4x128x512 .f32) (harg14 : arg14.IsWhole) (hc0 : cond0_0 i)
  (x4 : FVec Ideal S256x512 .bf16) (x5 : FVec Ideal S2048x512 .bf16) (x6 : FVec Ideal S8x512x256 .bf16)
  {s : Fin 4 → Fin 512 → ℕ → ℝ} {v : Fin 4 → Fin 128 → ℕ → ℝ}

theorem finalB0 (D : Data ![(kernelRun0_B.sl.r_1 (F := Ideal) c arg6 harg6 x4), (kernelRun0_B.sl.r_3 (F := Ideal) c arg6 harg6 x4), (kernelRun0_B.sl.r_4 (F := Ideal) c arg6 harg6 x4), (kernelRun0_B.sl.r_5 (F := Ideal) c arg6 harg6 x4)] x5 x6 s v) (hq : (i 1).val % 2 = 1) :
    ∃ m, StV (s 0) (v 0) (fun c => 256 * (i 1).val + (c.val % 256 + 1)) m
      (kernelRun0_B.sl.v123 (F := Ideal) c i arg2 harg2 arg3 harg3 arg4 harg4 arg5 harg5 arg6 harg6 arg7 harg7 arg8 harg8 arg9 harg9 arg10 harg10 arg11 harg11 arg12 harg12 arg13 harg13 arg14 harg14 hc0 x4 x5 x6) (kernelRun0_B.sl.v121 (F := Ideal) c i arg2 harg2 arg3 harg3 arg4 harg4 arg5 harg5 arg6 harg6 arg7 harg7 arg8 harg8 arg9 harg9 arg10 harg10 arg11 harg11 arg12 harg12 arg13 harg13 arg14 harg14 hc0 x4 x5 x6) := by
  have B := (loops_inv Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k0_pay148 (F := Ideal)) (kernelRun0_B.sl.r_1 (F := Ideal) c arg6 harg6 x4) (kernelRun0_B.sl.r_3 (F := Ideal) c arg6 harg6 x4) (kernelRun0_B.sl.r_4 (F := Ideal) c arg6 harg6 x4) (kernelRun0_B.sl.r_5 (F := Ideal) c arg6 harg6 x4) (k0_pay156 (F := Ideal)) x5 x6 (kernelRun0_B.sl.v94 i) ones_apply D _ _ _ (fill_inv s v arg12 arg13 arg14 inb_S4x1x512_S4x1x512_0_0_0 inb_S4x128x512_S4x128x512_0_0_0)).1
  have n0 : 512 * ((i 1).val / 2) = 256 * ((i 1).val - 1) := by omega
  rw [n0] at B
  apply Exists.intro
  dsimp only [kernelRun0_B.sl.v123, kernelRun0_B.sl.v121, kernelRun0_B.sl.HS0_1_1, kernelRun0_B.sl.HS0_2, kernelRun0_B.sl.HS0_3, kernelRun0_B.sl.HS1_1_1, kernelRun0_B.sl.HS1_2, kernelRun0_B.sl.HS1_3, kernelRun0_B.sl.HS1_4, kernelRun0_B.sl.HS2_1_1, kernelRun0_B.sl.HS2_2, kernelRun0_B.sl.HS2_3, kernelRun0_B.sl.HS2_4, kernelRun0_B.sl.r_9, kernelRun0_B.sl.r_10, kernelRun0_B.sl.r_11, kernelRun0_B.sl.r_12, kernelRun0_B.sl.v269, kernelRun0_B.sl.v294, kernelRun0_B.sl.v302]
  simp (disch := decide) only [↓View.readCov_skip, View.readCov_cons_toLoadRect]
  rw [dg0L, dg0A]
  have e : (fun c : Fin 512 => 256 * (i 1).val + (c.val % 256 + 1)) = fun c => 256 * ((i 1).val - 1) + 256 + (c.val % 256 + 1) := by
    funext c; omega
  rw [e]
  exact B.dg _ ones_apply (kernelRun0_B.sl.r_1 (F := Ideal) c arg6 harg6 x4) _ _ _ (D.keys512 harg7 0 (off25 i hq) rfl (k0_off25_inb i hc0))
    (D.values harg8 0 (off29 i hq) rfl rfl (k0_off29_inb i hc0))
    (fun d x => (D.values harg8 0 (off30 i hq) rfl rfl (k0_off30_inb i hc0) d x).trans (by congr 2; omega))

theorem finalB1 (D : Data ![(kernelRun0_B.sl.r_1 (F := Ideal) c arg6 harg6 x4), (kernelRun0_B.sl.r_3 (F := Ideal) c arg6 harg6 x4), (kernelRun0_B.sl.r_4 (F := Ideal) c arg6 harg6 x4), (kernelRun0_B.sl.r_5 (F := Ideal) c arg6 harg6 x4)] x5 x6 s v) (hq : (i 1).val % 2 = 1) :
    ∃ m, StV (s 1) (v 1) (fun c => 256 * (i 1).val + (c.val % 256 + 1)) m
      (kernelRun0_B.sl.v155 (F := Ideal) c i arg2 harg2 arg3 harg3 arg4 harg4 arg5 harg5 arg6 harg6 arg7 harg7 arg8 harg8 arg9 harg9 arg10 harg10 arg11 harg11 arg12 harg12 arg13 harg13 arg14 harg14 hc0 x4 x5 x6) (kernelRun0_B.sl.v153 (F := Ideal) c i arg2 harg2 arg3 harg3 arg4 harg4 arg5 harg5 arg6 harg6 arg7 harg7 arg8 harg8 arg9 harg9 arg10 harg10 arg11 harg11 arg12 harg12 arg13 harg13 arg14 harg14 hc0 x4 x5 x6) := by
  have B := (loops_inv Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k0_pay148 (F := Ideal)) (kernelRun0_B.sl.r_1 (F := Ideal) c arg6 harg6 x4) (kernelRun0_B.sl.r_3 (F := Ideal) c arg6 harg6 x4) (kernelRun0_B.sl.r_4 (F := Ideal) c arg6 harg6 x4) (kernelRun0_B.sl.r_5 (F := Ideal) c arg6 harg6 x4) (k0_pay156 (F := Ideal)) x5 x6 (kernelRun0_B.sl.v94 i) ones_apply D _ _ _ (fill_inv s v arg12 arg13 arg14 inb_S4x1x512_S4x1x512_0_0_0 inb_S4x128x512_S4x128x512_0_0_0)).2.1
  have n0 : 512 * ((i 1).val / 2) = 256 * ((i 1).val - 1) := by omega
  rw [n0] at B
  apply Exists.intro
  dsimp only [kernelRun0_B.sl.v155, kernelRun0_B.sl.v153, kernelRun0_B.sl.HS0_1_1, kernelRun0_B.sl.HS0_2, kernelRun0_B.sl.HS0_3, kernelRun0_B.sl.HS1_1_1, kernelRun0_B.sl.HS1_2, kernelRun0_B.sl.HS1_3, kernelRun0_B.sl.HS1_4, kernelRun0_B.sl.HS2_1_1, kernelRun0_B.sl.HS2_2, kernelRun0_B.sl.HS2_3, kernelRun0_B.sl.HS2_4, kernelRun0_B.sl.r_6, kernelRun0_B.sl.r_13, kernelRun0_B.sl.r_14, kernelRun0_B.sl.r_15, kernelRun0_B.sl.v319, kernelRun0_B.sl.v344, kernelRun0_B.sl.v352]
  simp (disch := decide) only [↓View.readCov_skip, View.readCov_cons_toLoadRect]
  rw [dg1L, dg1A]
  have e : (fun c : Fin 512 => 256 * (i 1).val + (c.val % 256 + 1)) = fun c => 256 * ((i 1).val - 1) + 256 + (c.val % 256 + 1) := by
    funext c; omega
  rw [e]
  exact B.dg _ ones_apply (kernelRun0_B.sl.r_3 (F := Ideal) c arg6 harg6 x4) _ _ _ (D.keys512 harg7 1 (off26 i hq) rfl (k0_off26_inb i hc0))
    (D.values harg8 1 (off31 i hq) rfl rfl (k0_off31_inb i hc0))
    (fun d x => (D.values harg8 1 (off32 i hq) rfl rfl (k0_off32_inb i hc0) d x).trans (by congr 2; omega))

theorem finalB2 (D : Data ![(kernelRun0_B.sl.r_1 (F := Ideal) c arg6 harg6 x4), (kernelRun0_B.sl.r_3 (F := Ideal) c arg6 harg6 x4), (kernelRun0_B.sl.r_4 (F := Ideal) c arg6 harg6 x4), (kernelRun0_B.sl.r_5 (F := Ideal) c arg6 harg6 x4)] x5 x6 s v) (hq : (i 1).val % 2 = 1) :
    ∃ m, StV (s 2) (v 2) (fun c => 256 * (i 1).val + (c.val % 256 + 1)) m
      (kernelRun0_B.sl.v187 (F := Ideal) c i arg2 harg2 arg3 harg3 arg4 harg4 arg5 harg5 arg6 harg6 arg7 harg7 arg8 harg8 arg9 harg9 arg10 harg10 arg11 harg11 arg12 harg12 arg13 harg13 arg14 harg14 hc0 x4 x5 x6) (kernelRun0_B.sl.v185 (F := Ideal) c i arg2 harg2 arg3 harg3 arg4 harg4 arg5 harg5 arg6 harg6 arg7 harg7 arg8 harg8 arg9 harg9 arg10 harg10 arg11 harg11 arg12 harg12 arg13 harg13 arg14 harg14 hc0 x4 x5 x6) := by
  have B := (loops_inv Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k0_pay148 (F := Ideal)) (kernelRun0_B.sl.r_1 (F := Ideal) c arg6 harg6 x4) (kernelRun0_B.sl.r_3 (F := Ideal) c arg6 harg6 x4) (kernelRun0_B.sl.r_4 (F := Ideal) c arg6 harg6 x4) (kernelRun0_B.sl.r_5 (F := Ideal) c arg6 harg6 x4) (k0_pay156 (F := Ideal)) x5 x6 (kernelRun0_B.sl.v94 i) ones_apply D _ _ _ (fill_inv s v arg12 arg13 arg14 inb_S4x1x512_S4x1x512_0_0_0 inb_S4x128x512_S4x128x512_0_0_0)).2.2.1
  have n0 : 512 * ((i 1).val / 2) = 256 * ((i 1).val - 1) := by omega
  rw [n0] at B
  apply Exists.intro
  dsimp only [kernelRun0_B.sl.v187, kernelRun0_B.sl.v185, kernelRun0_B.sl.HS0_1_1, kernelRun0_B.sl.HS0_2, kernelRun0_B.sl.HS0_3, kernelRun0_B.sl.HS1_1_1, kernelRun0_B.sl.HS1_2, kernelRun0_B.sl.HS1_3, kernelRun0_B.sl.HS1_4, kernelRun0_B.sl.HS2_1_1, kernelRun0_B.sl.HS2_2, kernelRun0_B.sl.HS2_3, kernelRun0_B.sl.HS2_4, kernelRun0_B.sl.r_7, kernelRun0_B.sl.r_16, kernelRun0_B.sl.r_17, kernelRun0_B.sl.r_18, kernelRun0_B.sl.r_19, kernelRun0_B.sl.v369, kernelRun0_B.sl.v394, kernelRun0_B.sl.v402]
  simp (disch := decide) only [↓View.readCov_skip, View.readCov_cons_toLoadRect]
  rw [dg2L, dg2A]
  have e : (fun c : Fin 512 => 256 * (i 1).val + (c.val % 256 + 1)) = fun c => 256 * ((i 1).val - 1) + 256 + (c.val % 256 + 1) := by
    funext c; omega
  rw [e]
  exact B.dg _ ones_apply (kernelRun0_B.sl.r_4 (F := Ideal) c arg6 harg6 x4) _ _ _ (D.keys512 harg7 2 (off27 i hq) rfl (k0_off27_inb i hc0))
    (D.values harg8 2 (off33 i hq) rfl rfl (k0_off33_inb i hc0))
    (fun d x => (D.values harg8 2 (off34 i hq) rfl rfl (k0_off34_inb i hc0) d x).trans (by congr 2; omega))

theorem finalB3 (D : Data ![(kernelRun0_B.sl.r_1 (F := Ideal) c arg6 harg6 x4), (kernelRun0_B.sl.r_3 (F := Ideal) c arg6 harg6 x4), (kernelRun0_B.sl.r_4 (F := Ideal) c arg6 harg6 x4), (kernelRun0_B.sl.r_5 (F := Ideal) c arg6 harg6 x4)] x5 x6 s v) (hq : (i 1).val % 2 = 1) :
    ∃ m, StV (s 3) (v 3) (fun c => 256 * (i 1).val + (c.val % 256 + 1)) m
      (kernelRun0_B.sl.v219 (F := Ideal) c i arg2 harg2 arg3 harg3 arg4 harg4 arg5 harg5 arg6 harg6 arg7 harg7 arg8 harg8 arg9 harg9 arg10 harg10 arg11 harg11 arg12 harg12 arg13 harg13 arg14 harg14 hc0 x4 x5 x6) (kernelRun0_B.sl.v217 (F := Ideal) c i arg2 harg2 arg3 harg3 arg4 harg4 arg5 harg5 arg6 harg6 arg7 harg7 arg8 harg8 arg9 harg9 arg10 harg10 arg11 harg11 arg12 harg12 arg13 harg13 arg14 harg14 hc0 x4 x5 x6) := by
  have B := (loops_inv Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k0_pay148 (F := Ideal)) (kernelRun0_B.sl.r_1 (F := Ideal) c arg6 harg6 x4) (kernelRun0_B.sl.r_3 (F := Ideal) c arg6 harg6 x4) (kernelRun0_B.sl.r_4 (F := Ideal) c arg6 harg6 x4) (kernelRun0_B.sl.r_5 (F := Ideal) c arg6 harg6 x4) (k0_pay156 (F := Ideal)) x5 x6 (kernelRun0_B.sl.v94 i) ones_apply D _ _ _ (fill_inv s v arg12 arg13 arg14 inb_S4x1x512_S4x1x512_0_0_0 inb_S4x128x512_S4x128x512_0_0_0)).2.2.2
  have n0 : 512 * ((i 1).val / 2) = 256 * ((i 1).val - 1) := by omega
  rw [n0] at B
  apply Exists.intro
  dsimp only [kernelRun0_B.sl.v219, kernelRun0_B.sl.v217, kernelRun0_B.sl.HS0_1_1, kernelRun0_B.sl.HS0_2, kernelRun0_B.sl.HS0_3, kernelRun0_B.sl.HS1_1_1, kernelRun0_B.sl.HS1_2, kernelRun0_B.sl.HS1_3, kernelRun0_B.sl.HS1_4, kernelRun0_B.sl.HS2_1_1, kernelRun0_B.sl.HS2_2, kernelRun0_B.sl.HS2_3, kernelRun0_B.sl.HS2_4, kernelRun0_B.sl.r_8, kernelRun0_B.sl.r_21, kernelRun0_B.sl.r_22, kernelRun0_B.sl.r_23, kernelRun0_B.sl.v419, kernelRun0_B.sl.v444, kernelRun0_B.sl.v452]
  simp (disch := decide) only [↓View.readCov_skip, View.readCov_cons_toLoadRect]
  rw [dg3L, dg3A]
  have e : (fun c : Fin 512 => 256 * (i 1).val + (c.val % 256 + 1)) = fun c => 256 * ((i 1).val - 1) + 256 + (c.val % 256 + 1) := by
    funext c; omega
  rw [e]
  exact B.dg _ ones_apply (kernelRun0_B.sl.r_5 (F := Ideal) c arg6 harg6 x4) _ _ _ (D.keys512 harg7 3 (off28 i hq) rfl (k0_off28_inb i hc0))
    (D.values harg8 3 (off35 i hq) rfl rfl (k0_off35_inb i hc0))
    (fun d x => (D.values harg8 3 (off36 i hq) rfl rfl (k0_off36_inb i hc0) d x).trans (by congr 2; omega))

end

end Cert.Diff
-- ==== Proof.Diff.OutB.lean ====
/-
  What a grid point leaves in its block of the result, where the row tile is odd.
-/
module

public import proofs.«01_k».proof.Proof.Gen.DiffIdeal.Frame
public import proofs.«01_k».proof.Proof.Diff.Tile
public import proofs.«01_k».proof.Proof.Diff.CaseB

@[expose] public section

set_option maxRecDepth 16384

noncomputable section

namespace Cert.Diff

open Idealize Idealize.ShloMosaic Cert.DiffIdeal Cert.DiffIdeal.Gen Finset

variable {xq xk : ℕ → ℕ → ℝ} {xv : ℕ → ℕ → ℕ → ℝ} {b : ℕ} {la : ℝ}

/-- What the point leaves in its block: row tile odd. -/
theorem outB_eq (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S256x512 .bf16) (harg6 : arg6.IsWhole) (arg7 : Memref sig .tc .vmem S2048x512 .bf16) (harg7 : arg7.IsWhole) (arg8 : Memref sig .tc .vmem S8x512x256 .bf16) (harg8 : arg8.IsWhole) (arg9 : Memref sig .tc .vmem S256x512 .bf16) (harg9 : arg9.IsWhole) (arg10 : Memref sig .tc .vmem S1x128 .f32) (harg10 : arg10.IsWhole) (arg11 : Memref sig .tc .vmem S256x512 .bf16) (harg11 : arg11.IsWhole) (arg12 : Memref sig .tc .vmem S4x1x512 .f32) (harg12 : arg12.IsWhole) (arg13 : Memref sig .tc .vmem S4x1x512 .f32) (harg13 : arg13.IsWhole) (arg14 : Memref sig .tc .vmem S4x128x512 .f32) (harg14 : arg14.IsWhole)
    (hc0 : cond0_0 i) (hc1 : ¬cond0_1 i) (x0 x1 x2 x3 : FVec Ideal S1x64 .f32) (x4 : FVec Ideal S256x512 .bf16) (x5 : FVec Ideal S2048x512 .bf16)
    (x6 : FVec Ideal S8x512x256 .bf16) (x7 : FVec Ideal S256x512 .bf16) (x8 : FVec Ideal S1x128 .f32)
    (B : Blocks xq xk xv b (i 1).val x4 x5 x6) (hl : k0_pay146 (F := Ideal) x0 x1 x2 x3 (ix2 0 0) = (la : EReal))
    (hq : (i 1).val % 2 = 1) (y : S256x512.Idx) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 y = want xq xk xv la b (i 1).val x7 x8 y := by
  have D := B.data ![(kernelRun0_B.sl.r_1 (F := Ideal) c arg6 harg6 x4), (kernelRun0_B.sl.r_3 (F := Ideal) c arg6 harg6 x4), (kernelRun0_B.sl.r_4 (F := Ideal) c arg6 harg6 x4), (kernelRun0_B.sl.r_5 (F := Ideal) c arg6 harg6 x4)] (fun h c e => by
    fin_cases h
    · exact masked_query _ (fun r e => xq (b * 2048 + (256 * (i 1).val + r)) (128 * 0 + e)) (fun r e => (read_slice harg6 x4 0 _ r e).trans (B.queries r _)) c e
    · exact masked_query _ (fun r e => xq (b * 2048 + (256 * (i 1).val + r)) (128 * 1 + e)) (fun r e => (read_slice harg6 x4 128 _ r e).trans (B.queries r _)) c e
    · exact masked_query _ (fun r e => xq (b * 2048 + (256 * (i 1).val + r)) (128 * 2 + e)) (fun r e => (read_slice harg6 x4 256 _ r e).trans (B.queries r _)) c e
    · exact masked_query _ (fun r e => xq (b * 2048 + (256 * (i 1).val + r)) (128 * 3 + e)) (fun r e => (read_slice harg6 x4 384 _ r e).trans (B.queries r _)) c e)
  have hlam : kernelRun0_B.sl.r (F := Ideal) c arg2 harg2 arg3 harg3 arg4 harg4 arg5 harg5 x0 x1 x2 x3 = k0_pay146 (F := Ideal) x0 x1 x2 x3 := by
    dsimp only [kernelRun0_B.sl.r]
    rw [read_64, read_64, read_64, read_64]
  obtain ⟨m0, S0⟩ := (finalB0 c i arg2 harg2 arg3 harg3 arg4 harg4 arg5 harg5 arg6 harg6 arg7 harg7 arg8 harg8 arg9 harg9 arg10 harg10 arg11 harg11 arg12 harg12 arg13 harg13 arg14 harg14 hc0 x4 x5 x6 D hq)
  obtain ⟨m1, S1⟩ := (finalB1 c i arg2 harg2 arg3 harg3 arg4 harg4 arg5 harg5 arg6 harg6 arg7 harg7 arg8 harg8 arg9 harg9 arg10 harg10 arg11 harg11 arg12 harg12 arg13 harg13 arg14 harg14 hc0 x4 x5 x6 D hq)
  obtain ⟨m2, S2⟩ := (finalB2 c i arg2 harg2 arg3 harg3 arg4 harg4 arg5 harg5 arg6 harg6 arg7 harg7 arg8 harg8 arg9 harg9 arg10 harg10 arg11 harg11 arg12 harg12 arg13 harg13 arg14 harg14 hc0 x4 x5 x6 D hq)
  obtain ⟨m3, S3⟩ := (finalB3 c i arg2 harg2 arg3 harg3 arg4 harg4 arg5 harg5 arg6 harg6 arg7 harg7 arg8 harg8 arg9 harg9 arg10 harg10 arg11 harg11 arg12 harg12 arg13 harg13 arg14 harg14 hc0 x4 x5 x6 D hq)
  unfold out0_B_9
  refine View.read_writes_apply_of_pieces _ _ (want xq xk xv la b (i 1).val x7 x8) _ (fun p hp x => ?_) y
    (cover0_B_9 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 y)
  unfold kernelRun0_B at hp
  dsimp only at hp
  rcases List.mem_cons.mp hp with rfl | hp
  · dsimp only [kernelRun0_B.sl.r_26]
    rw [hlam, read_128]
    exact piece 3 S3 hl x7 x8 _ 384 rfl _ (fun r d => read_slice harg9 x7 384 _ r d) x
  rcases List.mem_cons.mp hp with rfl | hp
  · dsimp only
    rw [hlam, read_128]
    exact piece 2 S2 hl x7 x8 _ 256 rfl _ (fun r d => read_slice harg9 x7 256 _ r d) x
  rcases List.mem_cons.mp hp with rfl | hp
  · dsimp only [kernelRun0_B.sl.r_25]
    rw [hlam, read_128]
    exact piece 1 S1 hl x7 x8 _ 128 rfl _ (fun r d => read_slice harg9 x7 128 _ r d) x
  rcases List.mem_cons.mp hp with rfl | hp
  · dsimp only [kernelRun0_B.sl.r_24]
    rw [hlam, read_128]
    exact piece 0 S0 hl x7 x8 _ 0 rfl _ (fun r d => read_slice harg9 x7 0 _ r d) x
  exact absurd hp List.not_mem_nil

end Cert.Diff
-- ==== Proof.Diff.Final.lean ====
/-
  The result array after the run, over finite arguments: the reference's.
-/
module

public import proofs.«01_k».proof.Proof.Gen.DiffIdeal.Value
public import proofs.«01_k».proof.Proof.Diff.OutA
public import proofs.«01_k».proof.Proof.Diff.OutB
public import Idealize.ShloMosaic.Lib.Pipeline.ValueKit

@[expose] public section

set_option maxRecDepth 16384

noncomputable section

namespace Cert.Diff

open Idealize Idealize.ShloMosaic Idealize.ShloMosaic.TcCoe Cert.DiffIdeal Cert.DiffIdeal.Gen Cert.DiffIdeal.Value Finset

/-! ### Lambda -/

/-- Lambda's last term is real. -/
theorem lam_const : ∃ r : ℝ, Ideal.ofBits .f32 1045220557#32 = (r : EReal) := by
  refine ⟨(Ideal.ofBits .f32 1045220557#32).toReal, (EReal.coe_toReal ?_ ?_).symm⟩ <;> simp [Ideal.ofBits, Ideal.ieee, ← EReal.coe_mul]

/-- The kernel's lambda and the reference's are one real number. -/
theorem lam_both (a b c d : FVec Ideal S1x64 .f32) (ha : ∀ i, ∃ r : ℝ, a i = r) (hb : ∀ i, ∃ r : ℝ, b i = r)
    (hc : ∀ i, ∃ r : ℝ, c i = r) (hd : ∀ i, ∃ r : ℝ, d i = r) :
    ∃ la : ℝ, k0_pay146 (F := Ideal) a b c d (ix2 0 0) = (la : EReal) ∧ rLam a b c d ix0 = (la : EReal) := by
  choose fa ha using ha
  choose fb hb using hb
  choose fc hc using hc
  choose fd hd using hd
  obtain ⟨r, hr⟩ := lam_const
  have e1 : ∑ x : Fin 64, a (ix2 0 x) * b (ix2 0 x) = ((∑ x : Fin 64, fa (ix2 0 x) * fb (ix2 0 x) : ℝ) : EReal) := by
    rw [coe_sum]; exact sum_congr rfl fun x _ => by rw [ha, hb, EReal.coe_mul]
  have e2 : ∑ x : Fin 64, c (ix2 0 x) * d (ix2 0 x) = ((∑ x : Fin 64, fc (ix2 0 x) * fd (ix2 0 x) : ℝ) : EReal) := by
    rw [coe_sum]; exact sum_congr rfl fun x _ => by rw [hc, hd, EReal.coe_mul]
  refine ⟨Real.exp (∑ x : Fin 64, fa (ix2 0 x) * fb (ix2 0 x)) - Real.exp (∑ x : Fin 64, fc (ix2 0 x) * fd (ix2 0 x)) + r, ?_, ?_⟩
  · rw [lam_apply, e1, e2, hr, Ideal.exp_coe, Ideal.exp_coe, ← EReal.coe_sub, ← EReal.coe_add]
  · rw [rLam_apply, Fin.sum_univ_one, Fin.sum_univ_one, e1, e2, hr, Ideal.exp_coe, Ideal.exp_coe, ← EReal.coe_sub, ← EReal.coe_add]

/-! ### The blocks of the grid points -/

theorem co0 : ∀ t : Fin cfg0.N, (grid0.coords t 0).val = t.val / 8 := (by decide +kernel : ∀ t : Fin grid0.N, (grid0.coords t 0).val = t.val / 8)
theorem co1 : ∀ t : Fin cfg0.N, (grid0.coords t 1).val = t.val % 8 := (by decide +kernel : ∀ t : Fin grid0.N, (grid0.coords t 1).val = t.val % 8)

theorem e0 : ∀ t : Fin cfg0.N, win0_0.index t = ![0, 0] := (by decide +kernel : ∀ t : Fin grid0.N, win0_0.index t = ![0, 0])
theorem e1 : ∀ t : Fin cfg0.N, win0_1.index t = ![0, 0] := (by decide +kernel : ∀ t : Fin grid0.N, win0_1.index t = ![0, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e4 : ∀ t : Fin cfg0.N, win0_4.index t = ![t.val, 0] := (by decide +kernel : ∀ t : Fin grid0.N, win0_4.index t = ![t.val, 0])
theorem e5 : ∀ t : Fin cfg0.N, win0_5.index t = ![t.val / 8, 0] := (by decide +kernel : ∀ t : Fin grid0.N, win0_5.index t = ![t.val / 8, 0])
theorem e6 : ∀ t : Fin cfg0.N, win0_6.index t = ![t.val / 8, 0, 0] := (by decide +kernel : ∀ t : Fin grid0.N, win0_6.index t = ![t.val / 8, 0, 0])
theorem e7 : ∀ t : Fin cfg0.N, win0_7.index t = ![t.val, 2] := (by decide +kernel : ∀ t : Fin grid0.N, win0_7.index t = ![t.val, 2])
theorem e8 : ∀ t : Fin cfg0.N, win0_8.index t = ![0, 0] := (by decide +kernel : ∀ t : Fin grid0.N, win0_8.index t = ![0, 0])
theorem e9 : ∀ t : Fin cfg0.N, win0_9.index t = ![t.val, 0] := (by decide +kernel : ∀ t : Fin grid0.N, win0_9.index t = ![t.val, 0])

variable (m : (ℓ : Loc nD τ sig) → Buf (Elt Ideal) ℓ) (c : Dev nD) (t : Fin cfg0.N)

theorem ib0 : (iblk m c 0 t : FVec Ideal S1x64 .f32) = m ((c : Thread nD τ).loc main_arg0) := by
  funext y
  blk_simp [iblk, e0]
  rw [V_main_arg0]
  refine congrArg _ ?_
  blk_ext [e0]
theorem ib1 : (iblk m c 1 t : FVec Ideal S1x64 .f32) = m ((c : Thread nD τ).loc main_arg1) := by
  funext y
  blk_simp [iblk, e1]
  rw [V_main_arg1]
  refine congrArg _ ?_
  blk_ext [e1]
theorem ib2 : (iblk m c 2 t : FVec Ideal S1x64 .f32) = m ((c : Thread nD τ).loc main_arg2) := by
  funext y
  blk_simp [iblk, e2]
  rw [V_main_arg2]
  refine congrArg _ ?_
  blk_ext [e2]
theorem ib3 : (iblk m c 3 t : FVec Ideal S1x64 .f32) = m ((c : Thread nD τ).loc main_arg3) := by
  funext y
  blk_simp [iblk, e3]
  rw [V_main_arg3]
  refine congrArg _ ?_
  blk_ext [e3]
theorem ib8 : (iblk m c 8 t : FVec Ideal S1x128 .f32) = m ((c : Thread nD τ).loc main_arg8) := by
  funext y
  blk_simp [iblk, e8]
  rw [V_main_arg8]
  refine congrArg _ ?_
  blk_ext [e8]
theorem ib4 (r : Fin 256) (k : Fin 512) : iblk m c 4 t (ix2 r k)
    = m ((c : Thread nD τ).loc main_arg4) (ix2 ⟨256 * t.val + r.val, by have : t.val < 64 := t.isLt; omega⟩ k) := by
  blk_simp [iblk, e4]
  rw [V_main_arg4]
  refine congrArg _ ?_
  blk_ext [e4, ix2_0, ix2_1]
theorem ib5 (r : Fin 2048) (k : Fin 512) : iblk m c 5 t (ix2 r k)
    = m ((c : Thread nD τ).loc main_arg5) (ix2 ⟨2048 * (t.val / 8) + r.val, by have : t.val < 64 := t.isLt; omega⟩ k) := by
  blk_simp [iblk, e5]
  rw [V_main_arg5]
  refine congrArg _ ?_
  blk_ext [e5, ix2_0, ix2_1]
theorem ib6 (a : Fin 8) (r : Fin 512) (k : Fin 256) : iblk m c 6 t (ix3 a r k)
    = m ((c : Thread nD τ).loc main_arg6) (ix3 ⟨8 * (t.val / 8) + a.val, by have : t.val < 64 := t.isLt; omega⟩ r k) := by
  blk_simp [iblk, e6]
  rw [V_main_arg6]
  refine congrArg _ ?_
  blk_ext [e6, ix3_0, ix3_1, ix3_2]
theorem ib7 (r : Fin 256) (k : Fin 512) : iblk m c 7 t (ix2 r k)
    = m ((c : Thread nD τ).loc main_arg7) (ix2 ⟨256 * t.val + r.val, by have : t.val < 64 := t.isLt; omega⟩ ⟨1024 + k.val, by omega⟩) := by
  blk_simp [iblk, e7]
  rw [V_main_arg7]
  refine congrArg _ ?_
  blk_ext [e7, ix2_0, ix2_1]

/-! ### Real arrays as functions of natural numbers -/

theorem nat_of2 {p q : ℕ} (a : (⟨2, ![p, q]⟩ : Shape).Idx → EReal) (h : ∀ i, ∃ r : ℝ, a i = r) :
    ∃ x : ℕ → ℕ → ℝ, ∀ (r : Fin p) (k : Fin q), a (ix2 r k) = (x r.val k.val : EReal) := by
  choose f hf using h
  refine ⟨fun r k => if h : r < p ∧ k < q then f (ix2 ⟨r, h.1⟩ ⟨k, h.2⟩) else 0, fun r k => ?_⟩
  beta_reduce
  rw [dif_pos ⟨r.isLt, k.isLt⟩]
  exact hf _

theorem nat_of3 {n p q : ℕ} (a : (⟨3, ![n, p, q]⟩ : Shape).Idx → EReal) (h : ∀ i, ∃ r : ℝ, a i = r) :
    ∃ x : ℕ → ℕ → ℕ → ℝ, ∀ (l : Fin n) (r : Fin p) (k : Fin q), a (ix3 l r k) = (x l.val r.val k.val : EReal) := by
  choose f hf using h
  refine ⟨fun l r k => if h : l < n ∧ r < p ∧ k < q then f (ix3 ⟨l, h.1⟩ ⟨r, h.2.1⟩ ⟨k, h.2.2⟩) else 0, fun l r k => ?_⟩
  beta_reduce
  rw [dif_pos ⟨l.isLt, r.isLt, k.isLt⟩]
  exact hf _

/-! ### The array -/

/-- What a grid point should leave is the reference's result at its place of the array. -/
theorem want_ref {xq xk : ℕ → ℕ → ℝ} {xv : ℕ → ℕ → ℕ → ℝ} {la : ℝ}
    (l0 l1 l2 l3 : FVec Ideal S1x64 .f32) (dq dk : FVec Ideal S16384x512 .bf16) (dv : FVec Ideal S64x512x256 .bf16)
    (gate : FVec Ideal S16384x2048 .bf16) (g : FVec Ideal S1x128 .f32)
    (hq : ∀ r k, dq (ix2 r k) = (xq r.val k.val : EReal)) (hk : ∀ r k, dk (ix2 r k) = (xk r.val k.val : EReal))
    (hv : ∀ a r k, dv (ix3 a r k) = (xv a.val r.val k.val : EReal)) (hl : rLam l0 l1 l2 l3 ix0 = (la : EReal))
    (n : ℕ) (hn : n < 64) (x7 : FVec Ideal S256x512 .bf16)
    (h7 : ∀ (r : Fin 256) (k : Fin 512), x7 (ix2 r k) = gate (ix2 ⟨256 * n + r.val, by omega⟩ ⟨1024 + k.val, by omega⟩))
    (r : Fin 256) (d : Fin 512) :
    want xq xk xv la (n / 8) (n % 8) x7 g (ix2 r d)
      = rAll l0 l1 l2 l3 dq dk dv gate g (ix2 ⟨256 * n + r.val, by omega⟩ d) := by
  have hb : (256 * n + r.val) / 2048 = n / 8 := by omega
  have hr : (256 * n + r.val) % 2048 = 256 * (n % 8) + r.val := by omega
  unfold rAll want normed
  rw [rFin_apply, ref_attn hq hk hv _ la hl, h7]
  simp only [ref_attn hq hk hv _ la hl, ix2_0, ix2_1, hb, hr]

theorem arr_eq (h0 : ∀ i, ∃ r : ℝ, (m ((c : Thread nD τ).loc main_arg0) : FVec Ideal S1x64 .f32) i = (r : EReal)) (h1 : ∀ i, ∃ r : ℝ, (m ((c : Thread nD τ).loc main_arg1) : FVec Ideal S1x64 .f32) i = (r : EReal))
    (h2 : ∀ i, ∃ r : ℝ, (m ((c : Thread nD τ).loc main_arg2) : FVec Ideal S1x64 .f32) i = (r : EReal)) (h3 : ∀ i, ∃ r : ℝ, (m ((c : Thread nD τ).loc main_arg3) : FVec Ideal S1x64 .f32) i = (r : EReal))
    (h4 : ∀ i, ∃ r : ℝ, (m ((c : Thread nD τ).loc main_arg4) : FVec Ideal S16384x512 .bf16) i = (r : EReal)) (h5 : ∀ i, ∃ r : ℝ, (m ((c : Thread nD τ).loc main_arg5) : FVec Ideal S16384x512 .bf16) i = (r : EReal))
    (h6 : ∀ i, ∃ r : ℝ, (m ((c : Thread nD τ).loc main_arg6) : FVec Ideal S64x512x256 .bf16) i = (r : EReal)) :
    (dats m 0 c).arrAt 9 cfg0.N = rAll (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) := by
  obtain ⟨la, hla, hlr⟩ := lam_both _ _ _ _ h0 h1 h2 h3
  obtain ⟨xq, hq⟩ := nat_of2 _ h4
  obtain ⟨xk, hk⟩ := nat_of2 _ h5
  obtain ⟨xv, hv⟩ := nat_of3 _ h6
  refine (dats m 0 c).arrAt_eq_of_covers 9 _ (by decide +kernel) fun t _ y => ?_
  have ht : t.val < 64 := t.isLt
  have hy : ((win0_9.blk t).view.emb y : S16384x512.Idx) = ix2 ⟨256 * t.val + (y 0).val, by idx_bounds y; omega⟩ (y 1) := by
    blk_ext [e9, ix2_0, ix2_1]
  have B : Blocks xq xk xv (t.val / 8) (grid0.coords t 1).val (iblk m c 4 t) (iblk m c 5 t) (iblk m c 6 t) := by
    constructor
    · intro r k
      rw [ib4, hq, co1]
      refine congrArg Real.toEReal (congrFun (congrArg xq ?_) _)
      show 256 * t.val + r.val = _
      omega
    · intro r k
      rw [ib5, hk]
      refine congrArg Real.toEReal (congrFun (congrArg xk ?_) _)
      show 2048 * (t.val / 8) + r.val = _
      omega
    · intro a k x
      rw [ib6, hv]
      refine congrArg Real.toEReal (congrFun (congrFun (congrArg xv ?_) _) _)
      show 8 * (t.val / 8) + a.val = _
      omega
  have hl : k0_pay146 (F := Ideal) (iblk m c 0 t) (iblk m c 1 t) (iblk m c 2 t) (iblk m c 3 t) (ix2 0 0) = (la : EReal) := by
    rw [ib0, ib1, ib2, ib3]; exact hla
  have hw := want_ref _ _ _ _ _ _ _ (m ((c : Thread nD τ).loc main_arg7)) (m ((c : Thread nD τ).loc main_arg8)) hq hk hv hlr t.val ht
    (iblk m c 7 t) (fun r k => ib7 m c t r k) (y 0) (y 1)
  blk_simp
  rw [after0_9]
  refine Eq.trans ?_ (hw.trans (congrArg _ hy.symm))
  by_cases h : t.val % 2 = 1
  · rw [outsAt0_B m c t h (by omega)]
    refine (outB_eq _ _ _ _ _ _ _ _ _ _ _ _ _ _ _ _ _ _ _ _ _ _ _ _ _ _ _ _ _ _ _ _ _ _ _ _ _ _ _ B hl (by rw [co1]; omega) y).trans ?_
    rw [co1, ib8]
    exact congrArg _ (eq_ix2 y)
  · rw [outsAt0_A m c t h (by omega)]
    refine (outA_eq _ _ _ _ _ _ _ _ _ _ _ _ _ _ _ _ _ _ _ _ _ _ _ _ _ _ _ _ _ _ _ _ _ _ _ _ _ _ _ B hl (by rw [co1]; omega) y).trans ?_
    rw [co1, ib8]
    exact congrArg _ (eq_ix2 y)

end Cert.Diff
-- ==== Proof.Diff.Claims.lean ====
/-
  The claims about the differential attention: it leaves its arguments as they are, and over the exact numbers its
  result is the reference's.
-/
module

public import proofs.«01_k».proof.Defs
public import proofs.«01_k».proof.Proof.Gen.Diff.Frame
public import proofs.«01_k».proof.Proof.Gen.DiffIdeal.Frame
public import proofs.«01_k».proof.Proof.Gen.DiffRefIdeal.Run
public import proofs.«01_k».proof.Proof.Diff.Finite
public import proofs.«01_k».proof.Proof.Diff.Final
public import proofs.«01_k».proof.Proof.Diff.Ref
public import Idealize.ShloMosaic.Lib.Quiescent

@[expose] public section

noncomputable section

namespace Cert.Diff

open Idealize Idealize.ShloMosaic Idealize.ShloMosaic.TcCoe Idealize.SL.Sem

/-- The shape facts the precondition's function states. -/
theorem preFacts : Cert.Pre_finite.Facts where
  bcast_S_S1x64 := by decide
  bitsLt_bf16_f32 := by decide
  bcast_S_S16384x512 := by decide
  bcast_S_S64x512x256 := by decide

instance : Cert.Pre_finite.Facts := preFacts

theorem quiet : Cert.quiescent_Diff := fun m g _ => Cert.Diff.Gen.frame m g

theorem quiet_ideal : Cert.quiescent_DiffIdeal := fun m g _ => Cert.DiffIdeal.Gen.frame m g

theorem quiet_ideal_pre : Cert.quiescent_DiffIdeal_pre_finite := fun m g _ => Cert.DiffIdeal.Gen.frame m g

theorem quiet_ref : Cert.quiescent_DiffRefIdeal := fun m g _ =>
  (θ_run Cert.DiffRefIdeal.defs _ _).mono (fun r h => ⟨fun c => (h c).2, sem_eq_zero_of_no_sems (by decide) r.2⟩)
    (Cert.DiffRefIdeal.Value.run (F := Ideal) m g)

theorem quiet_ref_pre : Cert.quiescent_DiffRefIdeal_pre_finite := fun m g _ =>
  (θ_run Cert.DiffRefIdeal.defs _ _).mono (fun r h => ⟨fun c => (h c).2, sem_eq_zero_of_no_sems (by decide) r.2⟩)
    (Cert.DiffRefIdeal.Value.run (F := Ideal) m g)

open Cert.DiffIdeal in
theorem value_claim : Cert.algebraic_DiffIdeal_DiffRefIdeal_pre_finite := by
  intro m g m' g' hpre hag
  refine ⟨fun c => rAll (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)), ?_, ?_⟩
  · refine (θ_run _ _ _).mono (fun r h c => ⟨(h c).1.trans ?_, (h c).2⟩) (Cert.DiffIdeal.Value.run_blocks (F := Ideal) m g)
    obtain ⟨p0, p1, p2, p3, p4, p5, p6⟩ := hpre c
    exact arr_eq m c (fin0 p0) (fin1 p1) (fin2 p2) (fin3 p3) (fin4 p4) (fin5 p5) (fin6 p6)
  · refine (θ_run _ _ _).mono (fun r h c => ⟨(h c).1.trans ?_, (h c).2⟩) (Cert.DiffRefIdeal.Value.run (F := Ideal) m' g')
    obtain ⟨q0, q1, q2, q3, q4, q5, q6, q7, q8⟩ := hag c
    refine (ref_eq m' c).trans ?_
    rw [q0, q1, q2, q3, q4, q5, q6, q7, q8]

end Cert.Diff
-- ==== Proof.Merge.Kern.lean ====
/-
  One strip of the merge's grid point: the residual and the product, then the layer norm, row by row.
-/
module

public import proofs.«01_k».proof.Proof.Gen.MergeIdeal.Skeleton
public import Idealize.ShloMosaic.Lib.Pointwise
public import Idealize.ShloMosaic.Lib.ValueIdx

@[expose] public section

set_option maxRecDepth 16384

noncomputable section

namespace Cert.Merge

open Idealize Idealize.ShloMosaic Cert.MergeIdeal Cert.MergeIdeal.Gen

/-- The layer norm of a row at one column. -/
def ln (f : Fin 1024 → EReal) (g b : EReal) (d : Fin 1024) : EReal :=
  (f d - Ideal.div (∑ x, f x) (Ideal.ofBits .f32 1149239296#32))
    * Ideal.rsqrt (Ideal.div (∑ y, (f y - Ideal.div (∑ x, f x) (Ideal.ofBits .f32 1149239296#32))
        * (f y - Ideal.div (∑ x, f x) (Ideal.ofBits .f32 1149239296#32))) (Ideal.ofBits .f32 1149239296#32)
      + Ideal.ofBits .f32 925353388#32) * g + b

/-- The row before the norm, in a strip. -/
def kY (hm : FVec Ideal S256x1024 .bf16) (hd hc : FVec Ideal S256x512 .bf16) (x : FVec Ideal S256x1024 .f32)
    (w : FVec Ideal S2048x1024 .bf16) : FVec Ideal S256x1024 .f32 :=
  addf (mulf (broadcast S256x1024 (Scalar.ofBits .f32 0x3F9837F0#32)) (shapeCast S256x1024 x shapeCasts_S256x1024_S256x1024))
    (matmul dot_S256x2048_S2048x1024_S256x1024_1_0_0_1_n_n none
      (concatenate S256x2048 1 [⟨S256x1024, hm⟩, ⟨S256x512, hd⟩, ⟨S256x512, hc⟩] concatenates_S256x1024_S256x512_S256x512_S256x2048_d1)
      (shapeCast S2048x1024 w shapeCasts_S2048x1024_S2048x1024) (constant S256x1024 .f32 0x00000000#32))

/-- The mean of each row. -/
def kMu (y : FVec Ideal S256x1024 .f32) : FVec Ideal S256x1 .f32 :=
  divf (shapeCast S256x1 (multiReduction .add [1] S256 y 0x00000000#32 reduces_S256x1024_S256 (.inl rfl) rfl) shapeCasts_S256_S256x1)
    (broadcast S256x1 (Scalar.ofBits .f32 0x44800000#32))

/-- The norm of each row. -/
def kLn (y : FVec Ideal S256x1024 .f32) (mu : FVec Ideal S256x1 .f32) (g b : FVec Ideal S1x1024 .f32) : FVec Ideal S256x1024 .f32 :=
  addf (mulf (mulf (subf y (broadcastTo S256x1024 mu broadcasts_S256x1_S256x1024))
    (broadcastTo S256x1024 (rsqrt (addf (kMu (mulf (subf y (broadcastTo S256x1024 mu broadcasts_S256x1_S256x1024))
      (subf y (broadcastTo S256x1024 mu broadcasts_S256x1_S256x1024)))) (broadcast S256x1 (Scalar.ofBits .f32 0x3727C5AC#32))))
      broadcasts_S256x1_S256x1024)) (broadcastTo S256x1024 g broadcasts_S1x1024_S256x1024))
    (broadcastTo S256x1024 b broadcasts_S1x1024_S256x1024)

variable (hm : FVec Ideal S256x1024 .bf16) (hd hc : FVec Ideal S256x512 .bf16) (x : FVec Ideal S256x1024 .f32)
    (w : FVec Ideal S2048x1024 .bf16) (g b : FVec Ideal S1x1024 .f32)

theorem pay2_eq : k0_pay2 hm hd hc x w g b = kLn (kY hm hd hc x w) (kMu (kY hm hd hc x w)) g b := rfl
theorem pay3_eq : k0_pay3 hm hd hc x w g b = kLn (kY hm hd hc x w) (kMu (kY hm hd hc x w)) g b := rfl
theorem pay4_eq : k0_pay4 hm hd hc x w g b = kLn (kY hm hd hc x w) (kMu (kY hm hd hc x w)) g b := rfl
theorem pay1_eq : k0_pay1 (k0_pay5 hm hd hc x w g) (k0_pay6 b) = kLn (kY hm hd hc x w) (kMu (kY hm hd hc x w)) g b := rfl

theorem kMu_apply (y : FVec Ideal S256x1024 .f32) (r : Fin 256) :
    kMu y (ix2 r 0) = Ideal.div (∑ x, y (ix2 r x)) (Ideal.ofBits .f32 1149239296#32) := by
  unfold kMu
  pointwise

theorem kLn_apply (y : FVec Ideal S256x1024 .f32) (r : Fin 256) (d : Fin 1024) :
    kLn y (kMu y) g b (ix2 r d) = ln (fun e => y (ix2 r e)) (g (ix2 0 d)) (b (ix2 0 d)) d := by
  unfold kLn
  pointwise [kMu_apply]
  simp only [ln]

theorem kY_apply (r : Fin 256) (d : Fin 1024) :
    kY hm hd hc x w (ix2 r d) = Ideal.ofBits .f32 1066940400#32 * x (ix2 r d)
      + ∑ k : Fin 2048, (if h : k.val < 1024 then hm (ix2 r ⟨k.val, h⟩)
          else if h' : k.val - 1024 < 512 then hd (ix2 r ⟨k.val - 1024, h'⟩) else hc (ix2 r ⟨k.val - 1024 - 512, by omega⟩)) * w (ix2 k d) := by
  unfold kY
  pointwise

end Cert.Merge
-- ==== Proof.Merge.Out.lean ====
/-
  What a grid point of the merge leaves: four strips of 256 rows, each the norm of its rows.
-/
module

public import proofs.«01_k».proof.Proof.Gen.MergeIdeal.Frame
public import proofs.«01_k».proof.Proof.Merge.Kern
public import Idealize.ShloMosaic.Lib.Pipeline.Value
public import Idealize.ShloMosaic.Lib.Pipeline.ValueKit

@[expose] public section

set_option maxRecDepth 16384

noncomputable section

namespace Cert.Merge

open Idealize Idealize.ShloMosaic Cert.MergeIdeal Cert.MergeIdeal.Gen

/-- A row of a block before the norm. -/
def bRow (x : FVec Ideal S1024x1024 .f32) (hm : FVec Ideal S1024x1024 .bf16) (hd hc : FVec Ideal S1024x512 .bf16)
    (w : FVec Ideal S2048x1024 .bf16) (r : Fin 1024) (d : Fin 1024) : EReal :=
  Ideal.ofBits .f32 1066940400#32 * x (ix2 r d)
    + ∑ k : Fin 2048, (if h : k.val < 1024 then hm (ix2 r ⟨k.val, h⟩)
        else if h' : k.val - 1024 < 512 then hd (ix2 r ⟨k.val - 1024, h'⟩) else hc (ix2 r ⟨k.val - 1024 - 512, by omega⟩)) * w (ix2 k d)

/-- The norm of a block's rows. -/
def bAll (x : FVec Ideal S1024x1024 .f32) (hm : FVec Ideal S1024x1024 .bf16) (hd hc : FVec Ideal S1024x512 .bf16)
    (w : FVec Ideal S2048x1024 .bf16) (g b : FVec Ideal S1x1024 .f32) : FVec Ideal S1024x1024 .f32 :=
  fun y => ln (bRow x hm hd hc w (y 0)) (g (ix2 0 (y 1))) (b (ix2 0 (y 1))) (y 1)

variable (x : FVec Ideal S1024x1024 .f32) (hm : FVec Ideal S1024x1024 .bf16) (hd hc : FVec Ideal S1024x512 .bf16)
    (w : FVec Ideal S2048x1024 .bf16) (g b : FVec Ideal S1x1024 .f32)

/-- A strip at row `o` of the block. -/
theorem strip (o : ℕ) (ho : o + 256 ≤ 1024) (hm' : FVec Ideal S256x1024 .bf16) (hd' hc' : FVec Ideal S256x512 .bf16)
    (x' : FVec Ideal S256x1024 .f32) (w' : FVec Ideal S2048x1024 .bf16) (g' b' : FVec Ideal S1x1024 .f32)
    (h1 : ∀ r k, hm' (ix2 r k) = hm (ix2 ⟨o + r.val, by omega⟩ k)) (h2 : ∀ r k, hd' (ix2 r k) = hd (ix2 ⟨o + r.val, by omega⟩ k))
    (h3 : ∀ r k, hc' (ix2 r k) = hc (ix2 ⟨o + r.val, by omega⟩ k)) (h0 : ∀ r k, x' (ix2 r k) = x (ix2 ⟨o + r.val, by omega⟩ k))
    (h4 : w' = w) (h5 : g' = g) (h6 : b' = b) (r : Fin 256) (d : Fin 1024) :
    kLn (kY hm' hd' hc' x' w') (kMu (kY hm' hd' hc' x' w')) g' b' (ix2 r d)
      = bAll x hm hd hc w g b (ix2 ⟨o + r.val, by omega⟩ d) := by
  subst h4 h5 h6
  rw [kLn_apply]
  simp only [kY_apply, h0, h1, h2, h3]
  rfl

theorem hz : (![0, 0] : Fin 2 → Nat) = fun _ => 0 := funext fun a => by fin_cases a <;> rfl

theorem place {p q : ℕ} {i : (⟨2, ![p, q]⟩ : Shape).Idx} {a : Fin p} {b : Fin q} (h0 : (i 0).val = a.val) (h1 : (i 1).val = b.val) :
    i = ix2 a b :=
  funext fun d => Fin.ext (by fin_cases d <;> assumption)

theorem out0 (j : S256x1024.Idx) :
    kLn (kY (View.ld (Val := Elt Ideal) (e' := .bf16) hm r0_0) (View.ld (Val := Elt Ideal) (e' := .bf16) hd r0_1) (View.ld (Val := Elt Ideal) (e' := .bf16) hc r0_1) (View.ld (Val := Elt Ideal) (e' := .f32) x r0_0) w)
      (kMu (kY (View.ld (Val := Elt Ideal) (e' := .bf16) hm r0_0) (View.ld (Val := Elt Ideal) (e' := .bf16) hd r0_1) (View.ld (Val := Elt Ideal) (e' := .bf16) hc r0_1) (View.ld (Val := Elt Ideal) (e' := .f32) x r0_0) w)) g b j = bAll x hm hd hc w g b (r0_0.emb j) := by
  refine (congrArg _ (eq_ix2 j)).trans ((strip x hm hd hc w g b 0 (by omega) _ _ _ _ _ _ _ ?_ ?_ ?_ ?_ rfl rfl rfl (j 0) (j 1)).trans (congrArg _ ?_))
  · exact fun r k => congrArg hm (place (by simp) (by simp))
  · exact fun r k => congrArg hd (place (by simp) (by simp))
  · exact fun r k => congrArg hc (place (by simp) (by simp))
  · exact fun r k => congrArg x (place (by simp) (by simp))
  · exact (place (by simp) (by simp)).symm

theorem out1 (j : S256x1024.Idx) :
    kLn (kY (View.ld (Val := Elt Ideal) (e' := .bf16) hm r0_4) (View.ld (Val := Elt Ideal) (e' := .bf16) hd r0_5) (View.ld (Val := Elt Ideal) (e' := .bf16) hc r0_5) (View.ld (Val := Elt Ideal) (e' := .f32) x r0_4) w)
      (kMu (kY (View.ld (Val := Elt Ideal) (e' := .bf16) hm r0_4) (View.ld (Val := Elt Ideal) (e' := .bf16) hd r0_5) (View.ld (Val := Elt Ideal) (e' := .bf16) hc r0_5) (View.ld (Val := Elt Ideal) (e' := .f32) x r0_4) w)) g b j = bAll x hm hd hc w g b (r0_4.emb j) := by
  refine (congrArg _ (eq_ix2 j)).trans ((strip x hm hd hc w g b 256 (by omega) _ _ _ _ _ _ _ ?_ ?_ ?_ ?_ rfl rfl rfl (j 0) (j 1)).trans (congrArg _ ?_))
  · exact fun r k => congrArg hm (place (by simp) (by simp))
  · exact fun r k => congrArg hd (place (by simp) (by simp))
  · exact fun r k => congrArg hc (place (by simp) (by simp))
  · exact fun r k => congrArg x (place (by simp) (by simp))
  · exact (place (by simp) (by simp)).symm

theorem out2 (j : S256x1024.Idx) :
    kLn (kY (View.ld (Val := Elt Ideal) (e' := .bf16) hm r0_6) (View.ld (Val := Elt Ideal) (e' := .bf16) hd r0_7) (View.ld (Val := Elt Ideal) (e' := .bf16) hc r0_7) (View.ld (Val := Elt Ideal) (e' := .f32) x r0_6) w)
      (kMu (kY (View.ld (Val := Elt Ideal) (e' := .bf16) hm r0_6) (View.ld (Val := Elt Ideal) (e' := .bf16) hd r0_7) (View.ld (Val := Elt Ideal) (e' := .bf16) hc r0_7) (View.ld (Val := Elt Ideal) (e' := .f32) x r0_6) w)) g b j = bAll x hm hd hc w g b (r0_6.emb j) := by
  refine (congrArg _ (eq_ix2 j)).trans ((strip x hm hd hc w g b 512 (by omega) _ _ _ _ _ _ _ ?_ ?_ ?_ ?_ rfl rfl rfl (j 0) (j 1)).trans (congrArg _ ?_))
  · exact fun r k => congrArg hm (place (by simp) (by simp))
  · exact fun r k => congrArg hd (place (by simp) (by simp))
  · exact fun r k => congrArg hc (place (by simp) (by simp))
  · exact fun r k => congrArg x (place (by simp) (by simp))
  · exact (place (by simp) (by simp)).symm

theorem out3 (j : S256x1024.Idx) :
    kLn (kY (View.ld (Val := Elt Ideal) (e' := .bf16) hm r0_8) (View.ld (Val := Elt Ideal) (e' := .bf16) hd r0_9) (View.ld (Val := Elt Ideal) (e' := .bf16) hc r0_9) (View.ld (Val := Elt Ideal) (e' := .f32) x r0_8) w)
      (kMu (kY (View.ld (Val := Elt Ideal) (e' := .bf16) hm r0_8) (View.ld (Val := Elt Ideal) (e' := .bf16) hd r0_9) (View.ld (Val := Elt Ideal) (e' := .bf16) hc r0_9) (View.ld (Val := Elt Ideal) (e' := .f32) x r0_8) w)) g b j = bAll x hm hd hc w g b (r0_8.emb j) := by
  refine (congrArg _ (eq_ix2 j)).trans ((strip x hm hd hc w g b 768 (by omega) _ _ _ _ _ _ _ ?_ ?_ ?_ ?_ rfl rfl rfl (j 0) (j 1)).trans (congrArg _ ?_))
  · exact fun r k => congrArg hm (place (by simp) (by simp))
  · exact fun r k => congrArg hd (place (by simp) (by simp))
  · exact fun r k => congrArg hc (place (by simp) (by simp))
  · exact fun r k => congrArg x (place (by simp) (by simp))
  · exact (place (by simp) (by simp)).symm

theorem out_eq (y : S1024x1024.Idx) : out0_7 (F := Ideal) x hm hd hc w g b y = bAll x hm hd hc w g b y := by
  unfold out0_7
  rw [View.ld_unit_zero hz, View.ld_unit_zero hz, View.ld_unit_zero hz]
  refine View.canon_apply_of_pieces (Val := Elt Ideal) (e := .f32) (bAll x hm hd hc w g b) _ (fun p hp j => ?_) y (cover0_7 _ _ _ _ y)
  simp only [List.mem_cons, List.mem_nil_iff, or_false] at hp
  rcases hp with rfl | rfl | rfl | rfl
  · exact (congrFun (pay1_eq _ _ _ _ _ _ _) j).trans (out3 x hm hd hc w g b j)
  · exact (congrFun (pay4_eq _ _ _ _ _ _ _) j).trans (out2 x hm hd hc w g b j)
  · exact (congrFun (pay3_eq _ _ _ _ _ _ _) j).trans (out1 x hm hd hc w g b j)
  · exact (congrFun (pay2_eq _ _ _ _ _ _ _) j).trans (out0 x hm hd hc w g b j)

end Cert.Merge
-- ==== Proof.Merge.Ref.lean ====
/-
  The merge's reference, row by row.
-/
module

public import proofs.«01_k».proof.Proof.Gen.MergeRefIdeal.Run
public import proofs.«01_k».proof.Proof.Merge.Kern

@[expose] public section

set_option maxRecDepth 16384

noncomputable section

namespace Cert.Merge

open Idealize Idealize.ShloMosaic Idealize.ShloMosaic.TcCoe Cert.MergeRefIdeal Cert.MergeRefIdeal.Gen Cert.MergeRefIdeal.Value

/-- A row before the norm: the residual and the product of the three mixers' outputs with the weights. -/
def row (x : FVec Ideal S8x2048x1024 .f32) (hm : FVec Ideal S16384x1024 .bf16) (hd hc : FVec Ideal S16384x512 .bf16)
    (w : FVec Ideal S1x2048x1024 .f32) (r : Fin 16384) (d : Fin 1024) : EReal :=
  Ideal.ofBits .f32 1066940400#32 * x (ix3 ⟨r.val / 2048, by omega⟩ ⟨r.val % 2048, by omega⟩ d)
    + ∑ k : Fin 2048, (if h : k.val < 1024 then hm (ix2 r ⟨k.val, h⟩)
        else if h' : k.val - 1024 < 512 then hd (ix2 r ⟨k.val - 1024, h'⟩) else hc (ix2 r ⟨k.val - 1024 - 512, by omega⟩)) * w (ix3 0 k d)

/-- The whole result. -/
def mAll (x : FVec Ideal S8x2048x1024 .f32) (hm : FVec Ideal S16384x1024 .bf16) (hd hc : FVec Ideal S16384x512 .bf16)
    (w : FVec Ideal S1x2048x1024 .f32) (g b : FVec Ideal S1x1024 .f32) : FVec Ideal S16384x1024 .f32 :=
  fun y => ln (row x hm hd hc w (y 0)) (g (ix2 0 (y 1))) (b (ix2 0 (y 1))) (y 1)

def rY (x : FVec Ideal S8x2048x1024 .f32) (hm : FVec Ideal S16384x1024 .bf16) (hd hc : FVec Ideal S16384x512 .bf16)
    (w : FVec Ideal S1x2048x1024 .f32) : FVec Ideal S16384x1024 .f32 :=
  addf (mulf (broadcastInDim S16384x1024 ![] bcast_S_S16384x1024 (constant S_ .f32 0x3F9837F0#32)) (shapeCast _ x shapeCasts_S8x2048x1024_S16384x1024))
    (Host.dotGeneral dot_S16384x2048_S2048x1024_S16384x1024_1_0_0_1_n_n none
      (concatenate S16384x2048 1 [⟨S16384x1024, extf .f32 hm bitsLt_bf16_f32⟩, ⟨S16384x512, extf .f32 hd bitsLt_bf16_f32⟩,
        ⟨S16384x512, extf .f32 hc bitsLt_bf16_f32⟩] concatenates_S16384x1024_S16384x512_S16384x512_S16384x2048_d1)
      (shapeCast _ w shapeCasts_S1x2048x1024_S2048x1024))

def rMu (y : FVec Ideal S16384x1024 .f32) : FVec Ideal S16384x1 .f32 :=
  Host.divf (broadcastInDim S16384x1 ![0] bcast_S16384_S16384x1_0
      (Host.reduceAdd y (constant S_ .f32 0x00000000#32) reducesTo_S16384x1024_S16384_d1 h_S_))
    (broadcastInDim S16384x1 ![] bcast_S_S16384x1 (constant S_ .f32 0x44800000#32))

def rLn (y : FVec Ideal S16384x1024 .f32) (mu : FVec Ideal S16384x1 .f32) (g b : FVec Ideal S1x1024 .f32) : FVec Ideal S16384x1024 .f32 :=
  addf (mulf (mulf (subf y (broadcastInDim S16384x1024 ![0, 1] bcast_S16384x1_S16384x1024_0_1 mu))
    (broadcastInDim S16384x1024 ![0, 1] bcast_S16384x1_S16384x1024_0_1 (Host.rsqrt (addf
      (rMu (mulf (subf y (broadcastInDim S16384x1024 ![0, 1] bcast_S16384x1_S16384x1024_0_1 mu))
        (subf y (broadcastInDim S16384x1024 ![0, 1] bcast_S16384x1_S16384x1024_0_1 mu))))
      (broadcastInDim S16384x1 ![] bcast_S_S16384x1 (constant S_ .f32 0x3727C5AC#32))))))
    (broadcastInDim S16384x1024 ![0, 1] bcast_S1x1024_S16384x1024_0_1 g))
    (broadcastInDim S16384x1024 ![0, 1] bcast_S1x1024_S16384x1024_0_1 b)

theorem rY_apply (x : FVec Ideal S8x2048x1024 .f32) (hm : FVec Ideal S16384x1024 .bf16) (hd hc : FVec Ideal S16384x512 .bf16)
    (w : FVec Ideal S1x2048x1024 .f32) (r : Fin 16384) (d : Fin 1024) : rY x hm hd hc w (ix2 r d) = row x hm hd hc w r d := by
  unfold rY row
  pointwise

theorem rMu_apply (y : FVec Ideal S16384x1024 .f32) (r : Fin 16384) :
    rMu y (ix2 r 0) = Ideal.div (∑ x, y (ix2 r x)) (Ideal.ofBits .f32 1149239296#32) := by
  unfold rMu
  pointwise

theorem rLn_apply (y : FVec Ideal S16384x1024 .f32) (g b : FVec Ideal S1x1024 .f32) (r : Fin 16384) (d : Fin 1024) :
    rLn y (rMu y) g b (ix2 r d) = ln (fun e => y (ix2 r e)) (g (ix2 0 d)) (b (ix2 0 d)) d := by
  unfold rLn
  pointwise [rMu_apply]
  simp only [ln]

theorem ref_steps (m : (ℓ : Loc nD τ sig) → Buf (Elt Ideal) ℓ) (c : Dev nD) : res_out0 (F := Ideal) m c
    = rLn (rY (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)))
      (rMu (rY (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))))
      (m ((c.tc : Thread nD τ).loc main_arg5)) (m ((c.tc : Thread nD τ).loc main_arg6)) := rfl

theorem rAll (x : FVec Ideal S8x2048x1024 .f32) (hm : FVec Ideal S16384x1024 .bf16) (hd hc : FVec Ideal S16384x512 .bf16)
    (w : FVec Ideal S1x2048x1024 .f32) (g b : FVec Ideal S1x1024 .f32) (r : Fin 16384) (d : Fin 1024) :
    rLn (rY x hm hd hc w) (rMu (rY x hm hd hc w)) g b (ix2 r d) = mAll x hm hd hc w g b (ix2 r d) := by
  rw [rLn_apply]
  simp only [rY_apply]
  rfl

/-- The reference's result is the norm of its rows. -/
theorem ref_eq (m : (ℓ : Loc nD τ sig) → Buf (Elt Ideal) ℓ) (c : Dev nD) : res_out0 (F := Ideal) m c
    = mAll (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5)) (m ((c.tc : Thread nD τ).loc main_arg6)) := by
  rw [ref_steps]
  funext y
  exact (congrArg _ (eq_ix2 y)).trans ((rAll _ _ _ _ _ _ _ (y 0) (y 1)).trans (congrArg _ (eq_ix2 y).symm))

end Cert.Merge
-- ==== Proof.Merge.Final.lean ====
/-
  The merge's result array after the run: the norm of its rows.
-/
module

public import proofs.«01_k».proof.Proof.Gen.MergeIdeal.Value
public import proofs.«01_k».proof.Proof.Merge.Out
public import proofs.«01_k».proof.Proof.Merge.Ref

@[expose] public section

set_option maxRecDepth 16384

noncomputable section

namespace Cert.Merge

open Idealize Idealize.ShloMosaic Idealize.ShloMosaic.TcCoe Cert.MergeIdeal Cert.MergeIdeal.Gen Cert.MergeIdeal.Value

theorem e0 : ∀ t : Fin cfg0.N, win0_0.index t = ![t.val, 0] := (by decide +kernel : ∀ t : Fin grid0.N, win0_0.index t = ![t.val, 0])
theorem e1 : ∀ t : Fin cfg0.N, win0_1.index t = ![t.val, 0] := (by decide +kernel : ∀ t : Fin grid0.N, win0_1.index t = ![t.val, 0])
theorem e2 : ∀ t : Fin cfg0.N, win0_2.index t = ![t.val, 0] := (by decide +kernel : ∀ t : Fin grid0.N, win0_2.index t = ![t.val, 0])
theorem e3 : ∀ t : Fin cfg0.N, win0_3.index t = ![t.val, 0] := (by decide +kernel : ∀ t : Fin grid0.N, win0_3.index t = ![t.val, 0])
theorem e4 : ∀ t : Fin cfg0.N, win0_4.index t = ![0, 0] := (by decide +kernel : ∀ t : Fin grid0.N, win0_4.index t = ![0, 0])
theorem e5 : ∀ t : Fin cfg0.N, win0_5.index t = ![0, 0] := (by decide +kernel : ∀ t : Fin grid0.N, win0_5.index t = ![0, 0])
theorem e6 : ∀ t : Fin cfg0.N, win0_6.index t = ![0, 0] := (by decide +kernel : ∀ t : Fin grid0.N, win0_6.index t = ![0, 0])
theorem e7 : ∀ t : Fin cfg0.N, win0_7.index t = ![t.val, 0] := (by decide +kernel : ∀ t : Fin grid0.N, win0_7.index t = ![t.val, 0])

variable (m : (ℓ : Loc nD τ sig) → Buf (Elt Ideal) ℓ) (c : Dev nD) (t : Fin cfg0.N)

/-- The residual as the rows of a table. -/
theorem v0_eq : (V m c main_v0 : FVec Ideal S16384x1024 .f32)
    = shapeCast S16384x1024 (m ((c : Thread nD τ).loc main_arg0) : FVec Ideal S8x2048x1024 .f32) shapeCasts_S8x2048x1024_S16384x1024 := by
  rfl

/-- The weights as a table. -/
theorem v2_eq : (V m c main_v2 : FVec Ideal S2048x1024 .bf16)
    = truncf (F := Ideal) .bf16 (shapeCast S2048x1024 (m ((c : Thread nD τ).loc main_arg4) : FVec Ideal S1x2048x1024 .f32) shapeCasts_S1x2048x1024_S2048x1024) bitsLt_bf16_f32 := by
  rfl

theorem cast0 (x : FVec Ideal S8x2048x1024 .f32) (r : Fin 16384) (d : Fin 1024) :
    shapeCast S16384x1024 x shapeCasts_S8x2048x1024_S16384x1024 (ix2 r d) = x (ix3 ⟨r.val / 2048, by omega⟩ ⟨r.val % 2048, by omega⟩ d) := by
  pointwise

theorem cast2 (w : FVec Ideal S1x2048x1024 .f32) (r : Fin 2048) (d : Fin 1024) :
    truncf (F := Ideal) .bf16 (shapeCast S2048x1024 w shapeCasts_S1x2048x1024_S2048x1024) bitsLt_bf16_f32 (ix2 r d) = w (ix3 0 r d) := by
  pointwise

theorem v0_apply (r : Fin 16384) (d : Fin 1024) : (V m c main_v0 : FVec Ideal S16384x1024 .f32) (ix2 r d)
    = (m ((c : Thread nD τ).loc main_arg0) : FVec Ideal S8x2048x1024 .f32) (ix3 ⟨r.val / 2048, by omega⟩ ⟨r.val % 2048, by omega⟩ d) := by
  exact (congrFun (v0_eq m c) _).trans (cast0 _ r d)

theorem v2_apply (r : Fin 2048) (d : Fin 1024) : (V m c main_v2 : FVec Ideal S2048x1024 .bf16) (ix2 r d)
    = (m ((c : Thread nD τ).loc main_arg4) : FVec Ideal S1x2048x1024 .f32) (ix3 0 r d) := by
  exact (congrFun (v2_eq m c) _).trans (cast2 _ r d)

theorem ib0 (r d : Fin 1024) : iblk m c 0 t (ix2 r d)
    = (m ((c : Thread nD τ).loc main_arg0) : FVec Ideal S8x2048x1024 .f32)
        (ix3 ⟨(1024 * t.val + r.val) / 2048, by have : t.val < 16 := t.isLt; omega⟩ ⟨(1024 * t.val + r.val) % 2048, by omega⟩ d) := by
  refine Eq.trans ?_ (v0_apply m c ⟨1024 * t.val + r.val, by have : t.val < 16 := t.isLt; omega⟩ d)
  blk_simp [iblk, e0]
  refine congrArg _ ?_
  blk_ext [e0, ix2_0, ix2_1]
theorem ib1 (r k : Fin 1024) : iblk m c 1 t (ix2 r k)
    = m ((c : Thread nD τ).loc main_arg1) (ix2 ⟨1024 * t.val + r.val, by have : t.val < 16 := t.isLt; omega⟩ k) := by
  blk_simp [iblk, e1]
  rw [V_main_arg1]
  refine congrArg _ ?_
  blk_ext [e1, ix2_0, ix2_1]
theorem ib2 (r : Fin 1024) (k : Fin 512) : iblk m c 2 t (ix2 r k)
    = m ((c : Thread nD τ).loc main_arg2) (ix2 ⟨1024 * t.val + r.val, by have : t.val < 16 := t.isLt; omega⟩ k) := by
  blk_simp [iblk, e2]
  rw [V_main_arg2]
  refine congrArg _ ?_
  blk_ext [e2, ix2_0, ix2_1]
theorem ib3 (r : Fin 1024) (k : Fin 512) : iblk m c 3 t (ix2 r k)
    = m ((c : Thread nD τ).loc main_arg3) (ix2 ⟨1024 * t.val + r.val, by have : t.val < 16 := t.isLt; omega⟩ k) := by
  blk_simp [iblk, e3]
  rw [V_main_arg3]
  refine congrArg _ ?_
  blk_ext [e3, ix2_0, ix2_1]
theorem ib4 (r : Fin 2048) (d : Fin 1024) : iblk m c 4 t (ix2 r d)
    = (m ((c : Thread nD τ).loc main_arg4) : FVec Ideal S1x2048x1024 .f32) (ix3 0 r d) := by
  refine Eq.trans ?_ (v2_apply m c r d)
  blk_simp [iblk, e4]
  refine congrArg _ ?_
  blk_ext [e4, ix2_0, ix2_1]
theorem ib5 : (iblk m c 5 t : FVec Ideal S1x1024 .f32) = m ((c : Thread nD τ).loc main_arg5) := by
  funext y
  blk_simp [iblk, e5]
  rw [V_main_arg5]
  refine congrArg _ ?_
  blk_ext [e5]
theorem ib6 : (iblk m c 6 t : FVec Ideal S1x1024 .f32) = m ((c : Thread nD τ).loc main_arg6) := by
  funext y
  blk_simp [iblk, e6]
  rw [V_main_arg6]
  refine congrArg _ ?_
  blk_ext [e6]

/-- What a grid point leaves is its rows of the whole. -/
theorem want_all (r d : Fin 1024) :
    bAll (iblk m c 0 t) (iblk m c 1 t) (iblk m c 2 t) (iblk m c 3 t) (iblk m c 4 t) (iblk m c 5 t) (iblk m c 6 t) (ix2 r d)
      = mAll (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (ix2 ⟨1024 * t.val + r.val, by have : t.val < 16 := t.isLt; omega⟩ d) := by
  rw [ib5, ib6]
  unfold bAll mAll
  refine congrFun (congrFun (congrFun (congrArg ln ?_) _) _) _
  funext e
  unfold bRow row
  simp only [ib0, ib1, ib2, ib3, ib4, ix2_0]

theorem arr_eq : (dats m 0 c).arrAt 7 cfg0.N
    = mAll (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t _ y => ?_
  have ht : t.val < 16 := t.isLt
  have hy : ((win0_7.blk t).view.emb y : S16384x1024.Idx) = ix2 ⟨1024 * t.val + (y 0).val, by idx_bounds y; omega⟩ (y 1) := by
    blk_ext [e7, ix2_0, ix2_1]
  blk_simp
  rw [after0_7]
  refine Eq.trans ?_ ((want_all m c t (y 0) (y 1)).trans (congrArg _ hy.symm))
  exact (out_eq _ _ _ _ _ _ _ y).trans (congrArg _ (eq_ix2 y))

end Cert.Merge
-- ==== Proof.Merge.Claims.lean ====
/-
  The claims about the merge: it leaves its arguments as they are, and over the exact numbers its result is the
  reference's.
-/
module

public import proofs.«01_k».proof.Defs
public import proofs.«01_k».proof.Proof.Gen.Merge.Frame
public import proofs.«01_k».proof.Proof.Merge.Final
public import Idealize.ShloMosaic.Lib.Quiescent

@[expose] public section

noncomputable section

namespace Cert.Merge

open Idealize Idealize.ShloMosaic Idealize.ShloMosaic.TcCoe Idealize.SL.Sem

theorem quiet : Cert.quiescent_Merge := fun m g _ => Cert.Merge.Gen.frame m g

theorem quiet_ideal : Cert.quiescent_MergeIdeal := fun m g _ => Cert.MergeIdeal.Gen.frame m g

theorem quiet_ref : Cert.quiescent_MergeRefIdeal := fun m g _ =>
  (θ_run Cert.MergeRefIdeal.defs _ _).mono (fun r h => ⟨fun c => (h c).2, sem_eq_zero_of_no_sems (by decide) r.2⟩)
    (Cert.MergeRefIdeal.Value.run (F := Ideal) m g)

open Cert.MergeIdeal in
theorem value_claim : Cert.algebraic_MergeIdeal_MergeRefIdeal := by
  intro m g m' g' _ hag
  refine ⟨fun c => mAll (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)), ?_, ?_⟩
  · refine (θ_run _ _ _).mono (fun r h c => ⟨(h c).1.trans ?_, (h c).2⟩) (Cert.MergeIdeal.Value.run_blocks (F := Ideal) m g)
    exact arr_eq m c
  · refine (θ_run _ _ _).mono (fun r h c => ⟨(h c).1.trans ?_, (h c).2⟩) (Cert.MergeRefIdeal.Value.run (F := Ideal) m' g')
    obtain ⟨q0, q1, q2, q3, q4, q5, q6⟩ := hag c
    refine (ref_eq m' c).trans ?_
    rw [q0, q1, q2, q3, q4, q5, q6]

end Cert.Merge
-- ==== Proof.InProj.RunIdeal.lean ====
/-
  The input projection's run over the exact numbers: what each grid point leaves in the twelve output blocks, and the arguments unchanged.
  The two outputs of one row to a head are stored with rows four apart.
-/
module

public import proofs.«01_k».proof.Proof.Gen.InProjIdeal.Frame
public import proofs.«01_k».proof.Proof.Gen.InProjIdeal.Skeleton
public import Idealize.ShloMosaic.Lib.Claim

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev r0_0 : Rect S256x1024 := Rect.unit (s := S256x1024) ![0, 0] S256x1024.size inb_S256x1024_S256x1024_0_0
abbrev r0_1 : Rect S1024x1024 := Rect.unit (s := S1024x1024) ![0, 0] S1024x1024.size inb_S1024x1024_S1024x1024_0_0
abbrev r0_2 : Rect S1x1024x256 := Rect.unit (s := S1x1024x256) ![0, 0, 0] S1x1024x256.size inb_S1x1024x256_S1x1024x256_0_0_0
abbrev r0_3 : Rect S1024x2048 := Rect.unit (s := S1024x2048) ![0, 0] S1024x1024.size inb_S1024x2048_S1024x1024_0_0
abbrev r0_4 : Rect S1024x2048 := Rect.unit (s := S1024x2048) ![0, 1024] S1024x1024.size inb_S1024x2048_S1024x1024_0_1024
abbrev r0_5 : Rect S256x2048 := Rect.unit (s := S256x2048) ![0, 0] S256x1024.size inb_S256x2048_S256x1024_0_0
abbrev r0_6 : Rect S256x2048 := Rect.unit (s := S256x2048) ![0, 1024] S256x1024.size inb_S256x2048_S256x1024_0_1024
abbrev r0_7 : Rect S1024x128 := Rect.unit (s := S1024x128) ![0, 0] S1024x128.size inb_S1024x128_S1024x128_0_0
abbrev r0_8 : Rect S1x128 := Rect.unit (s := S1x128) ![0, 0] S1x128.size inb_S1x128_S1x128_0_0
abbrev r0_9 : Rect S256x128 := Rect.unit (s := S256x128) ![0, 0] S256x128.size inb_S256x128_S256x128_0_0
abbrev r0_10 : Rect S8x1024 := Rect.unit (s := S8x1024) ![0, 0] S8x1024.size inb_S8x1024_S8x1024_0_0
abbrev r0_11 : Rect S8x128 := Rect.unit (s := S8x128) ![0, 0] S8x1.size inb_S8x128_S8x1_0_0
abbrev r0_12 : Rect S8x256 := Rect.unit (s := S8x256) ![0, 0] S8x256.size inb_S8x256_S8x256_0_0
abbrev r0_13 : Rect S1024x2048 := Rect.unit (s := S1024x2048) ![0, 0] S1024x512.size inb_S1024x2048_S1024x512_0_0
abbrev r0_14 : Rect S1024x2048 := Rect.unit (s := S1024x2048) ![0, 512] S1024x512.size inb_S1024x2048_S1024x512_0_512
abbrev r0_15 : Rect S1024x2048 := Rect.unit (s := S1024x2048) ![0, 1024] S1024x512.size inb_S1024x2048_S1024x512_0_1024
abbrev r0_16 : Rect S1x512x256 := Rect.unit (s := S1x512x256) ![0, 0, 0] S1x512x256.size inb_S1x512x256_S1x512x256_0_0_0
abbrev r0_17 : Rect S256x512 := Rect.unit (s := S256x512) ![0, 0] S256x128.size inb_S256x512_S256x128_0_0
abbrev r0_18 : Rect S1024x128 := ⟨(⟨![0, 0], S256x128.size, ![4, 1], inb_S1024x128_S256x128_0_0_s_4_1⟩ : LoadRect S1024x128), spos_4_1⟩
abbrev r0_19 : Rect S256x512 := Rect.unit (s := S256x512) ![0, 128] S256x128.size inb_S256x512_S256x128_0_128
abbrev r0_20 : Rect S1024x128 := ⟨(⟨![1, 0], S256x128.size, ![4, 1], inb_S1024x128_S256x128_1_0_s_4_1⟩ : LoadRect S1024x128), spos_4_1⟩
abbrev r0_21 : Rect S256x512 := Rect.unit (s := S256x512) ![0, 256] S256x128.size inb_S256x512_S256x128_0_256
abbrev r0_22 : Rect S1024x128 := ⟨(⟨![2, 0], S256x128.size, ![4, 1], inb_S1024x128_S256x128_2_0_s_4_1⟩ : LoadRect S1024x128), spos_4_1⟩
abbrev r0_23 : Rect S256x512 := Rect.unit (s := S256x512) ![0, 384] S256x128.size inb_S256x512_S256x128_0_384
abbrev r0_24 : Rect S1024x128 := ⟨(⟨![3, 0], S256x128.size, ![4, 1], inb_S1024x128_S256x128_3_0_s_4_1⟩ : LoadRect S1024x128), spos_4_1⟩
abbrev r0_25 : Rect S1024x2048 := Rect.unit (s := S1024x2048) ![0, 1536] S1024x512.size inb_S1024x2048_S1024x512_0_1536
abbrev r0_26 : Rect S256x512 := Rect.unit (s := S256x512) ![0, 0] S256x512.size inb_S256x512_S256x512_0_0

/-- The four rectangles whose rows are four apart cover the block. -/
theorem cover_strided (p0 : Vec F S256x128 .f32) (p1 : Vec F S256x128 .f32) (p2 : Vec F S256x128 .f32) (p3 : Vec F S256x128 .f32) (y : S1024x128.Idx) :
    ∃ pc ∈ ([⟨r0_24, p0⟩, ⟨r0_22, p1⟩, ⟨r0_20, p2⟩, ⟨r0_18, p3⟩] : List (View.Piece (Elt F) S1024x128 .f32)), y ∈ pc.1.set := by
  have h0 : (y 0).val < 1024 := (y 0).isLt
  have h1 : (y 1).val < 128 := (y 1).isLt
  have key : ∀ (h : ℕ) (r : Rect S1024x128), (y 0).val % 4 = h → r.off = ![h, 0] → r.size = S256x128.size → r.stride = ![4, 1] → y ∈ r.set := by
    intro h r hm ho hs ht
    refine r.toLoadRect.mem_set.mpr fun a => ?_
    rw [ho, hs, ht]
    fin_cases a
    · exact ⟨(y 0).val / 4, show _ < 256 by omega, show (y 0).val = h + 4 * ((y 0).val / 4) by omega⟩
    · exact ⟨(y 1).val, show _ < 128 by omega, show (y 1).val = 0 + 1 * (y 1).val by omega⟩
  rcases (by omega : (y 0).val % 4 = 0 ∨ (y 0).val % 4 = 1 ∨ (y 0).val % 4 = 2 ∨ (y 0).val % 4 = 3) with h | h | h | h
  · exact ⟨⟨r0_18, p3⟩, by simp, key 0 r0_18 h rfl rfl rfl⟩
  · exact ⟨⟨r0_20, p2⟩, by simp, key 1 r0_20 h rfl rfl rfl⟩
  · exact ⟨⟨r0_22, p1⟩, by simp, key 2 r0_22 h rfl rfl rfl⟩
  · exact ⟨⟨r0_24, p0⟩, by simp, key 3 r0_24 h rfl rfl rfl⟩

/-! ## What the body leaves in each output window's buffer -/

/-! ### Values several stores share -/

def k0_pay44 (x0 : Vec F S256x1024 .f32) (x1 : Vec F S1024x1024 .bf16) (x2 : Vec F S1024x1024 .bf16) (x3 : Vec F S1024x2048 .bf16) (x4 : Vec F S1024x128 .bf16) (x5 : Vec F S8x1024 .bf16) (x6 : Vec F S1024x2048 .bf16) (x7 : Vec F S1024x2048 .bf16) (x8 : Vec F S1x128 .f32) (x9 : Vec F S8x128 .f32) (x10 : Vec F S256x128 .f32) (x11 : Vec F S256x128 .f32) : FVec F S256x1024 .bf16 :=
  k0_pay6 (View.ld x0 r0_0) -- `v2`
def k0_pay45 (x0 : Vec F S256x1024 .f32) (x1 : Vec F S1024x1024 .bf16) (x2 : Vec F S1024x1024 .bf16) (x3 : Vec F S1024x2048 .bf16) (x4 : Vec F S1024x128 .bf16) (x5 : Vec F S8x1024 .bf16) (x6 : Vec F S1024x2048 .bf16) (x7 : Vec F S1024x2048 .bf16) (x8 : Vec F S1x128 .f32) (x9 : Vec F S8x128 .f32) (x10 : Vec F S256x128 .f32) (x11 : Vec F S256x128 .f32) : FVec F S256x128 .f32 :=
  k0_pay16 (View.ld x10 r0_9) -- `v60`
def k0_pay46 (x0 : Vec F S256x1024 .f32) (x1 : Vec F S1024x1024 .bf16) (x2 : Vec F S1024x1024 .bf16) (x3 : Vec F S1024x2048 .bf16) (x4 : Vec F S1024x128 .bf16) (x5 : Vec F S8x1024 .bf16) (x6 : Vec F S1024x2048 .bf16) (x7 : Vec F S1024x2048 .bf16) (x8 : Vec F S1x128 .f32) (x9 : Vec F S8x128 .f32) (x10 : Vec F S256x128 .f32) (x11 : Vec F S256x128 .f32) : FVec F S256x128 .f32 :=
  k0_pay17 (View.ld x11 r0_9) -- `v62`
def k0_pay47 (x0 : Vec F S256x1024 .f32) (x1 : Vec F S1024x1024 .bf16) (x2 : Vec F S1024x1024 .bf16) (x3 : Vec F S1024x2048 .bf16) (x4 : Vec F S1024x128 .bf16) (x5 : Vec F S8x1024 .bf16) (x6 : Vec F S1024x2048 .bf16) (x7 : Vec F S1024x2048 .bf16) (x8 : Vec F S1x128 .f32) (x9 : Vec F S8x128 .f32) (x10 : Vec F S256x128 .f32) (x11 : Vec F S256x128 .f32) : IVec S256x128 1 :=
  k0_pay18 -- `v81`
def k0_pay48 (x0 : Vec F S256x1024 .f32) (x1 : Vec F S1024x1024 .bf16) (x2 : Vec F S1024x1024 .bf16) (x3 : Vec F S1024x2048 .bf16) (x4 : Vec F S1024x128 .bf16) (x5 : Vec F S8x1024 .bf16) (x6 : Vec F S1024x2048 .bf16) (x7 : Vec F S1024x2048 .bf16) (x8 : Vec F S1x128 .f32) (x9 : Vec F S8x128 .f32) (x10 : Vec F S256x128 .f32) (x11 : Vec F S256x128 .f32) : FVec F S256x512 .f32 :=
  k0_pay19 (k0_pay44 x0 x1 x2 x3 x4 x5 x6 x7 x8 x9 x10 x11) (View.ld x6 r0_13) -- `v84`
def k0_pay49 (x0 : Vec F S256x1024 .f32) (x1 : Vec F S1024x1024 .bf16) (x2 : Vec F S1024x1024 .bf16) (x3 : Vec F S1024x2048 .bf16) (x4 : Vec F S1024x128 .bf16) (x5 : Vec F S8x1024 .bf16) (x6 : Vec F S1024x2048 .bf16) (x7 : Vec F S1024x2048 .bf16) (x8 : Vec F S1x128 .f32) (x9 : Vec F S8x128 .f32) (x10 : Vec F S256x128 .f32) (x11 : Vec F S256x128 .f32) : FVec F S256x512 .f32 :=
  k0_pay20 (k0_pay44 x0 x1 x2 x3 x4 x5 x6 x7 x8 x9 x10 x11) (View.ld x6 r0_14) -- `v87`
def k0_pay50 (x0 : Vec F S256x1024 .f32) (x1 : Vec F S1024x1024 .bf16) (x2 : Vec F S1024x1024 .bf16) (x3 : Vec F S1024x2048 .bf16) (x4 : Vec F S1024x128 .bf16) (x5 : Vec F S8x1024 .bf16) (x6 : Vec F S1024x2048 .bf16) (x7 : Vec F S1024x2048 .bf16) (x8 : Vec F S1x128 .f32) (x9 : Vec F S8x128 .f32) (x10 : Vec F S256x128 .f32) (x11 : Vec F S256x128 .f32) : FVec F S256x512 .f32 :=
  k0_pay21 (k0_pay44 x0 x1 x2 x3 x4 x5 x6 x7 x8 x9 x10 x11) (View.ld x6 r0_15) -- `v90`
def k0_pay51 (x0 : Vec F S256x1024 .f32) (x1 : Vec F S1024x1024 .bf16) (x2 : Vec F S1024x1024 .bf16) (x3 : Vec F S1024x2048 .bf16) (x4 : Vec F S1024x128 .bf16) (x5 : Vec F S8x1024 .bf16) (x6 : Vec F S1024x2048 .bf16) (x7 : Vec F S1024x2048 .bf16) (x8 : Vec F S1x128 .f32) (x9 : Vec F S8x128 .f32) (x10 : Vec F S256x128 .f32) (x11 : Vec F S256x128 .f32) : FVec F S256x128 .f32 :=
  k0_pay32 (k0_pay45 x0 x1 x2 x3 x4 x5 x6 x7 x8 x9 x10 x11) (k0_pay49 x0 x1 x2 x3 x4 x5 x6 x7 x8 x9 x10 x11) -- `v134`
def k0_pay52 (x0 : Vec F S256x1024 .f32) (x1 : Vec F S1024x1024 .bf16) (x2 : Vec F S1024x1024 .bf16) (x3 : Vec F S1024x2048 .bf16) (x4 : Vec F S1024x128 .bf16) (x5 : Vec F S8x1024 .bf16) (x6 : Vec F S1024x2048 .bf16) (x7 : Vec F S1024x2048 .bf16) (x8 : Vec F S1x128 .f32) (x9 : Vec F S8x128 .f32) (x10 : Vec F S256x128 .f32) (x11 : Vec F S256x128 .f32) : FVec F S256x128 .f32 :=
  k0_pay33 (k0_pay46 x0 x1 x2 x3 x4 x5 x6 x7 x8 x9 x10 x11) (k0_pay47 x0 x1 x2 x3 x4 x5 x6 x7 x8 x9 x10 x11) (k0_pay49 x0 x1 x2 x3 x4 x5 x6 x7 x8 x9 x10 x11) -- `v135`

def out0_12 (x0 : Vec F S256x1024 .f32) (x1 : Vec F S1024x1024 .bf16) (x2 : Vec F S1024x1024 .bf16) (x3 : Vec F S1024x2048 .bf16) (x4 : Vec F S1024x128 .bf16) (x5 : Vec F S8x1024 .bf16) (x6 : Vec F S1024x2048 .bf16) (x7 : Vec F S1024x2048 .bf16) (x8 : Vec F S1x128 .f32) (x9 : Vec F S8x128 .f32) (x10 : Vec F S256x128 .f32) (x11 : Vec F S256x128 .f32) : Vec F S1x1024x256 .bf16 :=
  View.canon [⟨r0_2, k0_pay7 (View.ld x0 r0_0) (View.ld x1 r0_1)⟩]

theorem cover0_12 (p0 : Vec F S1x1024x256 .bf16) (y : S1x1024x256.Idx) :
    ∃ pc ∈ ([⟨r0_2, p0⟩] : List (View.Piece (Elt F) S1x1024x256 .bf16)), y ∈ pc.1.set :=
  View.cover_of_tiled [⟨r0_2, p0⟩] S1x1024x256.size (by rfl) y

def out0_13 (x0 : Vec F S256x1024 .f32) (x1 : Vec F S1024x1024 .bf16) (x2 : Vec F S1024x1024 .bf16) (x3 : Vec F S1024x2048 .bf16) (x4 : Vec F S1024x128 .bf16) (x5 : Vec F S8x1024 .bf16) (x6 : Vec F S1024x2048 .bf16) (x7 : Vec F S1024x2048 .bf16) (x8 : Vec F S1x128 .f32) (x9 : Vec F S8x128 .f32) (x10 : Vec F S256x128 .f32) (x11 : Vec F S256x128 .f32) : Vec F S256x1024 .bf16 :=
  View.canon [⟨r0_0, k0_pay9 (View.ld x0 r0_0) (View.ld x3 r0_3)⟩]

theorem cover0_13 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

def out0_14 (x0 : Vec F S256x1024 .f32) (x1 : Vec F S1024x1024 .bf16) (x2 : Vec F S1024x1024 .bf16) (x3 : Vec F S1024x2048 .bf16) (x4 : Vec F S1024x128 .bf16) (x5 : Vec F S8x1024 .bf16) (x6 : Vec F S1024x2048 .bf16) (x7 : Vec F S1024x2048 .bf16) (x8 : Vec F S1x128 .f32) (x9 : Vec F S8x128 .f32) (x10 : Vec F S256x128 .f32) (x11 : Vec F S256x128 .f32) : Vec F S1x1024x256 .bf16 :=
  View.canon [⟨r0_2, k0_pay8 (View.ld x0 r0_0) (View.ld x2 r0_1)⟩]

theorem cover0_14 (p0 : Vec F S1x1024x256 .bf16) (y : S1x1024x256.Idx) :
    ∃ pc ∈ ([⟨r0_2, p0⟩] : List (View.Piece (Elt F) S1x1024x256 .bf16)), y ∈ pc.1.set :=
  View.cover_of_tiled [⟨r0_2, p0⟩] S1x1024x256.size (by rfl) y

def out0_15 (x0 : Vec F S256x1024 .f32) (x1 : Vec F S1024x1024 .bf16) (x2 : Vec F S1024x1024 .bf16) (x3 : Vec F S1024x2048 .bf16) (x4 : Vec F S1024x128 .bf16) (x5 : Vec F S8x1024 .bf16) (x6 : Vec F S1024x2048 .bf16) (x7 : Vec F S1024x2048 .bf16) (x8 : Vec F S1x128 .f32) (x9 : Vec F S8x128 .f32) (x10 : Vec F S256x128 .f32) (x11 : Vec F S256x128 .f32) : Vec F S256x128 .f32 :=
  View.canon [⟨r0_9, k0_pay14 (k0_pay44 x0 x1 x2 x3 x4 x5 x6 x7 x8 x9 x10 x11) (View.ld x4 r0_7) (View.ld x8 r0_8)⟩]

theorem cover0_15 (p0 : Vec F S256x128 .f32) (y : S256x128.Idx) :
    ∃ pc ∈ ([⟨r0_9, p0⟩] : List (View.Piece (Elt F) S256x128 .f32)), y ∈ pc.1.set :=
  View.cover_of_tiled [⟨r0_9, p0⟩] S256x128.size (by rfl) y

def out0_16 (x0 : Vec F S256x1024 .f32) (x1 : Vec F S1024x1024 .bf16) (x2 : Vec F S1024x1024 .bf16) (x3 : Vec F S1024x2048 .bf16) (x4 : Vec F S1024x128 .bf16) (x5 : Vec F S8x1024 .bf16) (x6 : Vec F S1024x2048 .bf16) (x7 : Vec F S1024x2048 .bf16) (x8 : Vec F S1x128 .f32) (x9 : Vec F S8x128 .f32) (x10 : Vec F S256x128 .f32) (x11 : Vec F S256x128 .f32) : Vec F S8x256 .f32 :=
  View.canon [⟨r0_12, k0_pay15 (k0_pay44 x0 x1 x2 x3 x4 x5 x6 x7 x8 x9 x10 x11) (View.ld x5 r0_10) (View.ld x9 r0_11)⟩]

theorem cover0_16 (p0 : Vec F S8x256 .f32) (y : S8x256.Idx) :
    ∃ pc ∈ ([⟨r0_12, p0⟩] : List (View.Piece (Elt F) S8x256 .f32)), y ∈ pc.1.set :=
  View.cover_of_tiled [⟨r0_12, p0⟩] S8x256.size (by rfl) y

def out0_17 (x0 : Vec F S256x1024 .f32) (x1 : Vec F S1024x1024 .bf16) (x2 : Vec F S1024x1024 .bf16) (x3 : Vec F S1024x2048 .bf16) (x4 : Vec F S1024x128 .bf16) (x5 : Vec F S8x1024 .bf16) (x6 : Vec F S1024x2048 .bf16) (x7 : Vec F S1024x2048 .bf16) (x8 : Vec F S1x128 .f32) (x9 : Vec F S8x128 .f32) (x10 : Vec F S256x128 .f32) (x11 : Vec F S256x128 .f32) : Vec F S256x512 .bf16 :=
  View.canon [⟨r0_23, k0_pay1 (k0_pay45 x0 x1 x2 x3 x4 x5 x6 x7 x8 x9 x10 x11) (k0_pay46 x0 x1 x2 x3 x4 x5 x6 x7 x8 x9 x10 x11) (k0_pay47 x0 x1 x2 x3 x4 x5 x6 x7 x8 x9 x10 x11) (k0_pay41 (k0_pay48 x0 x1 x2 x3 x4 x5 x6 x7 x8 x9 x10 x11)) (k0_pay42 (k0_pay48 x0 x1 x2 x3 x4 x5 x6 x7 x8 x9 x10 x11)) (k0_pay43 (k0_pay48 x0 x1 x2 x3 x4 x5 x6 x7 x8 x9 x10 x11))⟩,
    ⟨r0_21, k0_pay37 (k0_pay45 x0 x1 x2 x3 x4 x5 x6 x7 x8 x9 x10 x11) (k0_pay46 x0 x1 x2 x3 x4 x5 x6 x7 x8 x9 x10 x11) (k0_pay47 x0 x1 x2 x3 x4 x5 x6 x7 x8 x9 x10 x11) (k0_pay48 x0 x1 x2 x3 x4 x5 x6 x7 x8 x9 x10 x11)⟩,
    ⟨r0_19, k0_pay30 (k0_pay45 x0 x1 x2 x3 x4 x5 x6 x7 x8 x9 x10 x11) (k0_pay46 x0 x1 x2 x3 x4 x5 x6 x7 x8 x9 x10 x11) (k0_pay47 x0 x1 x2 x3 x4 x5 x6 x7 x8 x9 x10 x11) (k0_pay48 x0 x1 x2 x3 x4 x5 x6 x7 x8 x9 x10 x11)⟩,
    ⟨r0_17, k0_pay26 (k0_pay45 x0 x1 x2 x3 x4 x5 x6 x7 x8 x9 x10 x11) (k0_pay46 x0 x1 x2 x3 x4 x5 x6 x7 x8 x9 x10 x11) (k0_pay47 x0 x1 x2 x3 x4 x5 x6 x7 x8 x9 x10 x11) (k0_pay23 (k0_pay44 x0 x1 x2 x3 x4 x5 x6 x7 x8 x9 x10 x11) (View.ld x6 r0_13)) (k0_pay24 (k0_pay44 x0 x1 x2 x3 x4 x5 x6 x7 x8 x9 x10 x11) (View.ld x6 r0_13)) (k0_pay25 (k0_pay44 x0 x1 x2 x3 x4 x5 x6 x7 x8 x9 x10 x11) (View.ld x6 r0_13))⟩]

theorem cover0_17 (p0 : Vec F S256x128 .bf16) (p1 : Vec F S256x128 .bf16) (p2 : Vec F S256x128 .bf16) (p3 : Vec F S256x128 .bf16) (y : S256x512.Idx) :
    ∃ pc ∈ ([⟨r0_23, p0⟩, ⟨r0_21, p1⟩, ⟨r0_19, p2⟩, ⟨r0_17, p3⟩] : List (View.Piece (Elt F) S256x512 .bf16)), y ∈ pc.1.set :=
  View.cover_of_tiled [⟨r0_23, p0⟩, ⟨r0_21, p1⟩, ⟨r0_19, p2⟩, ⟨r0_17, p3⟩] S256x128.size (by rfl) y

def out0_18 (x0 : Vec F S256x1024 .f32) (x1 : Vec F S1024x1024 .bf16) (x2 : Vec F S1024x1024 .bf16) (x3 : Vec F S1024x2048 .bf16) (x4 : Vec F S1024x128 .bf16) (x5 : Vec F S8x1024 .bf16) (x6 : Vec F S1024x2048 .bf16) (x7 : Vec F S1024x2048 .bf16) (x8 : Vec F S1x128 .f32) (x9 : Vec F S8x128 .f32) (x10 : Vec F S256x128 .f32) (x11 : Vec F S256x128 .f32) : Vec F S1024x128 .f32 :=
  View.canon [⟨r0_24, k0_pay2 (k0_pay45 x0 x1 x2 x3 x4 x5 x6 x7 x8 x9 x10 x11) (k0_pay46 x0 x1 x2 x3 x4 x5 x6 x7 x8 x9 x10 x11) (k0_pay47 x0 x1 x2 x3 x4 x5 x6 x7 x8 x9 x10 x11) (k0_pay49 x0 x1 x2 x3 x4 x5 x6 x7 x8 x9 x10 x11)⟩,
    ⟨r0_22, k0_pay38 (k0_pay45 x0 x1 x2 x3 x4 x5 x6 x7 x8 x9 x10 x11) (k0_pay46 x0 x1 x2 x3 x4 x5 x6 x7 x8 x9 x10 x11) (k0_pay47 x0 x1 x2 x3 x4 x5 x6 x7 x8 x9 x10 x11) (k0_pay49 x0 x1 x2 x3 x4 x5 x6 x7 x8 x9 x10 x11)⟩,
    ⟨r0_20, k0_pay34 (k0_pay51 x0 x1 x2 x3 x4 x5 x6 x7 x8 x9 x10 x11) (k0_pay52 x0 x1 x2 x3 x4 x5 x6 x7 x8 x9 x10 x11)⟩,
    ⟨r0_18, k0_pay27 (k0_pay45 x0 x1 x2 x3 x4 x5 x6 x7 x8 x9 x10 x11) (k0_pay46 x0 x1 x2 x3 x4 x5 x6 x7 x8 x9 x10 x11) (k0_pay47 x0 x1 x2 x3 x4 x5 x6 x7 x8 x9 x10 x11) (k0_pay49 x0 x1 x2 x3 x4 x5 x6 x7 x8 x9 x10 x11)⟩]

theorem cover0_18 (p0 : Vec F S256x128 .f32) (p1 : Vec F S256x128 .f32) (p2 : Vec F S256x128 .f32) (p3 : Vec F S256x128 .f32) (y : S1024x128.Idx) :
    ∃ pc ∈ ([⟨r0_24, p0⟩, ⟨r0_22, p1⟩, ⟨r0_20, p2⟩, ⟨r0_18, p3⟩] : List (View.Piece (Elt F) S1024x128 .f32)), y ∈ pc.1.set :=
  cover_strided p0 p1 p2 p3 y

def out0_19 (x0 : Vec F S256x1024 .f32) (x1 : Vec F S1024x1024 .bf16) (x2 : Vec F S1024x1024 .bf16) (x3 : Vec F S1024x2048 .bf16) (x4 : Vec F S1024x128 .bf16) (x5 : Vec F S8x1024 .bf16) (x6 : Vec F S1024x2048 .bf16) (x7 : Vec F S1024x2048 .bf16) (x8 : Vec F S1x128 .f32) (x9 : Vec F S8x128 .f32) (x10 : Vec F S256x128 .f32) (x11 : Vec F S256x128 .f32) : Vec F S256x512 .bf16 :=
  View.canon [⟨r0_23, k0_pay3 (k0_pay45 x0 x1 x2 x3 x4 x5 x6 x7 x8 x9 x10 x11) (k0_pay46 x0 x1 x2 x3 x4 x5 x6 x7 x8 x9 x10 x11) (k0_pay47 x0 x1 x2 x3 x4 x5 x6 x7 x8 x9 x10 x11) (k0_pay49 x0 x1 x2 x3 x4 x5 x6 x7 x8 x9 x10 x11)⟩,
    ⟨r0_21, k0_pay39 (k0_pay45 x0 x1 x2 x3 x4 x5 x6 x7 x8 x9 x10 x11) (k0_pay46 x0 x1 x2 x3 x4 x5 x6 x7 x8 x9 x10 x11) (k0_pay47 x0 x1 x2 x3 x4 x5 x6 x7 x8 x9 x10 x11) (k0_pay49 x0 x1 x2 x3 x4 x5 x6 x7 x8 x9 x10 x11)⟩,
    ⟨r0_19, k0_pay35 (k0_pay51 x0 x1 x2 x3 x4 x5 x6 x7 x8 x9 x10 x11) (k0_pay52 x0 x1 x2 x3 x4 x5 x6 x7 x8 x9 x10 x11)⟩,
    ⟨r0_17, k0_pay28 (k0_pay45 x0 x1 x2 x3 x4 x5 x6 x7 x8 x9 x10 x11) (k0_pay46 x0 x1 x2 x3 x4 x5 x6 x7 x8 x9 x10 x11) (k0_pay47 x0 x1 x2 x3 x4 x5 x6 x7 x8 x9 x10 x11) (k0_pay49 x0 x1 x2 x3 x4 x5 x6 x7 x8 x9 x10 x11)⟩]

theorem cover0_19 (p0 : Vec F S256x128 .bf16) (p1 : Vec F S256x128 .bf16) (p2 : Vec F S256x128 .bf16) (p3 : Vec F S256x128 .bf16) (y : S256x512.Idx) :
    ∃ pc ∈ ([⟨r0_23, p0⟩, ⟨r0_21, p1⟩, ⟨r0_19, p2⟩, ⟨r0_17, p3⟩] : List (View.Piece (Elt F) S256x512 .bf16)), y ∈ pc.1.set :=
  View.cover_of_tiled [⟨r0_23, p0⟩, ⟨r0_21, p1⟩, ⟨r0_19, p2⟩, ⟨r0_17, p3⟩] S256x128.size (by rfl) y

def out0_20 (x0 : Vec F S256x1024 .f32) (x1 : Vec F S1024x1024 .bf16) (x2 : Vec F S1024x1024 .bf16) (x3 : Vec F S1024x2048 .bf16) (x4 : Vec F S1024x128 .bf16) (x5 : Vec F S8x1024 .bf16) (x6 : Vec F S1024x2048 .bf16) (x7 : Vec F S1024x2048 .bf16) (x8 : Vec F S1x128 .f32) (x9 : Vec F S8x128 .f32) (x10 : Vec F S256x128 .f32) (x11 : Vec F S256x128 .f32) : Vec F S1024x128 .f32 :=
  View.canon [⟨r0_24, k0_pay4 (k0_pay50 x0 x1 x2 x3 x4 x5 x6 x7 x8 x9 x10 x11)⟩,
    ⟨r0_22, k0_pay40 (k0_pay50 x0 x1 x2 x3 x4 x5 x6 x7 x8 x9 x10 x11)⟩,
    ⟨r0_20, k0_pay36 (k0_pay50 x0 x1 x2 x3 x4 x5 x6 x7 x8 x9 x10 x11)⟩,
    ⟨r0_18, k0_pay29 (k0_pay50 x0 x1 x2 x3 x4 x5 x6 x7 x8 x9 x10 x11)⟩]

theorem cover0_20 (p0 : Vec F S256x128 .f32) (p1 : Vec F S256x128 .f32) (p2 : Vec F S256x128 .f32) (p3 : Vec F S256x128 .f32) (y : S1024x128.Idx) :
    ∃ pc ∈ ([⟨r0_24, p0⟩, ⟨r0_22, p1⟩, ⟨r0_20, p2⟩, ⟨r0_18, p3⟩] : List (View.Piece (Elt F) S1024x128 .f32)), y ∈ pc.1.set :=
  cover_strided p0 p1 p2 p3 y

def out0_21 (x0 : Vec F S256x1024 .f32) (x1 : Vec F S1024x1024 .bf16) (x2 : Vec F S1024x1024 .bf16) (x3 : Vec F S1024x2048 .bf16) (x4 : Vec F S1024x128 .bf16) (x5 : Vec F S8x1024 .bf16) (x6 : Vec F S1024x2048 .bf16) (x7 : Vec F S1024x2048 .bf16) (x8 : Vec F S1x128 .f32) (x9 : Vec F S8x128 .f32) (x10 : Vec F S256x128 .f32) (x11 : Vec F S256x128 .f32) : Vec F S1x512x256 .bf16 :=
  View.canon [⟨r0_16, k0_pay22 (k0_pay44 x0 x1 x2 x3 x4 x5 x6 x7 x8 x9 x10 x11) (View.ld x6 r0_15)⟩]

theorem cover0_21 (p0 : Vec F S1x512x256 .bf16) (y : S1x512x256.Idx) :
    ∃ pc ∈ ([⟨r0_16, p0⟩] : List (View.Piece (Elt F) S1x512x256 .bf16)), y ∈ pc.1.set :=
  View.cover_of_tiled [⟨r0_16, p0⟩] S1x512x256.size (by rfl) y

def out0_22 (x0 : Vec F S256x1024 .f32) (x1 : Vec F S1024x1024 .bf16) (x2 : Vec F S1024x1024 .bf16) (x3 : Vec F S1024x2048 .bf16) (x4 : Vec F S1024x128 .bf16) (x5 : Vec F S8x1024 .bf16) (x6 : Vec F S1024x2048 .bf16) (x7 : Vec F S1024x2048 .bf16) (x8 : Vec F S1x128 .f32) (x9 : Vec F S8x128 .f32) (x10 : Vec F S256x128 .f32) (x11 : Vec F S256x128 .f32) : Vec F S256x512 .bf16 :=
  View.canon [⟨r0_26, k0_pay5 (k0_pay44 x0 x1 x2 x3 x4 x5 x6 x7 x8 x9 x10 x11) (View.ld x6 r0_25)⟩]

theorem cover0_22 (p0 : Vec F S256x512 .bf16) (y : S256x512.Idx) :
    ∃ pc ∈ ([⟨r0_26, p0⟩] : List (View.Piece (Elt F) S256x512 .bf16)), y ∈ pc.1.set :=
  View.cover_of_tiled [⟨r0_26, p0⟩] S256x512.size (by rfl) y

def out0_23 (x0 : Vec F S256x1024 .f32) (x1 : Vec F S1024x1024 .bf16) (x2 : Vec F S1024x1024 .bf16) (x3 : Vec F S1024x2048 .bf16) (x4 : Vec F S1024x128 .bf16) (x5 : Vec F S8x1024 .bf16) (x6 : Vec F S1024x2048 .bf16) (x7 : Vec F S1024x2048 .bf16) (x8 : Vec F S1x128 .f32) (x9 : Vec F S8x128 .f32) (x10 : Vec F S256x128 .f32) (x11 : Vec F S256x128 .f32) : Vec F S256x2048 .bf16 :=
  View.canon [⟨r0_6, k0_pay13 (k0_pay44 x0 x1 x2 x3 x4 x5 x6 x7 x8 x9 x10 x11) (View.ld x7 r0_4)⟩,
    ⟨r0_5, k0_pay12 (k0_pay44 x0 x1 x2 x3 x4 x5 x6 x7 x8 x9 x10 x11) (k0_pay10 (View.ld x0 r0_0) (View.ld x3 r0_4)) (k0_pay11 (View.ld x7 r0_3)) (constant S256x1024 .f32 0x00000000#32)⟩]

theorem cover0_23 (p0 : Vec F S256x1024 .bf16) (p1 : Vec F S256x1024 .bf16) (y : S256x2048.Idx) :
    ∃ pc ∈ ([⟨r0_6, p0⟩, ⟨r0_5, p1⟩] : List (View.Piece (Elt F) S256x2048 .bf16)), y ∈ pc.1.set :=
  View.cover_of_tiled [⟨r0_6, p0⟩, ⟨r0_5, p1⟩] S256x1024.size (by rfl) y

/-! ## The body's triple -/

set_option maxHeartbeats 1000000 in
theorem sound_kernel (c : Dev nD) (E : Set ℕ) (i : grid0.Coords) (arg1 : Memref sig .tc .vmem S256x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x2048 .bf16) (harg4 : arg4.IsWhole) (arg5 : Memref sig .tc .vmem S1024x128 .bf16) (harg5 : arg5.IsWhole) (arg6 : Memref sig .tc .vmem S8x1024 .bf16) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S1x128 .f32) (harg9 : arg9.IsWhole) (arg10 : Memref sig .tc .vmem S8x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S1x1024x256 .bf16) (harg13 : arg13.IsWhole) (arg14 : Memref sig .tc .vmem S256x1024 .bf16) (harg14 : arg14.IsWhole) (arg15 : Memref sig .tc .vmem S1x1024x256 .bf16) (harg15 : arg15.IsWhole) (arg16 : Memref sig .tc .vmem S256x128 .f32) (harg16 : arg16.IsWhole) (arg17 : Memref sig .tc .vmem S8x256 .f32) (harg17 : arg17.IsWhole) (arg18 : Memref sig .tc .vmem S256x512 .bf16) (harg18 : arg18.IsWhole) (arg19 : Memref sig .tc .vmem S1024x128 .f32) (harg19 : arg19.IsWhole) (arg20 : Memref sig .tc .vmem S256x512 .bf16) (harg20 : arg20.IsWhole) (arg21 : Memref sig .tc .vmem S1024x128 .f32) (harg21 : arg21.IsWhole) (arg22 : Memref sig .tc .vmem S1x512x256 .bf16) (harg22 : arg22.IsWhole) (arg23 : Memref sig .tc .vmem S256x512 .bf16) (harg23 : arg23.IsWhole) (arg24 : Memref sig .tc .vmem S256x2048 .bf16) (harg24 : arg24.IsWhole)
    (x0 : Vec F S256x1024 .f32) (x1 : Vec F S1024x1024 .bf16) (x2 : Vec F S1024x1024 .bf16) (x3 : Vec F S1024x2048 .bf16) (x4 : Vec F S1024x128 .bf16) (x5 : Vec F S8x1024 .bf16) (x6 : Vec F S1024x2048 .bf16) (x7 : Vec F S1024x2048 .bf16) (x8 : Vec F S1x128 .f32) (x9 : Vec F S8x128 .f32) (x10 : Vec F S256x128 .f32) (x11 : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11) ∗ owns (c : Thread nD τ) arg14 fullShare (out0_13 x0 x1 x2 x3 x4 x5 x6 x7 x8 x9 x10 x11) ∗ owns (c : Thread nD τ) arg15 fullShare (out0_14 x0 x1 x2 x3 x4 x5 x6 x7 x8 x9 x10 x11) ∗ owns (c : Thread nD τ) arg16 fullShare (out0_15 x0 x1 x2 x3 x4 x5 x6 x7 x8 x9 x10 x11) ∗ owns (c : Thread nD τ) arg17 fullShare (out0_16 x0 x1 x2 x3 x4 x5 x6 x7 x8 x9 x10 x11) ∗ owns (c : Thread nD τ) arg18 fullShare (out0_17 x0 x1 x2 x3 x4 x5 x6 x7 x8 x9 x10 x11) ∗ owns (c : Thread nD τ) arg19 fullShare (out0_18 x0 x1 x2 x3 x4 x5 x6 x7 x8 x9 x10 x11) ∗ owns (c : Thread nD τ) arg20 fullShare (out0_19 x0 x1 x2 x3 x4 x5 x6 x7 x8 x9 x10 x11) ∗ owns (c : Thread nD τ) arg21 fullShare (out0_20 x0 x1 x2 x3 x4 x5 x6 x7 x8 x9 x10 x11) ∗ owns (c : Thread nD τ) arg22 fullShare (out0_21 x0 x1 x2 x3 x4 x5 x6 x7 x8 x9 x10 x11) ∗ owns (c : Thread nD τ) arg23 fullShare (out0_22 x0 x1 x2 x3 x4 x5 x6 x7 x8 x9 x10 x11) ∗ owns (c : Thread nD τ) arg24 fullShare (out0_23 x0 x1 x2 x3 x4 x5 x6 x7 x8 x9 x10 x11)) -∗ K ⟨⟩))
      ⊢ wp frame (wpE (defs₀ (F := F)) Variants.none c none) E (cc0_input_projection i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_input_projection_eq_skeleton]; unfold cc0_input_projection_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _ _ _ _)).trans ?_
    rfl
  isplitl [H18]
  · iexists _; isplitr
    swap; · iexact H18
    ipureintro
    refine (View.read_writes_eq_canon _ _ _ (cover0_18 _ _ _ _)).trans ?_
    rfl
  isplitl [H19]
  · iexists _; isplitr
    swap; · iexact H19
    ipureintro
    refine (View.read_writes_eq_canon _ _ _ (cover0_19 _ _ _ _)).trans ?_
    rfl
  isplitl [H20]
  · iexists _; isplitr
    swap; · iexact H20
    ipureintro
    refine (View.read_writes_eq_canon _ _ _ (cover0_20 _ _ _ _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  iexists _; isplitr
  swap; · iexact H23
  ipureintro
  refine (View.read_writes_eq_canon _ _ _ (cover0_23 _ _)).trans ?_
  rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨_ + 24, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.InProjIdeal.Gen
-- ==== Proof.InProj.Spec.lean ====
/-
  What the input projection returns, entry by entry.
-/
module

public import proofs.«01_k».proof.InProjRefIdeal
public import Idealize.ShloMosaic.Lib.Pipeline.ValueKit

@[expose] public section

set_option maxRecDepth 16384

noncomputable section

namespace Cert.InProj

open Idealize Idealize.ShloMosaic Cert.InProjRefIdeal

/-- The product of the inputs and the weights: token `n`, column `j`. -/
def zx (x : FVec Ideal S8x2048x1024 .f32) (w : FVec Ideal S1x1024x8200 .f32) (n j : ℕ) : EReal :=
  if h : n < 16384 ∧ j < 8200 then ∑ k : Fin 1024, x (ix3 ⟨n / 2048, by omega⟩ ⟨n % 2048, by omega⟩ k) * w (ix3 0 k ⟨j, h.2⟩) else 0

/-- The logistic function. -/
def sg (v : EReal) : EReal := Ideal.div 1 (1 + Ideal.exp (-v))

/-- The angle of position `l` at frequency `q`. -/
def ang (l q : ℕ) : EReal :=
  (FloatOps.sitofp (F := Ideal) .f32 (BitVec.ofNat 32 l) : EReal) * Ideal.pow (Ideal.ofBits .f32 1176256512#32)
    (Ideal.div (-(FloatOps.sitofp (F := Ideal) .f32 (BitVec.ofNat 32 q) : EReal)) (Ideal.ofBits .f32 1107296256#32))

/-- Column `c` of the 512 at `o`, rotated within its head of 64. -/
def rot (z : ℕ → ℕ → EReal) (o n c : ℕ) : EReal :=
  if c % 64 < 32 then z n (o + c) * Ideal.cos (ang (n % 2048) (c % 32)) - z n (o + c + 32) * Ideal.sin (ang (n % 2048) (c % 32))
  else z n (o + c) * Ideal.cos (ang (n % 2048) (c % 32)) + z n (o + c - 32) * Ideal.sin (ang (n % 2048) (c % 32))

variable (z : ℕ → ℕ → EReal) (b : FVec Ideal S1x8 .f32)

/-- The queries of the matrix memory, a tile of 256 tokens at a time, channels first. -/
def tQ : FVec Ideal S64x1024x256 .bf16 := fun y => z (256 * (y 0).val + (y 2).val) (y 1).val
/-- Its keys, scaled. -/
def tK : FVec Ideal S16384x1024 .bf16 := fun y => z (y 0).val (1024 + (y 1).val) * Ideal.ofBits .f32 0x3D800000#32
/-- Its values, as the queries. -/
def tV : FVec Ideal S64x1024x256 .bf16 := fun y => z (256 * (y 0).val + (y 2).val) (2048 + (y 1).val)
/-- The gates before their functions, padded to 128 columns. -/
def tCol : FVec Ideal S16384x128 .f32 := fun y =>
  if h : (y 1).val < 8 then z (y 0).val (4096 + (y 1).val) + b (ix2 0 ⟨(y 1).val, h⟩) else 0
/-- The same, a gate to a row. -/
def tRow : FVec Ideal S8x16384 .f32 := fun y => z (y 1).val (4096 + (y 0).val) + b (ix2 0 (y 0))
/-- The attention's queries, rotated and scaled. -/
def tDq : FVec Ideal S16384x512 .bf16 := fun y => rot z 4104 (y 0).val (y 1).val * Ideal.ofBits .f32 0x3E000000#32
/-- The attention's keys, rotated, a head to a row. -/
def tDkf : FVec Ideal S65536x128 .f32 := fun y => rot z 4616 ((y 0).val / 4) (128 * ((y 0).val % 4) + (y 1).val)
/-- The attention's keys, rotated, a token to a row. -/
def tDkb : FVec Ideal S16384x512 .bf16 := fun y => rot z 4616 (y 0).val (y 1).val
/-- The attention's values, a head to a row. -/
def tDvf : FVec Ideal S65536x128 .f32 := fun y => z ((y 0).val / 4) (5128 + (128 * ((y 0).val % 4) + (y 1).val))
/-- The attention's values, a tile of 256 tokens at a time, channels first. -/
def tDvt : FVec Ideal S64x512x256 .bf16 := fun y => z (256 * (y 0).val + (y 2).val) (5128 + (y 1).val)
/-- The queries of the third mixer. -/
def tCq : FVec Ideal S16384x512 .bf16 := fun y => z (y 0).val (5640 + (y 1).val)
/-- The gate of the mixers' outputs. -/
def tGate : FVec Ideal S16384x2048 .bf16 := fun y =>
  if (y 1).val < 1024 then sg (z (y 0).val (3072 + (y 1).val)) * (z (y 0).val (6152 + (y 1).val) * sg (z (y 0).val (6152 + (y 1).val)))
  else z (y 0).val (6152 + (y 1).val) * sg (z (y 0).val (6152 + (y 1).val))

end Cert.InProj
-- ==== Proof.InProj.Kern.lean ====
/-
  What the input projection's steps compute, entry by entry.
-/
module

public import proofs.«01_k».proof.Proof.Gen.InProjIdeal.Skeleton
public import proofs.«01_k».proof.Proof.InProj.Spec

@[expose] public section

set_option maxRecDepth 16384

noncomputable section

namespace Cert.InProj

open Idealize Idealize.ShloMosaic Cert.InProjIdeal Cert.InProjIdeal.Gen

theorem p7 (x : FVec Ideal S256x1024 .f32) (w : FVec Ideal S1024x1024 .bf16) (e : Fin 1024) (r : Fin 256) :
    k0_pay7 (F := Ideal) x w (ix3 0 e r) = ∑ k : Fin 1024, w (ix2 e k) * x (ix2 r k) := by
  unfold k0_pay7 k0_pay6
  pointwise

theorem p8 (x : FVec Ideal S256x1024 .f32) (w : FVec Ideal S1024x1024 .bf16) (e : Fin 1024) (r : Fin 256) :
    k0_pay8 (F := Ideal) x w (ix3 0 e r) = ∑ k : Fin 1024, w (ix2 e k) * x (ix2 r k) := by
  unfold k0_pay8 k0_pay6
  pointwise

theorem p9 (x : FVec Ideal S256x1024 .f32) (w : FVec Ideal S1024x1024 .bf16) (r : Fin 256) (e : Fin 1024) :
    k0_pay9 (F := Ideal) x w (ix2 r e) = (∑ k : Fin 1024, x (ix2 r k) * w (ix2 k e)) * Ideal.ofBits .f32 0x3D800000#32 := by
  unfold k0_pay9 k0_pay6
  pointwise

theorem p14 (x : FVec Ideal S256x1024 .f32) (w : FVec Ideal S1024x128 .bf16) (b : FVec Ideal S1x128 .f32) (r : Fin 256) (e : Fin 128) :
    k0_pay14 (F := Ideal) (k0_pay6 x) w b (ix2 r e) = (∑ k : Fin 1024, x (ix2 r k) * w (ix2 k e)) + b (ix2 0 e) := by
  unfold k0_pay14 k0_pay6
  pointwise

theorem p15 (x : FVec Ideal S256x1024 .f32) (w : FVec Ideal S8x1024 .bf16) (b : FVec Ideal S8x1 .f32) (e : Fin 8) (r : Fin 256) :
    k0_pay15 (F := Ideal) (k0_pay6 x) w b (ix2 e r) = (∑ k : Fin 1024, w (ix2 e k) * x (ix2 r k)) + b (ix2 e 0) := by
  unfold k0_pay15 k0_pay6
  pointwise

theorem p19 (x : FVec Ideal S256x1024 .f32) (w : FVec Ideal S1024x512 .bf16) (r : Fin 256) (e : Fin 512) :
    k0_pay19 (F := Ideal) (k0_pay6 x) w (ix2 r e) = ∑ k : Fin 1024, x (ix2 r k) * w (ix2 k e) := by
  unfold k0_pay19 k0_pay6
  pointwise

theorem p20 (x : FVec Ideal S256x1024 .f32) (w : FVec Ideal S1024x512 .bf16) (r : Fin 256) (e : Fin 512) :
    k0_pay20 (F := Ideal) (k0_pay6 x) w (ix2 r e) = ∑ k : Fin 1024, x (ix2 r k) * w (ix2 k e) := by
  unfold k0_pay20 k0_pay6
  pointwise

theorem p21 (x : FVec Ideal S256x1024 .f32) (w : FVec Ideal S1024x512 .bf16) (r : Fin 256) (e : Fin 512) :
    k0_pay21 (F := Ideal) (k0_pay6 x) w (ix2 r e) = ∑ k : Fin 1024, x (ix2 r k) * w (ix2 k e) := by
  unfold k0_pay21 k0_pay6
  pointwise

theorem p22 (x : FVec Ideal S256x1024 .f32) (w : FVec Ideal S1024x512 .bf16) (e : Fin 512) (r : Fin 256) :
    k0_pay22 (F := Ideal) (k0_pay6 x) w (ix3 0 e r) = ∑ k : Fin 1024, x (ix2 r k) * w (ix2 k e) := by
  unfold k0_pay22 k0_pay21 k0_pay6
  pointwise

theorem p5 (x : FVec Ideal S256x1024 .f32) (w : FVec Ideal S1024x512 .bf16) (r : Fin 256) (e : Fin 512) :
    k0_pay5 (F := Ideal) (k0_pay6 x) w (ix2 r e) = ∑ k : Fin 1024, x (ix2 r k) * w (ix2 k e) := by
  unfold k0_pay5 k0_pay6
  pointwise

theorem p13 (x : FVec Ideal S256x1024 .f32) (w : FVec Ideal S1024x1024 .bf16) (r : Fin 256) (e : Fin 1024) :
    k0_pay13 (F := Ideal) (k0_pay6 x) w (ix2 r e) = (∑ k : Fin 1024, x (ix2 r k) * w (ix2 k e)) * sg (∑ k : Fin 1024, x (ix2 r k) * w (ix2 k e)) := by
  unfold k0_pay13 k0_pay6 sg
  pointwise
  rfl

theorem p12 (x : FVec Ideal S256x1024 .f32) (v w : FVec Ideal S1024x1024 .bf16) (r : Fin 256) (e : Fin 1024) :
    k0_pay12 (F := Ideal) (k0_pay6 x) (k0_pay10 x v) (k0_pay11 w) (constant S256x1024 .f32 0x00000000#32) (ix2 r e)
      = sg (∑ k : Fin 1024, x (ix2 r k) * v (ix2 k e)) * ((∑ k : Fin 1024, x (ix2 r k) * w (ix2 k e)) * sg (∑ k : Fin 1024, x (ix2 r k) * w (ix2 k e))) := by
  unfold k0_pay12 k0_pay10 k0_pay11 k0_pay6 sg
  pointwise
  rfl

/-- The first half of each head's 64 lanes, over the lanes. -/
theorem half_word : ∀ l : Fin 128, k0_pay18 (ix2 (0 : Fin 256) l) = 1#1 ↔ l.val % 64 < 32 := by
  unfold k0_pay18
  pointwise
  decide +kernel

theorem half (r : Fin 256) (l : Fin 128) (x y : EReal) : Scalar.select (k0_pay18 (ix2 r l)) x y = if l.val % 64 < 32 then x else y := by
  have e : k0_pay18 (ix2 r l) = k0_pay18 (ix2 (0 : Fin 256) l) := by
    unfold k0_pay18
    pointwise
  rw [e]
  unfold Scalar.select
  by_cases h : l.val % 64 < 32
  · rw [if_pos h]; exact if_pos ((half_word l).mpr h)
  · rw [if_neg h]; exact if_neg fun e => h ((half_word l).mp e)

/-- A rotated entry of the 128 lanes at `o`. -/
def kRot (c s : FVec Ideal S256x128 .f32) (d : FVec Ideal S256x512 .f32) (o : ℕ) (ho : o + 128 ≤ 512) (r : Fin 256) (l : Fin 128) : EReal :=
  d (ix2 r ⟨o + l.val, by omega⟩) * c (ix2 r l)
    + (if h : l.val % 64 < 32 then d (ix2 r ⟨o + l.val + 32, by omega⟩) else d (ix2 r ⟨o + l.val - 32, by omega⟩)) * s (ix2 r l)

theorem rot_core (c s : FVec Ideal S256x128 .f32) (d : FVec Ideal S256x512 .f32) (o : ℕ) (ho : o + 128 ≤ 512) (r : Fin 256) (l : Fin 128)
    (p q u : Fin 512) (hp : p.val = o + l.val) (hq : q.val = o + (l.val + 128 - 96) % 128) (hu : u.val = o + (l.val + 128 - 32) % 128) :
    d (ix2 r p) * c (ix2 r l) + Scalar.select (k0_pay18 (ix2 r l)) (d (ix2 r q)) (d (ix2 r u)) * s (ix2 r l) = kRot c s d o ho r l := by
  have e : p = ⟨o + l.val, by omega⟩ := Fin.ext hp
  rw [half, e]
  unfold kRot
  refine congrArg (fun v => d (ix2 r ⟨o + l.val, by omega⟩) * c (ix2 r l) + v * s (ix2 r l)) ?_
  by_cases h : l.val % 64 < 32
  · refine (if_pos h).trans (Eq.trans ?_ (dif_pos h).symm)
    refine congrArg (fun v => d (ix2 r v)) (Fin.ext ?_)
    rw [hq]; show _ = o + l.val + 32; omega
  · refine (if_neg h).trans (Eq.trans ?_ (dif_neg h).symm)
    refine congrArg (fun v => d (ix2 r v)) (Fin.ext ?_)
    rw [hu]; show _ = o + l.val - 32; omega

variable (c s : FVec Ideal S256x128 .f32) (d : FVec Ideal S256x512 .f32) (r : Fin 256) (l : Fin 128)

theorem p27 : k0_pay27 (F := Ideal) c s k0_pay18 d (ix2 r l) = kRot c s d 0 (by omega) r l := by
  unfold k0_pay27
  pointwise
  exact rot_core c s d 0 (by omega) r l _ _ _ (by simp) (by simp) (by simp)

theorem p28 : k0_pay28 (F := Ideal) c s k0_pay18 d (ix2 r l) = kRot c s d 0 (by omega) r l := by
  unfold k0_pay28 k0_pay27
  pointwise
  exact rot_core c s d 0 (by omega) r l _ _ _ (by simp) (by simp) (by simp)

theorem p34 : k0_pay34 (F := Ideal) (k0_pay32 c d) (k0_pay33 s k0_pay18 d) (ix2 r l) = kRot c s d 128 (by omega) r l := by
  unfold k0_pay34 k0_pay32 k0_pay33 k0_pay31
  pointwise
  exact rot_core c s d 128 (by omega) r l _ _ _ (by rfl) (by rfl) (by rfl)

theorem p35 : k0_pay35 (F := Ideal) (k0_pay32 c d) (k0_pay33 s k0_pay18 d) (ix2 r l) = kRot c s d 128 (by omega) r l := by
  unfold k0_pay35 k0_pay34 k0_pay32 k0_pay33 k0_pay31
  pointwise
  exact rot_core c s d 128 (by omega) r l _ _ _ (by rfl) (by rfl) (by rfl)

theorem p38 : k0_pay38 (F := Ideal) c s k0_pay18 d (ix2 r l) = kRot c s d 256 (by omega) r l := by
  unfold k0_pay38
  pointwise
  exact rot_core c s d 256 (by omega) r l _ _ _ (by rfl) (by rfl) (by rfl)

theorem p39 : k0_pay39 (F := Ideal) c s k0_pay18 d (ix2 r l) = kRot c s d 256 (by omega) r l := by
  unfold k0_pay39 k0_pay38
  pointwise
  exact rot_core c s d 256 (by omega) r l _ _ _ (by rfl) (by rfl) (by rfl)

theorem p2 : k0_pay2 (F := Ideal) c s k0_pay18 d (ix2 r l) = kRot c s d 384 (by omega) r l := by
  unfold k0_pay2
  pointwise
  exact rot_core c s d 384 (by omega) r l _ _ _ (by rfl) (by rfl) (by rfl)

theorem p3 : k0_pay3 (F := Ideal) c s k0_pay18 d (ix2 r l) = kRot c s d 384 (by omega) r l := by
  unfold k0_pay3 k0_pay2
  pointwise
  exact rot_core c s d 384 (by omega) r l _ _ _ (by rfl) (by rfl) (by rfl)

theorem p30 : k0_pay30 (F := Ideal) c s k0_pay18 d (ix2 r l) = kRot c s d 128 (by omega) r l * Ideal.ofBits .f32 0x3E000000#32 := by
  unfold k0_pay30
  pointwise
  exact congrArg (· * Ideal.ofBits .f32 0x3E000000#32) (rot_core c s d 128 (by omega) r l _ _ _ (by rfl) (by rfl) (by rfl))

theorem p37 : k0_pay37 (F := Ideal) c s k0_pay18 d (ix2 r l) = kRot c s d 256 (by omega) r l * Ideal.ofBits .f32 0x3E000000#32 := by
  unfold k0_pay37
  pointwise
  exact congrArg (· * Ideal.ofBits .f32 0x3E000000#32) (rot_core c s d 256 (by omega) r l _ _ _ (by rfl) (by rfl) (by rfl))

theorem p1 : k0_pay1 (F := Ideal) c s k0_pay18 (k0_pay41 d) (k0_pay42 d) (k0_pay43 d) (ix2 r l) = kRot c s d 384 (by omega) r l * Ideal.ofBits .f32 0x3E000000#32 := by
  unfold k0_pay1 k0_pay42 k0_pay43 k0_pay41
  pointwise
  exact congrArg (· * Ideal.ofBits .f32 0x3E000000#32) (rot_core c s d 384 (by omega) r l _ _ _ (by rfl) (by rfl) (by rfl))

/-- The first head's three reads are slices of the products. -/
theorem p26 (x : FVec Ideal S256x1024 .bf16) (w : FVec Ideal S1024x512 .bf16) :
    k0_pay26 (F := Ideal) c s k0_pay18 (k0_pay23 x w) (k0_pay24 x w) (k0_pay25 x w) (ix2 r l) = kRot c s (k0_pay19 x w) 0 (by omega) r l * Ideal.ofBits .f32 0x3E000000#32 := by
  unfold k0_pay26 k0_pay24 k0_pay25 k0_pay23
  pointwise
  exact congrArg (· * Ideal.ofBits .f32 0x3E000000#32) (rot_core c s (k0_pay19 x w) 0 (by omega) r l _ _ _ (by simp) (by simp) (by simp))

theorem p29 : k0_pay29 (F := Ideal) d (ix2 r l) = d (ix2 r ⟨0 + l.val, by omega⟩) := by
  unfold k0_pay29
  pointwise

theorem p36 : k0_pay36 (F := Ideal) d (ix2 r l) = d (ix2 r ⟨128 + l.val, by omega⟩) := by
  unfold k0_pay36
  pointwise

theorem p40 : k0_pay40 (F := Ideal) d (ix2 r l) = d (ix2 r ⟨256 + l.val, by omega⟩) := by
  unfold k0_pay40
  pointwise

theorem p4 : k0_pay4 (F := Ideal) d (ix2 r l) = d (ix2 r ⟨384 + l.val, by omega⟩) := by
  unfold k0_pay4
  pointwise

end Cert.InProj
-- ==== Proof.InProj.Out.lean ====
/-
  What a grid point of the input projection leaves in each result's block, entry by entry.
-/
module

public import proofs.«01_k».proof.Proof.InProj.RunIdeal
public import proofs.«01_k».proof.Proof.InProj.Kern
public import Idealize.ShloMosaic.Lib.Pipeline.Value

@[expose] public section

set_option maxRecDepth 16384

noncomputable section

namespace Cert.InProj

open Idealize Idealize.ShloMosaic Cert.InProjIdeal Cert.InProjIdeal.Gen

theorem hz : (![0, 0] : Fin 2 → Nat) = fun _ => 0 := funext fun a => by fin_cases a <;> rfl

theorem place {p q : ℕ} {i : (⟨2, ![p, q]⟩ : Shape).Idx} {a : Fin p} {b : Fin q} (h0 : (i 0).val = a.val) (h1 : (i 1).val = b.val) :
    i = ix2 a b :=
  funext fun d => Fin.ext (by fin_cases d <;> assumption)

theorem place3 {p q s : ℕ} {i : (⟨3, ![p, q, s]⟩ : Shape).Idx} {a : Fin p} {b : Fin q} {c : Fin s} (h0 : (i 0).val = a.val)
    (h1 : (i 1).val = b.val) (h2 : (i 2).val = c.val) : i = ix3 a b c :=
  funext fun d => Fin.ext (by fin_cases d <;> assumption)

/-- Column `j` of a block's product with a table of 2048 columns. -/
def yd (x : FVec Ideal S256x1024 .f32) (w : FVec Ideal S1024x2048 .bf16) (r : Fin 256) (j : ℕ) : EReal :=
  if h : j < 2048 then ∑ k : Fin 1024, x (ix2 r k) * w (ix2 k ⟨j, h⟩) else 0

/-- Column `j` of a block rotated within its head of 64. -/
def bRot (c s : FVec Ideal S256x128 .f32) (f : ℕ → EReal) (r : Fin 256) (j : ℕ) : EReal :=
  f j * c (ix2 r ⟨j % 128, by omega⟩) + (if j % 64 < 32 then f (j + 32) else f (j - 32)) * s (ix2 r ⟨j % 128, by omega⟩)

theorem kRot_eq (c s : FVec Ideal S256x128 .f32) (d : FVec Ideal S256x512 .f32) (f : ℕ → EReal) (r : Fin 256)
    (hd : ∀ e : Fin 512, d (ix2 r e) = f e.val) (o : ℕ) (ho : o + 128 ≤ 512) (h128 : o % 128 = 0) (l : Fin 128) :
    kRot c s d o ho r l = bRot c s f r (o + l.val) := by
  have e : (⟨(o + l.val) % 128, by omega⟩ : Fin 128) = l := Fin.ext (by show (o + l.val) % 128 = l.val; omega)
  unfold kRot bRot
  rw [e]
  refine congrArg₂ (· + ·) (congrArg (· * c (ix2 r l)) (hd _)) (congrArg (· * s (ix2 r l)) ?_)
  by_cases h : l.val % 64 < 32
  · exact (dif_pos h).trans ((hd _).trans (if_pos (show (o + l.val) % 64 < 32 by omega)).symm)
  · exact (dif_neg h).trans ((hd _).trans (if_neg (show ¬ (o + l.val) % 64 < 32 by omega)).symm)

variable (x0 : FVec Ideal S256x1024 .f32) (x1 x2 : FVec Ideal S1024x1024 .bf16) (x3 : FVec Ideal S1024x2048 .bf16)
    (x4 : FVec Ideal S1024x128 .bf16) (x5 : FVec Ideal S8x1024 .bf16) (x6 x7 : FVec Ideal S1024x2048 .bf16)
    (x8 : FVec Ideal S1x128 .f32) (x9 : FVec Ideal S8x128 .f32) (x10 x11 : FVec Ideal S256x128 .f32)

/-- The columns of a piece of the table are the table's columns. -/
theorem cols (w : FVec Ideal S1024x2048 .bf16) (n : ℕ) (p : FVec Ideal ⟨2, ![1024, n]⟩ .bf16) (o : ℕ) (ho : o + n ≤ 2048)
    (hp : ∀ (k : Fin 1024) (e : Fin n), p (ix2 k e) = w (ix2 k ⟨o + e.val, by omega⟩)) (r : Fin 256) (e : Fin n) :
    ∑ k : Fin 1024, x0 (ix2 r k) * p (ix2 k e) = yd x0 w r (o + e.val) := by
  unfold yd
  rw [dif_pos (show o + e.val < 2048 by omega)]
  exact Finset.sum_congr rfl fun k _ => by rw [hp]

theorem pc3 (k : Fin 1024) (e : Fin 1024) : (View.ld (Val := Elt Ideal) (e' := .bf16) x3 r0_3 : FVec Ideal S1024x1024 .bf16) (ix2 k e) = x3 (ix2 k ⟨0 + e.val, by omega⟩) :=
  congrArg x3 (place (by simp) (by simp))
theorem pc4 (k : Fin 1024) (e : Fin 1024) : (View.ld (Val := Elt Ideal) (e' := .bf16) x3 r0_4 : FVec Ideal S1024x1024 .bf16) (ix2 k e) = x3 (ix2 k ⟨1024 + e.val, by omega⟩) :=
  congrArg x3 (place (by simp) (by simp))
theorem pc13 (k : Fin 1024) (e : Fin 512) : (View.ld (Val := Elt Ideal) (e' := .bf16) x6 r0_13 : FVec Ideal S1024x512 .bf16) (ix2 k e) = x6 (ix2 k ⟨0 + e.val, by omega⟩) :=
  congrArg x6 (place (by simp) (by simp))
theorem pc14 (k : Fin 1024) (e : Fin 512) : (View.ld (Val := Elt Ideal) (e' := .bf16) x6 r0_14 : FVec Ideal S1024x512 .bf16) (ix2 k e) = x6 (ix2 k ⟨512 + e.val, by omega⟩) :=
  congrArg x6 (place (by simp) (by simp))
theorem pc15 (k : Fin 1024) (e : Fin 512) : (View.ld (Val := Elt Ideal) (e' := .bf16) x6 r0_15 : FVec Ideal S1024x512 .bf16) (ix2 k e) = x6 (ix2 k ⟨1024 + e.val, by omega⟩) :=
  congrArg x6 (place (by simp) (by simp))
theorem pc25 (k : Fin 1024) (e : Fin 512) : (View.ld (Val := Elt Ideal) (e' := .bf16) x6 r0_25 : FVec Ideal S1024x512 .bf16) (ix2 k e) = x6 (ix2 k ⟨1536 + e.val, by omega⟩) :=
  congrArg x6 (place (by simp) (by simp))

/-! ### The results of one piece -/

theorem out12_eq (y : S1x1024x256.Idx) : out0_12 (F := Ideal) x0 x1 x2 x3 x4 x5 x6 x7 x8 x9 x10 x11 y = ∑ k : Fin 1024, x1 (ix2 (y 1) k) * x0 (ix2 (y 2) k) := by
  unfold out0_12
  rw [View.ld_unit_zero hz, View.ld_unit_zero hz]
  refine View.canon_apply_of_pieces (Val := Elt Ideal) (e := .bf16) (fun y : S1x1024x256.Idx => ∑ k : Fin 1024, x1 (ix2 (y 1) k) * x0 (ix2 (y 2) k)) _ (fun p hp j => ?_) y (cover0_12 _ y)
  simp only [List.mem_cons, List.mem_nil_iff, or_false] at hp
  rcases hp with rfl
  obtain ⟨a, e, r, rfl⟩ : ∃ a e r, j = ix3 a e r := ⟨_, _, _, eq_ix3 j⟩
  obtain rfl : a = 0 := Fin.ext (by omega)
  have q : r0_2.emb (ix3 0 e r) = ix3 0 e r := place3 (by simp) (by simp) (by simp)
  rw [q]
  exact p7 x0 x1 e r

theorem out13_eq (y : S256x1024.Idx) : out0_13 (F := Ideal) x0 x1 x2 x3 x4 x5 x6 x7 x8 x9 x10 x11 y = yd x0 x3 (y 0) (y 1).val * Ideal.ofBits .f32 0x3D800000#32 := by
  unfold out0_13
  rw [View.ld_unit_zero hz]
  refine View.canon_apply_of_pieces (Val := Elt Ideal) (e := .bf16) (fun y : S256x1024.Idx => yd x0 x3 (y 0) (y 1).val * Ideal.ofBits .f32 0x3D800000#32) _ (fun p hp j => ?_) y (cover0_13 _ y)
  simp only [List.mem_cons, List.mem_nil_iff, or_false] at hp
  rcases hp with rfl
  obtain ⟨r, e, rfl⟩ : ∃ r e, j = ix2 r e := ⟨_, _, eq_ix2 j⟩
  have q : r0_0.emb (ix2 r e) = ix2 r e := place (by simp) (by simp)
  rw [q]
  refine (p9 x0 _ r e).trans (congrArg (· * Ideal.ofBits .f32 0x3D800000#32) ((cols x0 x3 1024 _ 0 (by omega) (pc3 x3) r e).trans ?_))
  exact congrArg (yd x0 x3 r) (Nat.zero_add _)

theorem out14_eq (y : S1x1024x256.Idx) : out0_14 (F := Ideal) x0 x1 x2 x3 x4 x5 x6 x7 x8 x9 x10 x11 y = ∑ k : Fin 1024, x2 (ix2 (y 1) k) * x0 (ix2 (y 2) k) := by
  unfold out0_14
  rw [View.ld_unit_zero hz, View.ld_unit_zero hz]
  refine View.canon_apply_of_pieces (Val := Elt Ideal) (e := .bf16) (fun y : S1x1024x256.Idx => ∑ k : Fin 1024, x2 (ix2 (y 1) k) * x0 (ix2 (y 2) k)) _ (fun p hp j => ?_) y (cover0_14 _ y)
  simp only [List.mem_cons, List.mem_nil_iff, or_false] at hp
  rcases hp with rfl
  obtain ⟨a, e, r, rfl⟩ : ∃ a e r, j = ix3 a e r := ⟨_, _, _, eq_ix3 j⟩
  obtain rfl : a = 0 := Fin.ext (by omega)
  have q : r0_2.emb (ix3 0 e r) = ix3 0 e r := place3 (by simp) (by simp) (by simp)
  rw [q]
  exact p8 x0 x2 e r

theorem out15_eq (y : S256x128.Idx) : out0_15 (F := Ideal) x0 x1 x2 x3 x4 x5 x6 x7 x8 x9 x10 x11 y = (∑ k : Fin 1024, x0 (ix2 (y 0) k) * x4 (ix2 k (y 1))) + x8 (ix2 0 (y 1)) := by
  unfold out0_15 k0_pay44
  rw [View.ld_unit_zero hz, View.ld_unit_zero hz, View.ld_unit_zero hz]
  refine View.canon_apply_of_pieces (Val := Elt Ideal) (e := .f32) (fun y : S256x128.Idx => (∑ k : Fin 1024, x0 (ix2 (y 0) k) * x4 (ix2 k (y 1))) + x8 (ix2 0 (y 1))) _ (fun p hp j => ?_) y (cover0_15 _ y)
  simp only [List.mem_cons, List.mem_nil_iff, or_false] at hp
  rcases hp with rfl
  obtain ⟨r, e, rfl⟩ : ∃ r e, j = ix2 r e := ⟨_, _, eq_ix2 j⟩
  have q : r0_9.emb (ix2 r e) = ix2 r e := place (by simp) (by simp)
  rw [q]
  exact p14 x0 x4 x8 r e

theorem out16_eq (y : S8x256.Idx) : out0_16 (F := Ideal) x0 x1 x2 x3 x4 x5 x6 x7 x8 x9 x10 x11 y = (∑ k : Fin 1024, x5 (ix2 (y 0) k) * x0 (ix2 (y 1) k)) + x9 (ix2 (y 0) 0) := by
  unfold out0_16 k0_pay44
  rw [View.ld_unit_zero hz, View.ld_unit_zero hz]
  refine View.canon_apply_of_pieces (Val := Elt Ideal) (e := .f32) (fun y : S8x256.Idx => (∑ k : Fin 1024, x5 (ix2 (y 0) k) * x0 (ix2 (y 1) k)) + x9 (ix2 (y 0) 0)) _ (fun p hp j => ?_) y (cover0_16 _ y)
  simp only [List.mem_cons, List.mem_nil_iff, or_false] at hp
  rcases hp with rfl
  obtain ⟨e, r, rfl⟩ : ∃ e r, j = ix2 e r := ⟨_, _, eq_ix2 j⟩
  have q : r0_12.emb (ix2 e r) = ix2 e r := place (by simp) (by simp)
  rw [q]
  refine (p15 x0 x5 _ e r).trans (congrArg (_ + ·) ?_)
  exact congrArg x9 (place (by simp) (by simp))

theorem out21_eq (y : S1x512x256.Idx) : out0_21 (F := Ideal) x0 x1 x2 x3 x4 x5 x6 x7 x8 x9 x10 x11 y = yd x0 x6 (y 2) (1024 + (y 1).val) := by
  unfold out0_21 k0_pay44
  rw [View.ld_unit_zero hz]
  refine View.canon_apply_of_pieces (Val := Elt Ideal) (e := .bf16) (fun y : S1x512x256.Idx => yd x0 x6 (y 2) (1024 + (y 1).val)) _ (fun p hp j => ?_) y (cover0_21 _ y)
  simp only [List.mem_cons, List.mem_nil_iff, or_false] at hp
  rcases hp with rfl
  obtain ⟨a, e, r, rfl⟩ : ∃ a e r, j = ix3 a e r := ⟨_, _, _, eq_ix3 j⟩
  obtain rfl : a = 0 := Fin.ext (by omega)
  have q : r0_16.emb (ix3 0 e r) = ix3 0 e r := place3 (by simp) (by simp) (by simp)
  rw [q]
  exact (p22 x0 _ e r).trans (cols x0 x6 512 _ 1024 (by omega) (pc15 x6) r e)

theorem out22_eq (y : S256x512.Idx) : out0_22 (F := Ideal) x0 x1 x2 x3 x4 x5 x6 x7 x8 x9 x10 x11 y = yd x0 x6 (y 0) (1536 + (y 1).val) := by
  unfold out0_22 k0_pay44
  rw [View.ld_unit_zero hz]
  refine View.canon_apply_of_pieces (Val := Elt Ideal) (e := .bf16) (fun y : S256x512.Idx => yd x0 x6 (y 0) (1536 + (y 1).val)) _ (fun p hp j => ?_) y (cover0_22 _ y)
  simp only [List.mem_cons, List.mem_nil_iff, or_false] at hp
  rcases hp with rfl
  obtain ⟨r, e, rfl⟩ : ∃ r e, j = ix2 r e := ⟨_, _, eq_ix2 j⟩
  have q : r0_26.emb (ix2 r e) = ix2 r e := place (by simp) (by simp)
  rw [q]
  exact (p5 x0 _ r e).trans (cols x0 x6 512 _ 1536 (by omega) (pc25 x6) r e)

/-! ### The results of several pieces -/

theorem gpc3 (k : Fin 1024) (e : Fin 1024) : (View.ld (Val := Elt Ideal) (e' := .bf16) x7 r0_3 : FVec Ideal S1024x1024 .bf16) (ix2 k e) = x7 (ix2 k ⟨0 + e.val, by omega⟩) :=
  congrArg x7 (place (by simp) (by simp))

/-- The gate of the outputs, a block's entry. -/
def bGate (y : S256x2048.Idx) : EReal :=
  if (y 1).val < 1024 then sg (yd x0 x3 (y 0) (1024 + (y 1).val)) * (yd x0 x7 (y 0) (y 1).val * sg (yd x0 x7 (y 0) (y 1).val))
  else yd x0 x7 (y 0) (y 1).val * sg (yd x0 x7 (y 0) (y 1).val)

theorem out23_eq (y : S256x2048.Idx) : out0_23 (F := Ideal) x0 x1 x2 x3 x4 x5 x6 x7 x8 x9 x10 x11 y = bGate x0 x3 x7 y := by
  unfold out0_23 k0_pay44
  rw [View.ld_unit_zero hz]
  refine View.canon_apply_of_pieces (Val := Elt Ideal) (e := .bf16) (bGate x0 x3 x7) _ (fun p hp j => ?_) y (cover0_23 _ _ y)
  simp only [List.mem_cons, List.mem_nil_iff, or_false] at hp
  rcases hp with rfl | rfl
  · obtain ⟨r, e, rfl⟩ : ∃ r e, j = ix2 r e := ⟨_, _, eq_ix2 j⟩
    have q : r0_6.emb (ix2 r e) = ix2 r ⟨1024 + e.val, by omega⟩ := place (by simp) (by simp)
    rw [q]
    refine (p13 x0 _ r e).trans (Eq.trans ?_ (if_neg (show ¬ 1024 + e.val < 1024 by omega)).symm)
    exact congrArg (fun v : EReal => v * sg v) (cols x0 x7 1024 _ 1024 (by omega) (pc4 x7) r e)
  · obtain ⟨r, e, rfl⟩ : ∃ r e, j = ix2 r e := ⟨_, _, eq_ix2 j⟩
    have q : r0_5.emb (ix2 r e) = ix2 r ⟨e.val, by omega⟩ := place (by simp) (by simp)
    rw [q]
    refine (p12 x0 _ _ r e).trans (Eq.trans ?_ (if_pos (show e.val < 1024 from e.isLt)).symm)
    exact congrArg₂ (fun u v : EReal => sg u * (v * sg v)) (cols x0 x3 1024 _ 1024 (by omega) (pc4 x3) r e)
      ((cols x0 x7 1024 _ 0 (by omega) (gpc3 x7) r e).trans (congrArg (yd x0 x7 r) (Nat.zero_add _)))

theorem cos_eq (v : FVec Ideal S256x128 .f32) : k0_pay16 (F := Ideal) v = v := by
  funext y
  unfold k0_pay16
  pointwise

theorem sin_eq (v : FVec Ideal S256x128 .f32) : k0_pay17 (F := Ideal) v = v := by
  funext y
  unfold k0_pay17
  pointwise

theorem ld0 : (View.ld (Val := Elt Ideal) (e' := .f32) x0 r0_0 : FVec Ideal S256x1024 .f32) = x0 := by rw [View.ld_unit_zero hz]
theorem ld10 : (View.ld (Val := Elt Ideal) (e' := .f32) x10 r0_9 : FVec Ideal S256x128 .f32) = x10 := by rw [View.ld_unit_zero hz]
theorem ld11 : (View.ld (Val := Elt Ideal) (e' := .f32) x11 r0_9 : FVec Ideal S256x128 .f32) = x11 := by rw [View.ld_unit_zero hz]

theorem dq_at (r : Fin 256) (e : Fin 512) : k0_pay19 (F := Ideal) (k0_pay6 x0) (View.ld (Val := Elt Ideal) (e' := .bf16) x6 r0_13) (ix2 r e) = yd x0 x6 r (0 + e.val) :=
  (p19 x0 _ r e).trans (cols x0 x6 512 _ 0 (by omega) (pc13 x6) r e)
theorem dk_at (r : Fin 256) (e : Fin 512) : k0_pay20 (F := Ideal) (k0_pay6 x0) (View.ld (Val := Elt Ideal) (e' := .bf16) x6 r0_14) (ix2 r e) = yd x0 x6 r (512 + e.val) :=
  (p20 x0 _ r e).trans (cols x0 x6 512 _ 512 (by omega) (pc14 x6) r e)
theorem dv_at (r : Fin 256) (e : Fin 512) : k0_pay21 (F := Ideal) (k0_pay6 x0) (View.ld (Val := Elt Ideal) (e' := .bf16) x6 r0_15) (ix2 r e) = yd x0 x6 r (1024 + e.val) :=
  (p21 x0 _ r e).trans (cols x0 x6 512 _ 1024 (by omega) (pc15 x6) r e)

theorem out17_eq (y : S256x512.Idx) : out0_17 (F := Ideal) x0 x1 x2 x3 x4 x5 x6 x7 x8 x9 x10 x11 y = bRot x10 x11 (fun i => yd x0 x6 (y 0) (0 + i)) (y 0) (y 1).val * Ideal.ofBits .f32 0x3E000000#32 := by
  unfold out0_17 k0_pay45 k0_pay46 k0_pay47 k0_pay48 k0_pay44
  rw [ld0, ld10, ld11, cos_eq, sin_eq]
  refine View.canon_apply_of_pieces (Val := Elt Ideal) (e := .bf16) (fun y : S256x512.Idx => bRot x10 x11 (fun i => yd x0 x6 (y 0) (0 + i)) (y 0) (y 1).val * Ideal.ofBits .f32 0x3E000000#32) _ (fun p hp j => ?_) y (cover0_17 _ _ _ _ y)
  simp only [List.mem_cons, List.mem_nil_iff, or_false] at hp
  rcases hp with rfl | rfl | rfl | rfl
  · obtain ⟨r, l, rfl⟩ : ∃ r l, j = ix2 r l := ⟨_, _, eq_ix2 j⟩
    have q : r0_23.emb (ix2 r l) = ix2 r ⟨384 + l.val, by omega⟩ := place (by simp) (by simp)
    rw [q]
    exact (p1 x10 x11 _ r l).trans (congrArg (· * Ideal.ofBits .f32 0x3E000000#32) (kRot_eq x10 x11 _ (fun i => yd x0 x6 r (0 + i)) r (dq_at x0 x6 r) 384 (by omega) (by omega) l))
  · obtain ⟨r, l, rfl⟩ : ∃ r l, j = ix2 r l := ⟨_, _, eq_ix2 j⟩
    have q : r0_21.emb (ix2 r l) = ix2 r ⟨256 + l.val, by omega⟩ := place (by simp) (by simp)
    rw [q]
    exact (p37 x10 x11 _ r l).trans (congrArg (· * Ideal.ofBits .f32 0x3E000000#32) (kRot_eq x10 x11 _ (fun i => yd x0 x6 r (0 + i)) r (dq_at x0 x6 r) 256 (by omega) (by omega) l))
  · obtain ⟨r, l, rfl⟩ : ∃ r l, j = ix2 r l := ⟨_, _, eq_ix2 j⟩
    have q : r0_19.emb (ix2 r l) = ix2 r ⟨128 + l.val, by omega⟩ := place (by simp) (by simp)
    rw [q]
    exact (p30 x10 x11 _ r l).trans (congrArg (· * Ideal.ofBits .f32 0x3E000000#32) (kRot_eq x10 x11 _ (fun i => yd x0 x6 r (0 + i)) r (dq_at x0 x6 r) 128 (by omega) (by omega) l))
  · obtain ⟨r, l, rfl⟩ : ∃ r l, j = ix2 r l := ⟨_, _, eq_ix2 j⟩
    have q : r0_17.emb (ix2 r l) = ix2 r ⟨0 + l.val, by omega⟩ := place (by simp) (by simp)
    rw [q]
    exact (p26 x10 x11 r l (k0_pay6 x0) (View.ld (Val := Elt Ideal) (e' := .bf16) x6 r0_13)).trans (congrArg (· * Ideal.ofBits .f32 0x3E000000#32) (kRot_eq x10 x11 _ (fun i => yd x0 x6 r (0 + i)) r (dq_at x0 x6 r) 0 (by omega) (by omega) l))

theorem out19_eq (y : S256x512.Idx) : out0_19 (F := Ideal) x0 x1 x2 x3 x4 x5 x6 x7 x8 x9 x10 x11 y = bRot x10 x11 (fun i => yd x0 x6 (y 0) (512 + i)) (y 0) (y 1).val := by
  unfold out0_19 k0_pay51 k0_pay52 k0_pay45 k0_pay46 k0_pay47 k0_pay49 k0_pay44
  rw [ld0, ld10, ld11, cos_eq, sin_eq]
  refine View.canon_apply_of_pieces (Val := Elt Ideal) (e := .bf16) (fun y : S256x512.Idx => bRot x10 x11 (fun i => yd x0 x6 (y 0) (512 + i)) (y 0) (y 1).val) _ (fun p hp j => ?_) y (cover0_19 _ _ _ _ y)
  simp only [List.mem_cons, List.mem_nil_iff, or_false] at hp
  rcases hp with rfl | rfl | rfl | rfl
  · obtain ⟨r, l, rfl⟩ : ∃ r l, j = ix2 r l := ⟨_, _, eq_ix2 j⟩
    have q : r0_23.emb (ix2 r l) = ix2 r ⟨384 + l.val, by omega⟩ := place (by simp) (by simp)
    rw [q]
    exact (p3 x10 x11 _ r l).trans (kRot_eq x10 x11 _ (fun i => yd x0 x6 r (512 + i)) r (dk_at x0 x6 r) 384 (by omega) (by omega) l)
  · obtain ⟨r, l, rfl⟩ : ∃ r l, j = ix2 r l := ⟨_, _, eq_ix2 j⟩
    have q : r0_21.emb (ix2 r l) = ix2 r ⟨256 + l.val, by omega⟩ := place (by simp) (by simp)
    rw [q]
    exact (p39 x10 x11 _ r l).trans (kRot_eq x10 x11 _ (fun i => yd x0 x6 r (512 + i)) r (dk_at x0 x6 r) 256 (by omega) (by omega) l)
  · obtain ⟨r, l, rfl⟩ : ∃ r l, j = ix2 r l := ⟨_, _, eq_ix2 j⟩
    have q : r0_19.emb (ix2 r l) = ix2 r ⟨128 + l.val, by omega⟩ := place (by simp) (by simp)
    rw [q]
    exact (p35 x10 x11 _ r l).trans (kRot_eq x10 x11 _ (fun i => yd x0 x6 r (512 + i)) r (dk_at x0 x6 r) 128 (by omega) (by omega) l)
  · obtain ⟨r, l, rfl⟩ : ∃ r l, j = ix2 r l := ⟨_, _, eq_ix2 j⟩
    have q : r0_17.emb (ix2 r l) = ix2 r ⟨0 + l.val, by omega⟩ := place (by simp) (by simp)
    rw [q]
    exact (p28 x10 x11 _ r l).trans (kRot_eq x10 x11 _ (fun i => yd x0 x6 r (512 + i)) r (dk_at x0 x6 r) 0 (by omega) (by omega) l)

/-- Row `i` of a block of four rows to a token: its token. -/
def tok (i : Fin 1024) : Fin 256 := ⟨i.val / 4, by omega⟩

theorem out18_eq (y : S1024x128.Idx) : out0_18 (F := Ideal) x0 x1 x2 x3 x4 x5 x6 x7 x8 x9 x10 x11 y = bRot x10 x11 (fun i => yd x0 x6 (tok (y 0)) (512 + i)) (tok (y 0)) (128 * ((y 0).val % 4) + (y 1).val) := by
  unfold out0_18 k0_pay51 k0_pay52 k0_pay45 k0_pay46 k0_pay47 k0_pay49 k0_pay44
  rw [ld0, ld10, ld11, cos_eq, sin_eq]
  refine View.canon_apply_of_pieces (Val := Elt Ideal) (e := .f32) (fun y : S1024x128.Idx => bRot x10 x11 (fun i => yd x0 x6 (tok (y 0)) (512 + i)) (tok (y 0)) (128 * ((y 0).val % 4) + (y 1).val)) _ (fun p hp j => ?_) y (cover0_18 _ _ _ _ y)
  simp only [List.mem_cons, List.mem_nil_iff, or_false] at hp
  rcases hp with rfl | rfl | rfl | rfl
  · obtain ⟨r, l, rfl⟩ : ∃ r l, j = ix2 r l := ⟨_, _, eq_ix2 j⟩
    have q : r0_24.emb (ix2 r l) = ix2 ⟨3 + 4 * r.val, by omega⟩ l := place rfl (show 0 + 1 * l.val = l.val by omega)
    rw [q]
    have ht : tok ⟨3 + 4 * r.val, by omega⟩ = r := Fin.ext (by show (3 + 4 * r.val) / 4 = r.val; omega)
    have hh : 128 * ((3 + 4 * r.val) % 4) = 384 := by omega
    refine (p2 x10 x11 _ r l).trans ((kRot_eq x10 x11 _ (fun i => yd x0 x6 r (512 + i)) r (dk_at x0 x6 r) 384 (by omega) (by omega) l).trans ?_)
    show _ = bRot x10 x11 (fun i => yd x0 x6 (tok ⟨3 + 4 * r.val, _⟩) (512 + i)) (tok ⟨3 + 4 * r.val, _⟩) (128 * ((3 + 4 * r.val) % 4) + l.val)
    rw [ht, hh]
  · obtain ⟨r, l, rfl⟩ : ∃ r l, j = ix2 r l := ⟨_, _, eq_ix2 j⟩
    have q : r0_22.emb (ix2 r l) = ix2 ⟨2 + 4 * r.val, by omega⟩ l := place rfl (show 0 + 1 * l.val = l.val by omega)
    rw [q]
    have ht : tok ⟨2 + 4 * r.val, by omega⟩ = r := Fin.ext (by show (2 + 4 * r.val) / 4 = r.val; omega)
    have hh : 128 * ((2 + 4 * r.val) % 4) = 256 := by omega
    refine (p38 x10 x11 _ r l).trans ((kRot_eq x10 x11 _ (fun i => yd x0 x6 r (512 + i)) r (dk_at x0 x6 r) 256 (by omega) (by omega) l).trans ?_)
    show _ = bRot x10 x11 (fun i => yd x0 x6 (tok ⟨2 + 4 * r.val, _⟩) (512 + i)) (tok ⟨2 + 4 * r.val, _⟩) (128 * ((2 + 4 * r.val) % 4) + l.val)
    rw [ht, hh]
  · obtain ⟨r, l, rfl⟩ : ∃ r l, j = ix2 r l := ⟨_, _, eq_ix2 j⟩
    have q : r0_20.emb (ix2 r l) = ix2 ⟨1 + 4 * r.val, by omega⟩ l := place rfl (show 0 + 1 * l.val = l.val by omega)
    rw [q]
    have ht : tok ⟨1 + 4 * r.val, by omega⟩ = r := Fin.ext (by show (1 + 4 * r.val) / 4 = r.val; omega)
    have hh : 128 * ((1 + 4 * r.val) % 4) = 128 := by omega
    refine (p34 x10 x11 _ r l).trans ((kRot_eq x10 x11 _ (fun i => yd x0 x6 r (512 + i)) r (dk_at x0 x6 r) 128 (by omega) (by omega) l).trans ?_)
    show _ = bRot x10 x11 (fun i => yd x0 x6 (tok ⟨1 + 4 * r.val, _⟩) (512 + i)) (tok ⟨1 + 4 * r.val, _⟩) (128 * ((1 + 4 * r.val) % 4) + l.val)
    rw [ht, hh]
  · obtain ⟨r, l, rfl⟩ : ∃ r l, j = ix2 r l := ⟨_, _, eq_ix2 j⟩
    have q : r0_18.emb (ix2 r l) = ix2 ⟨0 + 4 * r.val, by omega⟩ l := place rfl (show 0 + 1 * l.val = l.val by omega)
    rw [q]
    have ht : tok ⟨0 + 4 * r.val, by omega⟩ = r := Fin.ext (by show (0 + 4 * r.val) / 4 = r.val; omega)
    have hh : 128 * ((0 + 4 * r.val) % 4) = 0 := by omega
    refine (p27 x10 x11 _ r l).trans ((kRot_eq x10 x11 _ (fun i => yd x0 x6 r (512 + i)) r (dk_at x0 x6 r) 0 (by omega) (by omega) l).trans ?_)
    show _ = bRot x10 x11 (fun i => yd x0 x6 (tok ⟨0 + 4 * r.val, _⟩) (512 + i)) (tok ⟨0 + 4 * r.val, _⟩) (128 * ((0 + 4 * r.val) % 4) + l.val)
    rw [ht, hh]

theorem out20_eq (y : S1024x128.Idx) : out0_20 (F := Ideal) x0 x1 x2 x3 x4 x5 x6 x7 x8 x9 x10 x11 y = yd x0 x6 (tok (y 0)) (1024 + (128 * ((y 0).val % 4) + (y 1).val)) := by
  unfold out0_20 k0_pay50 k0_pay44
  rw [ld0]
  refine View.canon_apply_of_pieces (Val := Elt Ideal) (e := .f32) (fun y : S1024x128.Idx => yd x0 x6 (tok (y 0)) (1024 + (128 * ((y 0).val % 4) + (y 1).val))) _ (fun p hp j => ?_) y (cover0_20 _ _ _ _ y)
  simp only [List.mem_cons, List.mem_nil_iff, or_false] at hp
  rcases hp with rfl | rfl | rfl | rfl
  · obtain ⟨r, l, rfl⟩ : ∃ r l, j = ix2 r l := ⟨_, _, eq_ix2 j⟩
    have q : r0_24.emb (ix2 r l) = ix2 ⟨3 + 4 * r.val, by omega⟩ l := place rfl (show 0 + 1 * l.val = l.val by omega)
    rw [q]
    have ht : tok ⟨3 + 4 * r.val, by omega⟩ = r := Fin.ext (by show (3 + 4 * r.val) / 4 = r.val; omega)
    have hh : 128 * ((3 + 4 * r.val) % 4) = 384 := by omega
    refine (p4 _ r l).trans ((dv_at x0 x6 r _).trans ?_)
    show _ = yd x0 x6 (tok ⟨3 + 4 * r.val, _⟩) (1024 + (128 * ((3 + 4 * r.val) % 4) + l.val))
    rw [ht, hh]
  · obtain ⟨r, l, rfl⟩ : ∃ r l, j = ix2 r l := ⟨_, _, eq_ix2 j⟩
    have q : r0_22.emb (ix2 r l) = ix2 ⟨2 + 4 * r.val, by omega⟩ l := place rfl (show 0 + 1 * l.val = l.val by omega)
    rw [q]
    have ht : tok ⟨2 + 4 * r.val, by omega⟩ = r := Fin.ext (by show (2 + 4 * r.val) / 4 = r.val; omega)
    have hh : 128 * ((2 + 4 * r.val) % 4) = 256 := by omega
    refine (p40 _ r l).trans ((dv_at x0 x6 r _).trans ?_)
    show _ = yd x0 x6 (tok ⟨2 + 4 * r.val, _⟩) (1024 + (128 * ((2 + 4 * r.val) % 4) + l.val))
    rw [ht, hh]
  · obtain ⟨r, l, rfl⟩ : ∃ r l, j = ix2 r l := ⟨_, _, eq_ix2 j⟩
    have q : r0_20.emb (ix2 r l) = ix2 ⟨1 + 4 * r.val, by omega⟩ l := place rfl (show 0 + 1 * l.val = l.val by omega)
    rw [q]
    have ht : tok ⟨1 + 4 * r.val, by omega⟩ = r := Fin.ext (by show (1 + 4 * r.val) / 4 = r.val; omega)
    have hh : 128 * ((1 + 4 * r.val) % 4) = 128 := by omega
    refine (p36 _ r l).trans ((dv_at x0 x6 r _).trans ?_)
    show _ = yd x0 x6 (tok ⟨1 + 4 * r.val, _⟩) (1024 + (128 * ((1 + 4 * r.val) % 4) + l.val))
    rw [ht, hh]
  · obtain ⟨r, l, rfl⟩ : ∃ r l, j = ix2 r l := ⟨_, _, eq_ix2 j⟩
    have q : r0_18.emb (ix2 r l) = ix2 ⟨0 + 4 * r.val, by omega⟩ l := place rfl (show 0 + 1 * l.val = l.val by omega)
    rw [q]
    have ht : tok ⟨0 + 4 * r.val, by omega⟩ = r := Fin.ext (by show (0 + 4 * r.val) / 4 = r.val; omega)
    have hh : 128 * ((0 + 4 * r.val) % 4) = 0 := by omega
    refine (p29 _ r l).trans ((dv_at x0 x6 r _).trans ?_)
    show _ = yd x0 x6 (tok ⟨0 + 4 * r.val, _⟩) (1024 + (128 * ((0 + 4 * r.val) % 4) + l.val))
    rw [ht, hh]

end Cert.InProj
-- ==== Proof.InProj.Ref.lean ====
/-
  The reference of the input projection, entry by entry.
-/
module

public import proofs.«01_k».proof.Proof.Gen.InProjRefIdeal.Run
public import proofs.«01_k».proof.Proof.InProj.Spec

@[expose] public section

set_option maxRecDepth 16384

noncomputable section

namespace Cert.InProj

open Idealize Idealize.ShloMosaic Idealize.ShloMosaic.TcCoe Cert.InProjRefIdeal Cert.InProjRefIdeal.Gen Cert.InProjRefIdeal.Value

/-- The product of the inputs and the weights. -/
def rZ (x : FVec Ideal S8x2048x1024 .f32) (w : FVec Ideal S1x1024x8200 .f32) : FVec Ideal S8x2048x8200 .f32 :=
  Host.dotGeneral dot_S8x2048x1024_S1024x8200_S8x2048x8200_2_0_01_1_n_n none x (shapeCast S1024x8200 w shapeCasts_S1x1024x8200_S1024x8200)

variable (Z : FVec Ideal S8x2048x8200 .f32) (b : FVec Ideal S1x8 .f32)

def rQ : FVec Ideal S64x1024x256 .bf16 :=
  truncf .bf16 (transpose S64x1024x256 [0, 2, 1] (shapeCast S64x256x1024 (extractStridedSlice S8x2048x1024 ![0, 0, 0] Z slices_S8x2048x8200_S8x2048x1024_0_0_0) shapeCasts_S8x2048x1024_S64x256x1024) transposes_S64x256x1024_S64x1024x256_0_2_1) bitsLt_bf16_f32
def rK : FVec Ideal S16384x1024 .bf16 :=
  truncf .bf16 (shapeCast S16384x1024 (mulf (extractStridedSlice S8x2048x1024 ![0, 0, 1024] Z slices_S8x2048x8200_S8x2048x1024_0_0_1024) (broadcastInDim S8x2048x1024 ![] bcast_S_S8x2048x1024 (constant S_ .f32 0x3D800000#32))) shapeCasts_S8x2048x1024_S16384x1024) bitsLt_bf16_f32
def rV : FVec Ideal S64x1024x256 .bf16 :=
  truncf .bf16 (transpose S64x1024x256 [0, 2, 1] (shapeCast S64x256x1024 (extractStridedSlice S8x2048x1024 ![0, 0, 2048] Z slices_S8x2048x8200_S8x2048x1024_0_0_2048) shapeCasts_S8x2048x1024_S64x256x1024) transposes_S64x256x1024_S64x1024x256_0_2_1) bitsLt_bf16_f32
def rPre : FVec Ideal S16384x8 .f32 :=
  shapeCast S16384x8 (fn_main_v24 (F := Ideal)
    (addf (extractStridedSlice S8x2048x4 ![0, 0, 4096] Z slices_S8x2048x8200_S8x2048x4_0_0_4096) (broadcastInDim S8x2048x4 ![0, 1, 2] bcast_S1x1x4_S8x2048x4_0_1_2 (broadcastInDim S1x1x4 ![2] bcast_S4_S1x1x4_2 (shapeCast S4 (extractStridedSlice S1x4 ![0, 0] b slices_S1x8_S1x4_0_0) shapeCasts_S1x4_S4))))
    (addf (extractStridedSlice S8x2048x4 ![0, 0, 4100] Z slices_S8x2048x8200_S8x2048x4_0_0_4100) (broadcastInDim S8x2048x4 ![0, 1, 2] bcast_S1x1x4_S8x2048x4_0_1_2 (broadcastInDim S1x1x4 ![2] bcast_S4_S1x1x4_2 (shapeCast S4 (extractStridedSlice S1x4 ![0, 4] b slices_S1x8_S1x4_0_4) shapeCasts_S1x4_S4))))) shapeCasts_S8x2048x8_S16384x8
def rCol (p : FVec Ideal S16384x8 .f32) : FVec Ideal S16384x128 .f32 :=
  pad S16384x128 ![0, 0] ![0, 120] ![0, 0] p (sitofp .f32 (constantI S_ 32 0#32)) pads_S16384x8_S16384x128_000_01200 h_S_
def rRow (p : FVec Ideal S16384x8 .f32) : FVec Ideal S8x16384 .f32 := transpose S8x16384 [1, 0] p transposes_S16384x8_S8x16384_1_0
/-- The angles of the rotation, position by frequency. -/
def rAng : FVec Ideal S2048x32 .f32 :=
  mulf (broadcastInDim S2048x32 ![0, 1] bcast_S2048x1_S2048x32_0_1 (broadcastInDim S2048x1 ![0] bcast_S2048_S2048x1_0 (sitofp (F := Ideal) .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))
def rBr (a : FVec Ideal S2048x32 .f32) : FVec Ideal S8x2048x8x32 .f32 :=
  broadcastInDim S8x2048x8x32 ![0, 1, 2, 3] bcast_S1x2048x1x32_S8x2048x8x32_0_1_2_3 (broadcastInDim S1x2048x1x32 ![1, 2, 3] bcast_S2048x1x32_S1x2048x1x32_1_2_3 (broadcastInDim S2048x1x32 ![0, 2] bcast_S2048x32_S2048x1x32_0_2 a))
/-- The rotation of the halves of each head. -/
def rRope (a : FVec Ideal S2048x32 .f32) (t : FVec Ideal S8x2048x512 .f32) : FVec Ideal S8x2048x8x64 .f32 :=
  fn_main_v70 (F := Ideal)
    (subf (mulf (extractStridedSlice S8x2048x8x32 ![0, 0, 0, 0] (shapeCast S8x2048x8x64 t shapeCasts_S8x2048x512_S8x2048x8x64) slices_S8x2048x8x64_S8x2048x8x32_0_0_0_0) (rBr (Host.cos a)))
      (mulf (extractStridedSlice S8x2048x8x32 ![0, 0, 0, 32] (shapeCast S8x2048x8x64 t shapeCasts_S8x2048x512_S8x2048x8x64) slices_S8x2048x8x64_S8x2048x8x32_0_0_0_32) (rBr (Host.sin a))))
    (addf (mulf (extractStridedSlice S8x2048x8x32 ![0, 0, 0, 32] (shapeCast S8x2048x8x64 t shapeCasts_S8x2048x512_S8x2048x8x64) slices_S8x2048x8x64_S8x2048x8x32_0_0_0_32) (rBr (Host.cos a)))
      (mulf (extractStridedSlice S8x2048x8x32 ![0, 0, 0, 0] (shapeCast S8x2048x8x64 t shapeCasts_S8x2048x512_S8x2048x8x64) slices_S8x2048x8x64_S8x2048x8x32_0_0_0_0) (rBr (Host.sin a))))
def rDq : FVec Ideal S16384x512 .bf16 :=
  truncf .bf16 (shapeCast S16384x512 (mulf (rRope rAng (extractStridedSlice S8x2048x512 ![0, 0, 4104] Z slices_S8x2048x8200_S8x2048x512_0_0_4104)) (broadcastInDim S8x2048x8x64 ![] bcast_S_S8x2048x8x64 (constant S_ .f32 0x3E000000#32))) shapeCasts_S8x2048x8x64_S16384x512) bitsLt_bf16_f32
def rDkf : FVec Ideal S65536x128 .f32 :=
  shapeCast S65536x128 (rRope rAng (extractStridedSlice S8x2048x512 ![0, 0, 4616] Z slices_S8x2048x8200_S8x2048x512_0_0_4616)) shapeCasts_S8x2048x8x64_S65536x128
def rDkb : FVec Ideal S16384x512 .bf16 :=
  truncf .bf16 (shapeCast S16384x512 (rRope rAng (extractStridedSlice S8x2048x512 ![0, 0, 4616] Z slices_S8x2048x8200_S8x2048x512_0_0_4616)) shapeCasts_S8x2048x8x64_S16384x512) bitsLt_bf16_f32
def rDvf : FVec Ideal S65536x128 .f32 :=
  shapeCast S65536x128 (extractStridedSlice S8x2048x512 ![0, 0, 5128] Z slices_S8x2048x8200_S8x2048x512_0_0_5128) shapeCasts_S8x2048x512_S65536x128
def rDvt : FVec Ideal S64x512x256 .bf16 :=
  truncf .bf16 (transpose S64x512x256 [0, 2, 1] (shapeCast S64x256x512 (extractStridedSlice S8x2048x512 ![0, 0, 5128] Z slices_S8x2048x8200_S8x2048x512_0_0_5128) shapeCasts_S8x2048x512_S64x256x512) transposes_S64x256x512_S64x512x256_0_2_1) bitsLt_bf16_f32
def rCq : FVec Ideal S16384x512 .bf16 :=
  truncf .bf16 (shapeCast S16384x512 (extractStridedSlice S8x2048x512 ![0, 0, 5640] Z slices_S8x2048x8200_S8x2048x512_0_0_5640) shapeCasts_S8x2048x512_S16384x512) bitsLt_bf16_f32
def rSig : FVec Ideal S8x2048x1024 .f32 :=
  Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extractStridedSlice S8x2048x1024 ![0, 0, 3072] Z slices_S8x2048x8200_S8x2048x1024_0_0_3072))))
def rAct : FVec Ideal S8x2048x2048 .f32 :=
  mulf (extractStridedSlice S8x2048x2048 ![0, 0, 6152] Z slices_S8x2048x8200_S8x2048x2048_0_0_6152) (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (extractStridedSlice S8x2048x2048 ![0, 0, 6152] Z slices_S8x2048x8200_S8x2048x2048_0_0_6152)))))
def rGate : FVec Ideal S16384x2048 .bf16 :=
  truncf .bf16 (shapeCast S16384x2048 (fn_main_v36 (F := Ideal) (mulf (rSig Z) (extractStridedSlice S8x2048x1024 ![0, 0, 0] (rAct Z) slices_S8x2048x2048_S8x2048x1024_0_0_0))
    (extractStridedSlice S8x2048x1024 ![0, 0, 1024] (rAct Z) slices_S8x2048x2048_S8x2048x1024_0_0_1024)) shapeCasts_S8x2048x2048_S16384x2048) bitsLt_bf16_f32

theorem rZ_apply (x : FVec Ideal S8x2048x1024 .f32) (w : FVec Ideal S1x1024x8200 .f32) (i : Fin 8) (l : Fin 2048) (j : Fin 8200) :
    rZ x w (ix3 i l j) = ∑ k : Fin 1024, x (ix3 i l k) * w (ix3 0 k j) := by
  unfold rZ
  pointwise

/-- The padding's zero. -/
theorem zero_int : (FloatOps.sitofp (F := Ideal) .f32 (0#32) : EReal) = 0 := by
  show (((0#32 : BitVec 32).toInt : ℝ) : EReal) = 0
  norm_num

theorem zx_eq (x : FVec Ideal S8x2048x1024 .f32) (w : FVec Ideal S1x1024x8200 .f32) (i : Fin 8) (l : Fin 2048) (j : Fin 8200) :
    rZ x w (ix3 i l j) = zx x w (i.val * 2048 + l.val) j.val := by
  rw [rZ_apply]
  unfold zx
  rw [dif_pos ⟨by omega, j.isLt⟩]
  have e1 : (⟨(i.val * 2048 + l.val) / 2048, by omega⟩ : Fin 8) = i := Fin.ext (by show (i.val * 2048 + l.val) / 2048 = i.val; omega)
  have e2 : (⟨(i.val * 2048 + l.val) % 2048, by omega⟩ : Fin 2048) = l := Fin.ext (by show (i.val * 2048 + l.val) % 2048 = l.val; omega)
  rw [e1, e2]

theorem at_eq (z : ℕ → ℕ → EReal) {n n' j j' : ℕ} (hn : n = n') (hj : j = j') : z n j = z n' j' := by rw [hn, hj]

variable (z : ℕ → ℕ → EReal) (hZ : ∀ (i : Fin 8) (l : Fin 2048) (j : Fin 8200), Z (ix3 i l j) = z (i.val * 2048 + l.val) j.val)

include hZ

theorem zat (i : Fin 8) (l : Fin 2048) (j : Fin 8200) (n k : ℕ) (hn : i.val * 2048 + l.val = n) (hj : j.val = k) : Z (ix3 i l j) = z n k := by
  rw [hZ, hn, hj]

theorem rQ_eq : rQ Z = tQ z := by
  funext y
  obtain ⟨t, e, r, rfl⟩ : ∃ t e r, y = ix3 t e r := ⟨_, _, _, eq_ix3 y⟩
  unfold rQ tQ
  pointwise
  exact zat Z z hZ _ _ _ _ _ (by simp; omega) (by simp)

theorem rK_eq : rK Z = tK z := by
  funext y
  obtain ⟨n, e, rfl⟩ : ∃ n e, y = ix2 n e := ⟨_, _, eq_ix2 y⟩
  unfold rK tK
  pointwise
  exact congrArg (· * Ideal.ofBits .f32 0x3D800000#32) (zat Z z hZ _ _ _ _ _ (by simp; omega) (by simp))

theorem rV_eq : rV Z = tV z := by
  funext y
  obtain ⟨t, e, r, rfl⟩ : ∃ t e r, y = ix3 t e r := ⟨_, _, _, eq_ix3 y⟩
  unfold rV tV
  pointwise
  exact zat Z z hZ _ _ _ _ _ (by simp; omega) (by simp)

theorem rPre_apply (n : Fin 16384) (j : Fin 8) : rPre Z b (ix2 n j) = z n.val (4096 + j.val) + b (ix2 0 j) := by
  unfold rPre fn_main_v24
  pointwise
  by_cases h : j.val < 4
  · rw [dif_pos h]
    exact congrArg (· + b (ix2 0 j)) (zat Z z hZ _ _ _ _ _ (by simp; omega) (by simp))
  · rw [dif_neg h]
    have e : (⟨4 + (j.val - 4), by omega⟩ : Fin 8) = j := Fin.ext (by show 4 + (j.val - 4) = j.val; omega)
    rw [e]
    exact congrArg (· + b (ix2 0 j)) (zat Z z hZ _ _ _ _ _ (by simp; omega) (by simp; omega))

theorem rCol_eq : rCol (rPre Z b) = tCol z b := by
  funext y
  obtain ⟨n, j, rfl⟩ : ∃ n j, y = ix2 n j := ⟨_, _, eq_ix2 y⟩
  unfold rCol tCol
  pointwise
  by_cases h : j.val < 8
  · rw [dif_pos h, dif_pos h]
    exact rPre_apply Z b z hZ n ⟨j.val, h⟩
  · rw [dif_neg h, dif_neg h]
    exact zero_int

theorem rRow_eq : rRow (rPre Z b) = tRow z b := by
  funext y
  obtain ⟨j, n, rfl⟩ : ∃ j n, y = ix2 j n := ⟨_, _, eq_ix2 y⟩
  unfold rRow tRow
  pointwise
  exact rPre_apply Z b z hZ n j

omit hZ in
theorem rAng_apply (l : Fin 2048) (q : Fin 32) : rAng (ix2 l q) = ang l.val q.val := by
  unfold rAng ang
  pointwise

omit hZ in
theorem angat (l : Fin 2048) (q : Fin 32) (a c : ℕ) (ha : l.val = a) (hc : q.val = c) : rAng (ix2 l q) = ang a c := by
  rw [rAng_apply, ha, hc]

/-- The rotated columns. -/
theorem rRope_eq (o : ℕ) (ho : o + 512 ≤ 8200) (t : FVec Ideal S8x2048x512 .f32)
    (ht : ∀ (i : Fin 8) (l : Fin 2048) (c : Fin 512), t (ix3 i l c) = Z (ix3 i l ⟨o + c.val, by omega⟩))
    (i : Fin 8) (l : Fin 2048) (h : Fin 8) (d : Fin 64) (n c : ℕ) (hn : i.val * 2048 + l.val = n) (hc : h.val * 64 + d.val = c) :
    rRope rAng t (ix4 i l h d) = rot z o n c := by
  have hl : n % 2048 = l.val := by omega
  unfold rRope rBr fn_main_v70
  pointwise
  unfold rot
  by_cases hd : d.val < 32
  · have hq : c % 32 = d.val := by omega
    rw [dif_pos hd, if_pos (by omega), hl, hq]
    simp only [ht, rAng_apply]
    rw [zat Z z hZ _ _ _ n (o + c) hn (by simp; omega), zat Z z hZ _ _ _ n (o + c + 32) hn (by simp; omega)]
  · have hq : c % 32 = d.val - 32 := by omega
    rw [dif_neg hd]
    refine Eq.trans ?_ (if_neg (show ¬ c % 64 < 32 by omega)).symm
    refine congrArg₂ (· + ·) (congrArg₂ (· * ·) ?_ (congrArg Ideal.cos ?_)) (congrArg₂ (· * ·) ?_ (congrArg Ideal.sin ?_))
    · exact (ht _ _ _).trans (zat Z z hZ _ _ _ n (o + c) hn (by simp; omega))
    · exact angat _ _ _ _ hl.symm hq.symm
    · exact (ht _ _ _).trans (zat Z z hZ _ _ _ n (o + c - 32) hn (by simp; omega))
    · exact angat _ _ _ _ hl.symm hq.symm

omit hZ in
theorem sl4104 (i : Fin 8) (l : Fin 2048) (c : Fin 512) :
    extractStridedSlice S8x2048x512 ![0, 0, 4104] Z slices_S8x2048x8200_S8x2048x512_0_0_4104 (ix3 i l c) = Z (ix3 i l ⟨4104 + c.val, by omega⟩) := by
  pointwise

omit hZ in
theorem sl4616 (i : Fin 8) (l : Fin 2048) (c : Fin 512) :
    extractStridedSlice S8x2048x512 ![0, 0, 4616] Z slices_S8x2048x8200_S8x2048x512_0_0_4616 (ix3 i l c) = Z (ix3 i l ⟨4616 + c.val, by omega⟩) := by
  pointwise

theorem rDq_eq : rDq Z = tDq z := by
  funext y
  obtain ⟨n, e, rfl⟩ : ∃ n e, y = ix2 n e := ⟨_, _, eq_ix2 y⟩
  unfold rDq tDq
  pointwise
  exact congrArg (· * Ideal.ofBits .f32 0x3E000000#32) (rRope_eq Z z hZ 4104 (by omega) _ (sl4104 Z) _ _ _ _ _ _ (by simp; omega) (by simp; omega))

theorem rDkf_eq : rDkf Z = tDkf z := by
  funext y
  obtain ⟨n, e, rfl⟩ : ∃ n e, y = ix2 n e := ⟨_, _, eq_ix2 y⟩
  unfold rDkf tDkf
  pointwise
  exact rRope_eq Z z hZ 4616 (by omega) _ (sl4616 Z) _ _ _ _ _ _ (by simp; omega) (by simp; omega)

theorem rDkb_eq : rDkb Z = tDkb z := by
  funext y
  obtain ⟨n, e, rfl⟩ : ∃ n e, y = ix2 n e := ⟨_, _, eq_ix2 y⟩
  unfold rDkb tDkb
  pointwise
  exact rRope_eq Z z hZ 4616 (by omega) _ (sl4616 Z) _ _ _ _ _ _ (by simp; omega) (by simp; omega)

theorem rDvf_eq : rDvf Z = tDvf z := by
  funext y
  obtain ⟨n, e, rfl⟩ : ∃ n e, y = ix2 n e := ⟨_, _, eq_ix2 y⟩
  unfold rDvf tDvf
  pointwise
  exact zat Z z hZ _ _ _ _ _ (by simp; omega) (by simp; omega)

theorem rDvt_eq : rDvt Z = tDvt z := by
  funext y
  obtain ⟨t, e, r, rfl⟩ : ∃ t e r, y = ix3 t e r := ⟨_, _, _, eq_ix3 y⟩
  unfold rDvt tDvt
  pointwise
  exact zat Z z hZ _ _ _ _ _ (by simp; omega) (by simp)

theorem rCq_eq : rCq Z = tCq z := by
  funext y
  obtain ⟨n, e, rfl⟩ : ∃ n e, y = ix2 n e := ⟨_, _, eq_ix2 y⟩
  unfold rCq tCq
  pointwise
  exact zat Z z hZ _ _ _ _ _ (by simp; omega) (by simp)

theorem rGate_eq : rGate Z = tGate z := by
  funext y
  obtain ⟨n, e, rfl⟩ : ∃ n e, y = ix2 n e := ⟨_, _, eq_ix2 y⟩
  unfold rGate fn_main_v36 rSig rAct tGate sg
  pointwise
  by_cases h : e.val < 1024
  · refine (dif_pos h).trans (Eq.trans ?_ (if_pos h).symm)
    exact congrArg₂ (· * ·) (congrArg (fun v : EReal => Ideal.div 1 (1 + Ideal.exp (-v))) (zat Z z hZ _ _ _ n.val (3072 + e.val) (by simp; omega) (by simp)))
      (congrArg (fun v : EReal => v * Ideal.div 1 (1 + Ideal.exp (-v))) (zat Z z hZ _ _ _ n.val (6152 + e.val) (by simp; omega) (by simp)))
  · refine (dif_neg h).trans (Eq.trans ?_ (if_neg h).symm)
    exact congrArg (fun v : EReal => v * Ideal.div 1 (1 + Ideal.exp (-v))) (zat Z z hZ _ _ _ n.val (6152 + e.val) (by simp; omega) (by simp; omega))

end Cert.InProj
-- ==== Proof.InProj.Block.lean ====
/-
  The blocks of a grid point of the input projection against the whole product.
-/
module

public import proofs.«01_k».proof.Proof.InProj.Out
public import proofs.«01_k».proof.Proof.InProj.Ref

@[expose] public section

noncomputable section

namespace Cert.InProj

open Idealize Idealize.ShloMosaic Cert.InProjIdeal

variable (X : FVec Ideal S8x2048x1024 .f32) (W : FVec Ideal S1x1024x8200 .f32) (n : ℕ) (r : Fin 256) (x0 : FVec Ideal S256x1024 .f32)

/-- The row `r` of the block is the token `n`. -/
def IsRow : Prop := ∃ h : n < 16384, ∀ k : Fin 1024, x0 (ix2 r k) = X (ix3 ⟨n / 2048, by omega⟩ ⟨n % 2048, by omega⟩ k)

theorem sum_eq (h0 : IsRow X n r x0) (p : Fin 1024 → EReal) (j : ℕ) (hj : j < 8200) (hp : ∀ k : Fin 1024, p k = W (ix3 0 k ⟨j, hj⟩)) :
    ∑ k : Fin 1024, x0 (ix2 r k) * p k = zx X W n j := by
  obtain ⟨hn, h0⟩ := h0
  unfold zx
  rw [dif_pos (show n < 16384 ∧ j < 8200 from ⟨hn, hj⟩)]
  exact Finset.sum_congr rfl fun k _ => congrArg₂ (· * ·) (h0 k) (hp k)

theorem sum_eq' (h0 : IsRow X n r x0) (p : Fin 1024 → EReal) (j : ℕ) (hj : j < 8200) (hp : ∀ k : Fin 1024, p k = W (ix3 0 k ⟨j, hj⟩)) :
    ∑ k : Fin 1024, p k * x0 (ix2 r k) = zx X W n j :=
  (Finset.sum_congr rfl fun k _ => mul_comm _ _).trans (sum_eq X W n r x0 h0 p j hj hp)

theorem yd_eq (h0 : IsRow X n r x0) (w : FVec Ideal S1024x2048 .bf16) (o : ℕ) (ho : o + 2048 ≤ 8200)
    (hw : ∀ (k : Fin 1024) (e : Fin 2048), w (ix2 k e) = W (ix3 0 k ⟨o + e.val, by omega⟩)) (j : ℕ) (hj : j < 2048) :
    yd x0 w r j = zx X W n (o + j) := by
  unfold yd
  rw [dif_pos hj]
  exact sum_eq X W n r x0 h0 _ _ (by omega) fun k => hw k ⟨j, hj⟩

theorem yd3_lo (h0 : IsRow X n r x0) (w : FVec Ideal S1024x2048 .bf16)
    (hw : ∀ (k : Fin 1024) (e : Fin 2048), w (ix2 k e) = if h : e.val < 1024 then W (ix3 0 k ⟨1024 + e.val, by omega⟩) else W (ix3 0 k ⟨3072 + (e.val - 1024), by omega⟩))
    (j : ℕ) (hj : j < 1024) : yd x0 w r j = zx X W n (1024 + j) := by
  unfold yd
  rw [dif_pos (show j < 2048 by omega)]
  exact sum_eq X W n r x0 h0 _ _ (by omega) fun k => (hw k ⟨j, by omega⟩).trans (dif_pos hj)

theorem yd3_hi (h0 : IsRow X n r x0) (w : FVec Ideal S1024x2048 .bf16)
    (hw : ∀ (k : Fin 1024) (e : Fin 2048), w (ix2 k e) = if h : e.val < 1024 then W (ix3 0 k ⟨1024 + e.val, by omega⟩) else W (ix3 0 k ⟨3072 + (e.val - 1024), by omega⟩))
    (j : ℕ) (hj : j < 1024) : yd x0 w r (1024 + j) = zx X W n (3072 + j) := by
  unfold yd
  rw [dif_pos (show 1024 + j < 2048 by omega)]
  refine sum_eq X W n r x0 h0 _ _ (by omega) fun k => (hw k ⟨1024 + j, by omega⟩).trans ((dif_neg (show ¬ 1024 + j < 1024 by omega)).trans ?_)
  exact congrArg (fun v => W (ix3 0 k v)) (Fin.ext (show 3072 + (1024 + j - 1024) = 3072 + j by omega))

/-- A block's rotated columns are the whole's. -/
theorem bRot_eq (c s : FVec Ideal S256x128 .f32) (z : ℕ → ℕ → EReal) (f : ℕ → EReal) (o j : ℕ) (hj : j < 512)
    (hc : ∀ l : Fin 128, c (ix2 r l) = Ideal.cos (ang (n % 2048) (l.val % 32)))
    (hs : ∀ l : Fin 128, s (ix2 r l) = if l.val % 64 < 32 then -Ideal.sin (ang (n % 2048) (l.val % 32)) else Ideal.sin (ang (n % 2048) (l.val % 32)))
    (hf : ∀ i, i < 512 → f i = z n (o + i)) : bRot c s f r j = rot z o n j := by
  have h32 : j % 128 % 32 = j % 32 := by omega
  have h64 : j % 128 % 64 = j % 64 := by omega
  unfold bRot rot
  rw [hc, hs, hf j hj]
  simp only [h32, h64]
  by_cases h : j % 64 < 32
  · rw [if_pos h, if_pos h, if_pos h, hf (j + 32) (by omega), mul_neg, ← sub_eq_add_neg, Nat.add_assoc]
  · rw [if_neg h, if_neg h, if_neg h, hf (j - 32) (by omega), ← Nat.add_sub_assoc (show 32 ≤ j by omega)]

/-- The gates' columns, padded. -/
theorem col_eq (h0 : IsRow X n r x0) (B : FVec Ideal S1x8 .f32) (w : FVec Ideal S1024x128 .bf16) (b : FVec Ideal S1x128 .f32)
    (hw : ∀ (k : Fin 1024) (e : Fin 128), w (ix2 k e) = if h : e.val < 8 then W (ix3 0 k ⟨4096 + e.val, by omega⟩) else (FloatOps.sitofp (F := Ideal) .f32 (0#32 : BitVec 32) : EReal))
    (hb : ∀ e : Fin 128, b (ix2 0 e) = if h : e.val < 8 then B (ix2 0 ⟨e.val, h⟩) else (FloatOps.sitofp (F := Ideal) .f32 (0#32 : BitVec 32) : EReal)) (e : Fin 128) :
    (∑ k : Fin 1024, x0 (ix2 r k) * w (ix2 k e)) + b (ix2 0 e) = if h : e.val < 8 then zx X W n (4096 + e.val) + B (ix2 0 ⟨e.val, h⟩) else 0 := by
  by_cases h : e.val < 8
  · refine Eq.trans ?_ (dif_pos h).symm
    exact congrArg₂ (· + ·) (sum_eq X W n r x0 h0 _ _ (by omega) fun k => (hw k e).trans (dif_pos h)) ((hb e).trans (dif_pos h))
  · refine Eq.trans ?_ (dif_neg h).symm
    refine (congrArg₂ (· + ·) (Finset.sum_eq_zero fun k _ => ?_) ((hb e).trans ((dif_neg h).trans zero_int))).trans (add_zero 0)
    exact (congrArg (_ * ·) ((hw k e).trans ((dif_neg h).trans zero_int))).trans (mul_zero _)

theorem gate_eq (h0 : IsRow X n r x0) (w v : FVec Ideal S1024x2048 .bf16)
    (hw : ∀ (k : Fin 1024) (e : Fin 2048), w (ix2 k e) = if h : e.val < 1024 then W (ix3 0 k ⟨1024 + e.val, by omega⟩) else W (ix3 0 k ⟨3072 + (e.val - 1024), by omega⟩))
    (hv : ∀ (k : Fin 1024) (e : Fin 2048), v (ix2 k e) = W (ix3 0 k ⟨6152 + e.val, by omega⟩)) (e : Fin 2048) :
    bGate x0 w v (ix2 r e) = if e.val < 1024 then sg (zx X W n (3072 + e.val)) * (zx X W n (6152 + e.val) * sg (zx X W n (6152 + e.val)))
      else zx X W n (6152 + e.val) * sg (zx X W n (6152 + e.val)) := by
  have q := yd_eq X W n r x0 h0 v 6152 (by omega) hv e.val e.isLt
  show (if e.val < 1024 then sg (yd x0 w r (1024 + e.val)) * (yd x0 v r e.val * sg (yd x0 v r e.val)) else yd x0 v r e.val * sg (yd x0 v r e.val)) = _
  rw [q]
  by_cases h : e.val < 1024
  · rw [if_pos h, if_pos h, yd3_hi X W n r x0 h0 w hw e.val h]
  · rw [if_neg h, if_neg h]

end Cert.InProj
-- ==== Proof.InProj.Host.lean ====
/-
  What the input projection's kernel is given: the tables made of the arguments before it runs.
-/
module

public import proofs.«01_k».proof.Proof.InProj.RunIdeal
public import proofs.«01_k».proof.Proof.InProj.Spec

@[expose] public section

set_option maxRecDepth 16384

noncomputable section

namespace Cert.InProj

open Idealize Idealize.ShloMosaic Idealize.ShloMosaic.TcCoe Cert.InProjIdeal Cert.InProjIdeal.Gen

/-! ### The terms -/

abbrev hW (w : FVec Ideal S1x1024x8200 .f32) : FVec Ideal S1024x8200 .f32 := shapeCast S1024x8200 w shapeCasts_S1x1024x8200_S1024x8200
abbrev hB (b : FVec Ideal S1x8 .f32) : FVec Ideal S8 .f32 := shapeCast S8 b shapeCasts_S1x8_S8
abbrev hQT (w : FVec Ideal S1x1024x8200 .f32) : FVec Ideal S1024x1024 .bf16 :=
  truncf (F := Ideal) .bf16 (transpose S1024x1024 [1, 0] (extractStridedSlice S1024x1024 ![0, 0] (hW w) slices_S1024x8200_S1024x1024_0_0) transposes_S1024x1024_S1024x1024_1_0) bitsLt_bf16_f32
abbrev hVT (w : FVec Ideal S1x1024x8200 .f32) : FVec Ideal S1024x1024 .bf16 :=
  truncf (F := Ideal) .bf16 (transpose S1024x1024 [1, 0] (extractStridedSlice S1024x1024 ![0, 2048] (hW w) slices_S1024x8200_S1024x1024_0_2048) transposes_S1024x1024_S1024x1024_1_0) bitsLt_bf16_f32
abbrev hM (w : FVec Ideal S1x1024x8200 .f32) : FVec Ideal S1024x2048 .bf16 :=
  truncf (F := Ideal) .bf16 (concatenate S1024x2048 1 [⟨S1024x1024, extractStridedSlice S1024x1024 ![0, 1024] (hW w) slices_S1024x8200_S1024x1024_0_1024⟩,
    ⟨S1024x1024, extractStridedSlice S1024x1024 ![0, 3072] (hW w) slices_S1024x8200_S1024x1024_0_3072⟩] concatenates_S1024x1024_S1024x1024_S1024x2048_d1) bitsLt_bf16_f32
abbrev hG (w : FVec Ideal S1x1024x8200 .f32) : FVec Ideal S1024x8 .f32 := extractStridedSlice S1024x8 ![0, 4096] (hW w) slices_S1024x8200_S1024x8_0_4096
abbrev hGP (w : FVec Ideal S1x1024x8200 .f32) : FVec Ideal S1024x128 .bf16 :=
  truncf (F := Ideal) .bf16 (pad S1024x128 ![0, 0] ![0, 120] ![0, 0] (hG w) (sitofp (F := Ideal) .f32 (constantI S_ 32 0#32)) pads_S1024x8_S1024x128_000_01200 h_S_) bitsLt_bf16_f32
abbrev hGT (w : FVec Ideal S1x1024x8200 .f32) : FVec Ideal S8x1024 .bf16 :=
  truncf (F := Ideal) .bf16 (transpose S8x1024 [1, 0] (hG w) transposes_S1024x8_S8x1024_1_0) bitsLt_bf16_f32
abbrev hD (w : FVec Ideal S1x1024x8200 .f32) : FVec Ideal S1024x2048 .bf16 :=
  truncf (F := Ideal) .bf16 (extractStridedSlice S1024x2048 ![0, 4104] (hW w) slices_S1024x8200_S1024x2048_0_4104) bitsLt_bf16_f32
abbrev hS (w : FVec Ideal S1x1024x8200 .f32) : FVec Ideal S1024x2048 .bf16 :=
  truncf (F := Ideal) .bf16 (extractStridedSlice S1024x2048 ![0, 6152] (hW w) slices_S1024x8200_S1024x2048_0_6152) bitsLt_bf16_f32
abbrev hBC (b : FVec Ideal S1x8 .f32) : FVec Ideal S1x128 .f32 :=
  shapeCast S1x128 (pad S128 ![0] ![120] ![0] (hB b) (sitofp (F := Ideal) .f32 (constantI S_ 32 0#32)) pads_S8_S128_01200 h_S_) shapeCasts_S128_S1x128
abbrev hBR (b : FVec Ideal S1x8 .f32) : FVec Ideal S8x128 .f32 :=
  broadcastInDim S8x128 ![0, 1] bcast_S8x1_S8x128_0_1 (broadcastInDim S8x1 ![0] bcast_S8_S8x1_0 (hB b))
/-- The divisor, one where it would be zero. -/
abbrev hN (n : BitVec 32) : IVec S_ 32 := select (cmpi .eq (constantI S_ 32 n) (constantI S_ 32 0#32)) (constantI S_ 32 1#32) (constantI S_ 32 n)
abbrev hR (n : BitVec 32) : IVec S128 32 := Host.remsi (iotaInDim S128 32 0) (broadcastInDim S128 ![] bcast_S_S128 (hN n))
/-- The lanes' remainders by `n`. -/
def hRem (n : BitVec 32) : IVec S128 32 :=
  select (andi (cmpi .ne (cmpi .slt (hR n) (broadcastInDim S128 ![] bcast_S_S128 (constantI S_ 32 0#32)))
      (broadcastInDim S128 ![] bcast_S_S128 (cmpi .slt (hN n) (constantI S_ 32 0#32))))
      (cmpi .ne (hR n) (broadcastInDim S128 ![] bcast_S_S128 (constantI S_ 32 0#32))))
    (addi (hR n) (broadcastInDim S128 ![] bcast_S_S128 (hN n))) (hR n)
/-- The angles. -/
def hAng : FVec Ideal S2048x128 .f32 :=
  mulf (broadcastInDim S2048x128 ![0, 1] bcast_S2048x1_S2048x128_0_1 (broadcastInDim S2048x1 ![0] bcast_S2048_S2048x1_0 (sitofp (F := Ideal) .f32 (iotaInDim S2048 32 0))))
    (broadcastInDim S2048x128 ![0, 1] bcast_S1x128_S2048x128_0_1 (broadcastInDim S1x128 ![1] bcast_S128_S1x128_1
      (Host.powf (broadcastInDim S128 ![] bcast_S_S128 (constant S_ .f32 0x461C4000#32))
        (Host.divf (Host.negf (sitofp (F := Ideal) .f32 (hRem 32#32))) (broadcastInDim S128 ![] bcast_S_S128 (constant S_ .f32 0x42000000#32))))))
abbrev hCos : FVec Ideal S2048x128 .f32 := Host.cos hAng
abbrev hSin : FVec Ideal S2048x128 .f32 :=
  select (broadcastInDim S2048x128 ![1] bcast_S128_S2048x128_1 (cmpi .slt (hRem 64#32) (broadcastInDim S128 ![] bcast_S_S128 (constantI S_ 32 32#32))))
    (Host.negf (Host.sin hAng)) (Host.sin hAng)

/-! ### Their entries -/

variable (x : FVec Ideal S8x2048x1024 .f32) (w : FVec Ideal S1x1024x8200 .f32) (b : FVec Ideal S1x8 .f32)

theorem hX_at (r : Fin 16384) (d : Fin 1024) :
    shapeCast S16384x1024 x shapeCasts_S8x2048x1024_S16384x1024 (ix2 r d) = x (ix3 ⟨r.val / 2048, by omega⟩ ⟨r.val % 2048, by omega⟩ d) := by
  pointwise
theorem hQT_at (e k : Fin 1024) : hQT w (ix2 e k) = w (ix3 0 k ⟨e.val, by omega⟩) := by
  pointwise
theorem hVT_at (e k : Fin 1024) : hVT w (ix2 e k) = w (ix3 0 k ⟨2048 + e.val, by omega⟩) := by
  pointwise
theorem hM_at (k : Fin 1024) (e : Fin 2048) : hM w (ix2 k e) = if h : e.val < 1024 then w (ix3 0 k ⟨1024 + e.val, by omega⟩) else w (ix3 0 k ⟨3072 + (e.val - 1024), by omega⟩) := by
  pointwise
theorem hGP_at (k : Fin 1024) (e : Fin 128) : hGP w (ix2 k e) = if h : e.val < 8 then w (ix3 0 k ⟨4096 + e.val, by omega⟩) else (FloatOps.sitofp (F := Ideal) .f32 (0#32 : BitVec 32) : EReal) := by
  pointwise
theorem hGT_at (e : Fin 8) (k : Fin 1024) : hGT w (ix2 e k) = w (ix3 0 k ⟨4096 + e.val, by omega⟩) := by
  pointwise
theorem hD_at (k : Fin 1024) (e : Fin 2048) : hD w (ix2 k e) = w (ix3 0 k ⟨4104 + e.val, by omega⟩) := by
  pointwise
theorem hS_at (k : Fin 1024) (e : Fin 2048) : hS w (ix2 k e) = w (ix3 0 k ⟨6152 + e.val, by omega⟩) := by
  pointwise
theorem hBC_at (e : Fin 128) : hBC b (ix2 0 e) = if h : e.val < 8 then b (ix2 0 ⟨e.val, h⟩) else (FloatOps.sitofp (F := Ideal) .f32 (0#32 : BitVec 32) : EReal) := by
  pointwise
theorem hBR_at (e : Fin 8) (l : Fin 128) : hBR b (ix2 e l) = b (ix2 0 e) := by
  pointwise
theorem rem32 : ∀ l : Fin 128, hRem 32#32 (ix1 l) = BitVec.ofNat 32 (l.val % 32) := by
  unfold hRem
  pointwise
  decide +kernel
theorem rem64 : ∀ l : Fin 128, cmpi .slt (hRem 64#32) (broadcastInDim S128 ![] bcast_S_S128 (constantI S_ 32 32#32)) (ix1 l) = 1#1 ↔ l.val % 64 < 32 := by
  unfold hRem
  pointwise
  decide +kernel
theorem hAng_at (p : Fin 2048) (l : Fin 128) : hAng (ix2 p l) = ang p.val (l.val % 32) := by
  unfold hAng ang
  pointwise
  rw [rem32]
theorem hCos_at (p : Fin 2048) (l : Fin 128) : hCos (ix2 p l) = Ideal.cos (ang p.val (l.val % 32)) := by
  rw [← hAng_at]
  rfl
theorem hSin_at (p : Fin 2048) (l : Fin 128) :
    hSin (ix2 p l) = if l.val % 64 < 32 then -Ideal.sin (ang p.val (l.val % 32)) else Ideal.sin (ang p.val (l.val % 32)) := by
  have q : hSin (ix2 p l) = Scalar.select (cmpi .slt (hRem 64#32) (broadcastInDim S128 ![] bcast_S_S128 (constantI S_ 32 32#32)) (ix1 l))
      (-Ideal.sin (hAng (ix2 p l))) (Ideal.sin (hAng (ix2 p l))) := by
    pointwise
  rw [q, hAng_at]
  unfold Scalar.select
  by_cases h : l.val % 64 < 32
  · exact (if_pos ((rem64 l).mpr h)).trans (if_pos h).symm
  · exact (if_neg fun e => h ((rem64 l).mp e)).trans (if_neg h).symm

/-! ### The arrays hold them -/

variable (m : (ℓ : Loc nD τ sig) → Buf (Elt Ideal) ℓ) (c : Dev nD)

abbrev aX : FVec Ideal S8x2048x1024 .f32 := m ((c : Thread nD τ).loc main_arg0)
abbrev aW : FVec Ideal S1x1024x8200 .f32 := m ((c : Thread nD τ).loc main_arg1)
abbrev aB : FVec Ideal S1x8 .f32 := m ((c : Thread nD τ).loc main_arg2)

theorem v48_eq : (V m c main_v48 : FVec Ideal S16384x1024 .f32) = shapeCast S16384x1024 (aX m c) shapeCasts_S8x2048x1024_S16384x1024 := by rfl
theorem v4_eq : (V m c main_v4 : FVec Ideal S1024x1024 .bf16) = hQT (aW m c) := by rfl
theorem v7_eq : (V m c main_v7 : FVec Ideal S1024x1024 .bf16) = hVT (aW m c) := by rfl
theorem v11_eq : (V m c main_v11 : FVec Ideal S1024x2048 .bf16) = hM (aW m c) := by rfl
theorem v14_eq : (V m c main_v14 : FVec Ideal S1024x128 .bf16) = hGP (aW m c) := by rfl
theorem v16_eq : (V m c main_v16 : FVec Ideal S8x1024 .bf16) = hGT (aW m c) := by rfl
theorem v18_eq : (V m c main_v18 : FVec Ideal S1024x2048 .bf16) = hD (aW m c) := by rfl
theorem v20_eq : (V m c main_v20 : FVec Ideal S1024x2048 .bf16) = hS (aW m c) := by rfl
theorem v22_eq : (V m c main_v22 : FVec Ideal S1x128 .f32) = hBC (aB m c) := by rfl
theorem v24_eq : (V m c main_v24 : FVec Ideal S8x128 .f32) = hBR (aB m c) := by rfl
theorem v47_eq : (V m c main_v47 : FVec Ideal S2048x128 .f32) = hCos := by rfl
set_option maxHeartbeats 4000000 in
theorem v46_eq : (V m c main_v46 : FVec Ideal S2048x128 .f32) = hSin := by rfl

end Cert.InProj
-- ==== Proof.InProj.Final.lean ====
/-
  The input projection's result arrays after the run.
-/
module

public import proofs.«01_k».proof.Proof.InProj.Block
public import proofs.«01_k».proof.Proof.InProj.Host

@[expose] public section

set_option maxRecDepth 16384

noncomputable section

namespace Cert.InProj

open Idealize Idealize.ShloMosaic Idealize.ShloMosaic.TcCoe Cert.InProjIdeal Cert.InProjIdeal.Gen

theorem e0 : ∀ t : Fin cfg0.N, win0_0.index t = ![t.val, 0] := (by decide +kernel : ∀ t : Fin grid0.N, win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e4 : ∀ t : Fin cfg0.N, win0_4.index t = ![0, 0] := (by decide +kernel : ∀ t : Fin grid0.N, win0_4.index t = ![0, 0])
theorem e5 : ∀ t : Fin cfg0.N, win0_5.index t = ![0, 0] := (by decide +kernel : ∀ t : Fin grid0.N, win0_5.index t = ![0, 0])
theorem e6 : ∀ t : Fin cfg0.N, win0_6.index t = ![0, 0] := (by decide +kernel : ∀ t : Fin grid0.N, win0_6.index t = ![0, 0])
theorem e7 : ∀ t : Fin cfg0.N, win0_7.index t = ![0, 0] := (by decide +kernel : ∀ t : Fin grid0.N, win0_7.index t = ![0, 0])
theorem e8 : ∀ t : Fin cfg0.N, win0_8.index t = ![0, 0] := (by decide +kernel : ∀ t : Fin grid0.N, win0_8.index t = ![0, 0])
theorem e9 : ∀ t : Fin cfg0.N, win0_9.index t = ![0, 0] := (by decide +kernel : ∀ t : Fin grid0.N, win0_9.index t = ![0, 0])
theorem e10 : ∀ t : Fin cfg0.N, win0_10.index t = ![t.val % 8, 0] := (by decide +kernel : ∀ t : Fin grid0.N, win0_10.index t = ![t.val % 8, 0])
theorem e11 : ∀ t : Fin cfg0.N, win0_11.index t = ![t.val % 8, 0] := (by decide +kernel : ∀ t : Fin grid0.N, win0_11.index t = ![t.val % 8, 0])
theorem e12 : ∀ t : Fin cfg0.N, win0_12.index t = ![t.val, 0, 0] := (by decide +kernel : ∀ t : Fin grid0.N, win0_12.index t = ![t.val, 0, 0])
theorem e13 : ∀ t : Fin cfg0.N, win0_13.index t = ![t.val, 0] := (by decide +kernel : ∀ t : Fin grid0.N, win0_13.index t = ![t.val, 0])
theorem e14 : ∀ t : Fin cfg0.N, win0_14.index t = ![t.val, 0, 0] := (by decide +kernel : ∀ t : Fin grid0.N, win0_14.index t = ![t.val, 0, 0])
theorem e15 : ∀ t : Fin cfg0.N, win0_15.index t = ![t.val, 0] := (by decide +kernel : ∀ t : Fin grid0.N, win0_15.index t = ![t.val, 0])
theorem e16 : ∀ t : Fin cfg0.N, win0_16.index t = ![0, t.val] := (by decide +kernel : ∀ t : Fin grid0.N, win0_16.index t = ![0, t.val])
theorem e17 : ∀ t : Fin cfg0.N, win0_17.index t = ![t.val, 0] := (by decide +kernel : ∀ t : Fin grid0.N, win0_17.index t = ![t.val, 0])
theorem e18 : ∀ t : Fin cfg0.N, win0_18.index t = ![t.val, 0] := (by decide +kernel : ∀ t : Fin grid0.N, win0_18.index t = ![t.val, 0])
theorem e19 : ∀ t : Fin cfg0.N, win0_19.index t = ![t.val, 0] := (by decide +kernel : ∀ t : Fin grid0.N, win0_19.index t = ![t.val, 0])
theorem e20 : ∀ t : Fin cfg0.N, win0_20.index t = ![t.val, 0] := (by decide +kernel : ∀ t : Fin grid0.N, win0_20.index t = ![t.val, 0])
theorem e21 : ∀ t : Fin cfg0.N, win0_21.index t = ![t.val, 0, 0] := (by decide +kernel : ∀ t : Fin grid0.N, win0_21.index t = ![t.val, 0, 0])
theorem e22 : ∀ t : Fin cfg0.N, win0_22.index t = ![t.val, 0] := (by decide +kernel : ∀ t : Fin grid0.N, win0_22.index t = ![t.val, 0])
theorem e23 : ∀ t : Fin cfg0.N, win0_23.index t = ![t.val, 0] := (by decide +kernel : ∀ t : Fin grid0.N, win0_23.index t = ![t.val, 0])

variable (m : (ℓ : Loc nD τ sig) → Buf (Elt Ideal) ℓ) (c : Dev nD) (t : Fin cfg0.N)

/-- The product of the run's inputs and weights. -/
abbrev zz (n j : ℕ) : EReal := zx (aX m c) (aW m c) n j

theorem ib0 (r : Fin 256) (k : Fin 1024) : (iblk m c 0 t : FVec Ideal S256x1024 .f32) (ix2 r k) = aX m c (ix3 ⟨(256 * t.val + r.val) / 2048, by have : t.val < 64 := t.isLt; omega⟩ ⟨(256 * t.val + r.val) % 2048, by omega⟩ k) := by
  refine Eq.trans ?_ ((congrFun (v48_eq m c) (ix2 ⟨256 * t.val + r.val, by have : t.val < 64 := t.isLt; omega⟩ k)).trans (hX_at _ _ _))
  blk_simp [iblk, e0]
  refine congrArg _ ?_
  blk_ext [e0, ix2_0, ix2_1]
theorem ib1 (e k : Fin 1024) : (iblk m c 1 t : FVec Ideal S1024x1024 .bf16) (ix2 e k) = aW m c (ix3 0 k ⟨e.val, by omega⟩) := by
  refine Eq.trans ?_ ((congrFun (v4_eq m c) (ix2 e k)).trans (hQT_at _ _ _))
  blk_simp [iblk, e1]
  refine congrArg _ ?_
  blk_ext [e1, ix2_0, ix2_1]
theorem ib2 (e k : Fin 1024) : (iblk m c 2 t : FVec Ideal S1024x1024 .bf16) (ix2 e k) = aW m c (ix3 0 k ⟨2048 + e.val, by omega⟩) := by
  refine Eq.trans ?_ ((congrFun (v7_eq m c) (ix2 e k)).trans (hVT_at _ _ _))
  blk_simp [iblk, e2]
  refine congrArg _ ?_
  blk_ext [e2, ix2_0, ix2_1]
theorem ib3 (k : Fin 1024) (e : Fin 2048) : (iblk m c 3 t : FVec Ideal S1024x2048 .bf16) (ix2 k e) = if h : e.val < 1024 then aW m c (ix3 0 k ⟨1024 + e.val, by omega⟩) else aW m c (ix3 0 k ⟨3072 + (e.val - 1024), by omega⟩) := by
  refine Eq.trans ?_ ((congrFun (v11_eq m c) (ix2 k e)).trans (hM_at _ _ _))
  blk_simp [iblk, e3]
  refine congrArg _ ?_
  blk_ext [e3, ix2_0, ix2_1]
theorem ib4 (k : Fin 1024) (e : Fin 128) : (iblk m c 4 t : FVec Ideal S1024x128 .bf16) (ix2 k e) = if h : e.val < 8 then aW m c (ix3 0 k ⟨4096 + e.val, by omega⟩) else (FloatOps.sitofp (F := Ideal) .f32 (0#32 : BitVec 32) : EReal) := by
  refine Eq.trans ?_ ((congrFun (v14_eq m c) (ix2 k e)).trans (hGP_at _ _ _))
  blk_simp [iblk, e4]
  refine congrArg _ ?_
  blk_ext [e4, ix2_0, ix2_1]
theorem ib5 (e : Fin 8) (k : Fin 1024) : (iblk m c 5 t : FVec Ideal S8x1024 .bf16) (ix2 e k) = aW m c (ix3 0 k ⟨4096 + e.val, by omega⟩) := by
  refine Eq.trans ?_ ((congrFun (v16_eq m c) (ix2 e k)).trans (hGT_at _ _ _))
  blk_simp [iblk, e5]
  refine congrArg _ ?_
  blk_ext [e5, ix2_0, ix2_1]
theorem ib6 (k : Fin 1024) (e : Fin 2048) : (iblk m c 6 t : FVec Ideal S1024x2048 .bf16) (ix2 k e) = aW m c (ix3 0 k ⟨4104 + e.val, by omega⟩) := by
  refine Eq.trans ?_ ((congrFun (v18_eq m c) (ix2 k e)).trans (hD_at _ _ _))
  blk_simp [iblk, e6]
  refine congrArg _ ?_
  blk_ext [e6, ix2_0, ix2_1]
theorem ib7 (k : Fin 1024) (e : Fin 2048) : (iblk m c 7 t : FVec Ideal S1024x2048 .bf16) (ix2 k e) = aW m c (ix3 0 k ⟨6152 + e.val, by omega⟩) := by
  refine Eq.trans ?_ ((congrFun (v20_eq m c) (ix2 k e)).trans (hS_at _ _ _))
  blk_simp [iblk, e7]
  refine congrArg _ ?_
  blk_ext [e7, ix2_0, ix2_1]
theorem ib8 (e : Fin 128) : (iblk m c 8 t : FVec Ideal S1x128 .f32) (ix2 0 e) = if h : e.val < 8 then aB m c (ix2 0 ⟨e.val, h⟩) else (FloatOps.sitofp (F := Ideal) .f32 (0#32 : BitVec 32) : EReal) := by
  refine Eq.trans ?_ ((congrFun (v22_eq m c) (ix2 0 e)).trans (hBC_at _ _))
  blk_simp [iblk, e8]
  refine congrArg _ ?_
  blk_ext [e8, ix2_0, ix2_1]
theorem ib9 (e : Fin 8) (l : Fin 128) : (iblk m c 9 t : FVec Ideal S8x128 .f32) (ix2 e l) = aB m c (ix2 0 e) := by
  refine Eq.trans ?_ ((congrFun (v24_eq m c) (ix2 e l)).trans (hBR_at _ _ _))
  blk_simp [iblk, e9]
  refine congrArg _ ?_
  blk_ext [e9, ix2_0, ix2_1]
theorem ib10 (r : Fin 256) (l : Fin 128) : (iblk m c 10 t : FVec Ideal S256x128 .f32) (ix2 r l) = Ideal.cos (ang (256 * (t.val % 8) + r.val) (l.val % 32)) := by
  refine Eq.trans ?_ ((congrFun (v47_eq m c) (ix2 ⟨256 * (t.val % 8) + r.val, by omega⟩ l)).trans (hCos_at _ _))
  blk_simp [iblk, e10]
  refine congrArg _ ?_
  blk_ext [e10, ix2_0, ix2_1]
theorem ib11 (r : Fin 256) (l : Fin 128) : (iblk m c 11 t : FVec Ideal S256x128 .f32) (ix2 r l) = if l.val % 64 < 32 then -Ideal.sin (ang (256 * (t.val % 8) + r.val) (l.val % 32)) else Ideal.sin (ang (256 * (t.val % 8) + r.val) (l.val % 32)) := by
  refine Eq.trans ?_ ((congrFun (v46_eq m c) (ix2 ⟨256 * (t.val % 8) + r.val, by omega⟩ l)).trans (hSin_at _ _))
  blk_simp [iblk, e11]
  refine congrArg _ ?_
  blk_ext [e11, ix2_0, ix2_1]

/-- The row of a block is its token. -/
theorem isRow (r : Fin 256) : IsRow (aX m c) (256 * t.val + r.val) r (iblk m c 0 t) :=
  ⟨by have : t.val < 64 := t.isLt; omega, fun k => ib0 m c t r k⟩

theorem cosRow (r : Fin 256) (l : Fin 128) : (iblk m c 10 t : FVec Ideal S256x128 .f32) (ix2 r l) = Ideal.cos (ang ((256 * t.val + r.val) % 2048) (l.val % 32)) :=
  (ib10 m c t r l).trans (congrArg (fun v => Ideal.cos (ang v (l.val % 32))) (by omega))

theorem sinRow (r : Fin 256) (l : Fin 128) : (iblk m c 11 t : FVec Ideal S256x128 .f32) (ix2 r l)
    = if l.val % 64 < 32 then -Ideal.sin (ang ((256 * t.val + r.val) % 2048) (l.val % 32)) else Ideal.sin (ang ((256 * t.val + r.val) % 2048) (l.val % 32)) :=
  (ib11 m c t r l).trans (congrArg (fun v => if l.val % 64 < 32 then -Ideal.sin (ang v (l.val % 32)) else Ideal.sin (ang v (l.val % 32))) (by omega))

theorem y6 (r : Fin 256) (j : ℕ) (hj : j < 2048) : yd (iblk m c 0 t) (iblk m c 6 t) r j = zz m c (256 * t.val + r.val) (4104 + j) :=
  yd_eq (aX m c) (aW m c) _ r _ (isRow m c t r) _ 4104 (by omega) (fun k e => ib6 m c t k e) j hj

theorem rotRow (r : Fin 256) (o p j : ℕ) (hp : p + 512 ≤ 2048) (ho : o = 4104 + p) (hj : j < 512) :
    bRot (iblk m c 10 t) (iblk m c 11 t) (fun i => yd (iblk m c 0 t) (iblk m c 6 t) r (p + i)) r j = rot (zz m c) o (256 * t.val + r.val) j :=
  bRot_eq _ r _ _ (zz m c) _ o j hj (cosRow m c t r) (sinRow m c t r) fun i hi =>
    (y6 m c t r (p + i) (by omega)).trans (congrArg (zz m c _) (by omega))

/-! ### The arrays -/

theorem arr12 : (dats m 0 c).arrAt 12 cfg0.N = tQ (zz m c) := by
  refine (dats m 0 c).arrAt_eq_of_covers 12 (tQ (zz m c)) (by decide +kernel) fun t _ y => ?_
  have ht : t.val < 64 := t.isLt
  have hy : ((win0_12.blk t).view.emb y : S64x1024x256.Idx) = ix3 ⟨t.val, ht⟩ (y 1) (y 2) := by
    blk_ext [e12, ix3_0, ix3_1, ix3_2]
  blk_simp
  rw [after0_12]
  refine (out12_eq _ _ _ _ _ _ _ _ _ _ _ _ y).trans (Eq.trans ?_ (congrArg (tQ (zz m c)) hy.symm))
  exact sum_eq' (aX m c) (aW m c) (256 * t.val + (y 2).val) (y 2) _ (isRow m c t (y 2)) _ _ (Nat.lt_of_lt_of_le (y 1).isLt (show 1024 ≤ 8200 by omega)) fun k => ib1 m c t (y 1) k

theorem arr13 : (dats m 0 c).arrAt 13 cfg0.N = tK (zz m c) := by
  refine (dats m 0 c).arrAt_eq_of_covers 13 (tK (zz m c)) (by decide +kernel) fun t _ y => ?_
  have ht : t.val < 64 := t.isLt
  have hy : ((win0_13.blk t).view.emb y : S16384x1024.Idx) = ix2 ⟨256 * t.val + (y 0).val, by idx_bounds y; omega⟩ (y 1) := by
    blk_ext [e13, ix2_0, ix2_1]
  blk_simp
  rw [after0_13]
  refine (out13_eq _ _ _ _ _ _ _ _ _ _ _ _ y).trans (Eq.trans ?_ (congrArg (tK (zz m c)) hy.symm))
  exact congrArg (· * Ideal.ofBits .f32 0x3D800000#32) (yd3_lo (aX m c) (aW m c) (256 * t.val + (y 0).val) (y 0) _ (isRow m c t (y 0)) _ (fun k e => ib3 m c t k e) (y 1).val (y 1).isLt)

theorem arr14 : (dats m 0 c).arrAt 14 cfg0.N = tV (zz m c) := by
  refine (dats m 0 c).arrAt_eq_of_covers 14 (tV (zz m c)) (by decide +kernel) fun t _ y => ?_
  have ht : t.val < 64 := t.isLt
  have hy : ((win0_14.blk t).view.emb y : S64x1024x256.Idx) = ix3 ⟨t.val, ht⟩ (y 1) (y 2) := by
    blk_ext [e14, ix3_0, ix3_1, ix3_2]
  blk_simp
  rw [after0_14]
  refine (out14_eq _ _ _ _ _ _ _ _ _ _ _ _ y).trans (Eq.trans ?_ (congrArg (tV (zz m c)) hy.symm))
  exact sum_eq' (aX m c) (aW m c) (256 * t.val + (y 2).val) (y 2) _ (isRow m c t (y 2)) _ _ (Nat.lt_of_lt_of_le (Nat.add_lt_add_left (y 1).isLt 2048) (show 2048 + 1024 ≤ 8200 by omega)) fun k => ib2 m c t (y 1) k

theorem arr15 : (dats m 0 c).arrAt 15 cfg0.N = tCol (zz m c) (aB m c) := by
  refine (dats m 0 c).arrAt_eq_of_covers 15 (tCol (zz m c) (aB m c)) (by decide +kernel) fun t _ y => ?_
  have ht : t.val < 64 := t.isLt
  have hy : ((win0_15.blk t).view.emb y : S16384x128.Idx) = ix2 ⟨256 * t.val + (y 0).val, by idx_bounds y; omega⟩ (y 1) := by
    blk_ext [e15, ix2_0, ix2_1]
  blk_simp
  rw [after0_15]
  refine (out15_eq _ _ _ _ _ _ _ _ _ _ _ _ y).trans (Eq.trans ?_ (congrArg (tCol (zz m c) (aB m c)) hy.symm))
  exact col_eq (aX m c) (aW m c) (256 * t.val + (y 0).val) (y 0) _ (isRow m c t (y 0)) (aB m c) _ _ (fun k e => ib4 m c t k e) (fun e => ib8 m c t e) (y 1)

theorem arr16 : (dats m 0 c).arrAt 16 cfg0.N = tRow (zz m c) (aB m c) := by
  refine (dats m 0 c).arrAt_eq_of_covers 16 (tRow (zz m c) (aB m c)) (by decide +kernel) fun t _ y => ?_
  have ht : t.val < 64 := t.isLt
  have hy : ((win0_16.blk t).view.emb y : S8x16384.Idx) = (ix2 (y 0) ⟨256 * t.val + (y 1).val, by idx_bounds y; omega⟩ : S8x16384.Idx) := by
    blk_ext [e16, ix2_0, ix2_1]
  blk_simp
  rw [after0_16]
  refine (out16_eq _ _ _ _ _ _ _ _ _ _ _ _ y).trans (Eq.trans ?_ (congrArg (tRow (zz m c) (aB m c)) hy.symm))
  exact congrArg₂ (· + ·) (sum_eq' (aX m c) (aW m c) (256 * t.val + (y 1).val) (y 1) _ (isRow m c t (y 1)) _ _ (Nat.lt_of_lt_of_le (Nat.add_lt_add_left (y 0).isLt 4096) (show 4096 + 8 ≤ 8200 by omega)) fun k => ib5 m c t (y 0) k) (ib9 m c t (y 0) 0)

theorem arr17 : (dats m 0 c).arrAt 17 cfg0.N = tDq (zz m c) := by
  refine (dats m 0 c).arrAt_eq_of_covers 17 (tDq (zz m c)) (by decide +kernel) fun t _ y => ?_
  have ht : t.val < 64 := t.isLt
  have hy : ((win0_17.blk t).view.emb y : S16384x512.Idx) = ix2 ⟨256 * t.val + (y 0).val, by idx_bounds y; omega⟩ (y 1) := by
    blk_ext [e17, ix2_0, ix2_1]
  blk_simp
  rw [after0_17]
  refine (out17_eq _ _ _ _ _ _ _ _ _ _ _ _ y).trans (Eq.trans ?_ (congrArg (tDq (zz m c)) hy.symm))
  exact congrArg (· * Ideal.ofBits .f32 0x3E000000#32) (rotRow m c t (y 0) 4104 0 (y 1).val (by omega) (by omega) (y 1).isLt)

theorem arr19 : (dats m 0 c).arrAt 19 cfg0.N = tDkb (zz m c) := by
  refine (dats m 0 c).arrAt_eq_of_covers 19 (tDkb (zz m c)) (by decide +kernel) fun t _ y => ?_
  have ht : t.val < 64 := t.isLt
  have hy : ((win0_19.blk t).view.emb y : S16384x512.Idx) = ix2 ⟨256 * t.val + (y 0).val, by idx_bounds y; omega⟩ (y 1) := by
    blk_ext [e19, ix2_0, ix2_1]
  blk_simp
  rw [after0_19]
  refine (out19_eq _ _ _ _ _ _ _ _ _ _ _ _ y).trans (Eq.trans ?_ (congrArg (tDkb (zz m c)) hy.symm))
  exact rotRow m c t (y 0) 4616 512 (y 1).val (by omega) (by omega) (y 1).isLt

theorem arr18 : (dats m 0 c).arrAt 18 cfg0.N = tDkf (zz m c) := by
  refine (dats m 0 c).arrAt_eq_of_covers 18 (tDkf (zz m c)) (by decide +kernel) fun t _ y => ?_
  have ht : t.val < 64 := t.isLt
  have hy : ((win0_18.blk t).view.emb y : S65536x128.Idx) = ix2 ⟨1024 * t.val + (y 0).val, by idx_bounds y; omega⟩ (y 1) := by
    blk_ext [e18, ix2_0, ix2_1]
  blk_simp
  rw [after0_18]
  refine (out18_eq _ _ _ _ _ _ _ _ _ _ _ _ y).trans (Eq.trans ?_ (congrArg (tDkf (zz m c)) hy.symm))
  have h0 : (y 0).val < 1024 := (y 0).isLt
  have h1 : (y 1).val < 128 := (y 1).isLt
  have hd : (1024 * t.val + (y 0).val) / 4 = 256 * t.val + (y 0).val / 4 := by omega
  have hm : (1024 * t.val + (y 0).val) % 4 = (y 0).val % 4 := by omega
  refine (rotRow m c t (tok (y 0)) 4616 512 (128 * ((y 0).val % 4) + (y 1).val) (by omega) (by omega) (by omega)).trans ?_
  show _ = rot (zz m c) 4616 ((1024 * t.val + (y 0).val) / 4) (128 * ((1024 * t.val + (y 0).val) % 4) + (y 1).val)
  rw [hd, hm]
  rfl

theorem arr20 : (dats m 0 c).arrAt 20 cfg0.N = tDvf (zz m c) := by
  refine (dats m 0 c).arrAt_eq_of_covers 20 (tDvf (zz m c)) (by decide +kernel) fun t _ y => ?_
  have ht : t.val < 64 := t.isLt
  have hy : ((win0_20.blk t).view.emb y : S65536x128.Idx) = ix2 ⟨1024 * t.val + (y 0).val, by idx_bounds y; omega⟩ (y 1) := by
    blk_ext [e20, ix2_0, ix2_1]
  blk_simp
  rw [after0_20]
  refine (out20_eq _ _ _ _ _ _ _ _ _ _ _ _ y).trans (Eq.trans ?_ (congrArg (tDvf (zz m c)) hy.symm))
  have h0 : (y 0).val < 1024 := (y 0).isLt
  have h1 : (y 1).val < 128 := (y 1).isLt
  have hd : (1024 * t.val + (y 0).val) / 4 = 256 * t.val + (y 0).val / 4 := by omega
  have hm : (1024 * t.val + (y 0).val) % 4 = (y 0).val % 4 := by omega
  refine (y6 m c t (tok (y 0)) (1024 + (128 * ((y 0).val % 4) + (y 1).val)) (by omega)).trans ?_
  show _ = zz m c ((1024 * t.val + (y 0).val) / 4) (5128 + (128 * ((1024 * t.val + (y 0).val) % 4) + (y 1).val))
  rw [hd, hm]
  exact congrArg (zz m c _) (by omega)

theorem arr21 : (dats m 0 c).arrAt 21 cfg0.N = tDvt (zz m c) := by
  refine (dats m 0 c).arrAt_eq_of_covers 21 (tDvt (zz m c)) (by decide +kernel) fun t _ y => ?_
  have ht : t.val < 64 := t.isLt
  have hy : ((win0_21.blk t).view.emb y : S64x512x256.Idx) = ix3 ⟨t.val, ht⟩ (y 1) (y 2) := by
    blk_ext [e21, ix3_0, ix3_1, ix3_2]
  blk_simp
  rw [after0_21]
  refine (out21_eq _ _ _ _ _ _ _ _ _ _ _ _ y).trans (Eq.trans ?_ (congrArg (tDvt (zz m c)) hy.symm))
  have h1 : (y 1).val < 512 := (y 1).isLt
  exact (y6 m c t (y 2) (1024 + (y 1).val) (by omega)).trans (congrArg (zz m c _) (show 4104 + (1024 + (y 1).val) = 5128 + (y 1).val by omega))

theorem arr22 : (dats m 0 c).arrAt 22 cfg0.N = tCq (zz m c) := by
  refine (dats m 0 c).arrAt_eq_of_covers 22 (tCq (zz m c)) (by decide +kernel) fun t _ y => ?_
  have ht : t.val < 64 := t.isLt
  have hy : ((win0_22.blk t).view.emb y : S16384x512.Idx) = ix2 ⟨256 * t.val + (y 0).val, by idx_bounds y; omega⟩ (y 1) := by
    blk_ext [e22, ix2_0, ix2_1]
  blk_simp
  rw [after0_22]
  refine (out22_eq _ _ _ _ _ _ _ _ _ _ _ _ y).trans (Eq.trans ?_ (congrArg (tCq (zz m c)) hy.symm))
  have h1 : (y 1).val < 512 := (y 1).isLt
  exact (y6 m c t (y 0) (1536 + (y 1).val) (by omega)).trans (congrArg (zz m c _) (show 4104 + (1536 + (y 1).val) = 5640 + (y 1).val by omega))

theorem arr23 : (dats m 0 c).arrAt 23 cfg0.N = tGate (zz m c) := by
  refine (dats m 0 c).arrAt_eq_of_covers 23 (tGate (zz m c)) (by decide +kernel) fun t _ y => ?_
  have ht : t.val < 64 := t.isLt
  have hy : ((win0_23.blk t).view.emb y : S16384x2048.Idx) = ix2 ⟨256 * t.val + (y 0).val, by idx_bounds y; omega⟩ (y 1) := by
    blk_ext [e23, ix2_0, ix2_1]
  blk_simp
  rw [after0_23]
  refine (out23_eq _ _ _ _ _ _ _ _ _ _ _ _ y).trans (Eq.trans ?_ (congrArg (tGate (zz m c)) hy.symm))
  exact (congrArg (bGate _ _ _) (eq_ix2 y)).trans (gate_eq (aX m c) (aW m c) (256 * t.val + (y 0).val) (y 0) _ (isRow m c t (y 0)) _ _ (fun k e => ib3 m c t k e) (fun k e => ib7 m c t k e) (y 1))

end Cert.InProj
-- ==== Proof.InProj.KernRun.lean ====
/-
  The kernel's run of the input projection: its twelve arrays.
-/
module

public import proofs.«01_k».proof.Proof.InProj.Final

@[expose] public section

set_option maxRecDepth 16384

noncomputable section

namespace Cert.InProj

open Idealize Idealize.ShloMosaic Idealize.ShloMosaic.TcCoe Idealize.SL.Sem Cert.InProjIdeal Cert.InProjIdeal.Gen

variable (m : (ℓ : Loc nD τ sig) → Buf (Elt Ideal) ℓ) (ρ : Dev nD → PrngReg)

theorem post12 (r : PUnit × MemSt nD τ sig (Elt Ideal)) (h : Pipeline.FramePost cfgs (dats m) 0 (V m) r) (c : Dev nD) :
    r.2.mem ((c.tc : Thread nD τ).loc main_v49_0) = tQ (zz m c) := ((h c).1 12).trans (arr12 m c)
theorem post13 (r : PUnit × MemSt nD τ sig (Elt Ideal)) (h : Pipeline.FramePost cfgs (dats m) 0 (V m) r) (c : Dev nD) :
    r.2.mem ((c.tc : Thread nD τ).loc main_v49_1) = tK (zz m c) := ((h c).1 13).trans (arr13 m c)
theorem post14 (r : PUnit × MemSt nD τ sig (Elt Ideal)) (h : Pipeline.FramePost cfgs (dats m) 0 (V m) r) (c : Dev nD) :
    r.2.mem ((c.tc : Thread nD τ).loc main_v49_2) = tV (zz m c) := ((h c).1 14).trans (arr14 m c)
theorem post15 (r : PUnit × MemSt nD τ sig (Elt Ideal)) (h : Pipeline.FramePost cfgs (dats m) 0 (V m) r) (c : Dev nD) :
    r.2.mem ((c.tc : Thread nD τ).loc main_v49_3) = tCol (zz m c) (aB m c) := ((h c).1 15).trans (arr15 m c)
theorem post16 (r : PUnit × MemSt nD τ sig (Elt Ideal)) (h : Pipeline.FramePost cfgs (dats m) 0 (V m) r) (c : Dev nD) :
    r.2.mem ((c.tc : Thread nD τ).loc main_v49_4) = tRow (zz m c) (aB m c) := ((h c).1 16).trans (arr16 m c)
theorem post17 (r : PUnit × MemSt nD τ sig (Elt Ideal)) (h : Pipeline.FramePost cfgs (dats m) 0 (V m) r) (c : Dev nD) :
    r.2.mem ((c.tc : Thread nD τ).loc main_v49_5) = tDq (zz m c) := ((h c).1 17).trans (arr17 m c)
theorem post18 (r : PUnit × MemSt nD τ sig (Elt Ideal)) (h : Pipeline.FramePost cfgs (dats m) 0 (V m) r) (c : Dev nD) :
    r.2.mem ((c.tc : Thread nD τ).loc main_v49_6) = tDkf (zz m c) := ((h c).1 18).trans (arr18 m c)
theorem post19 (r : PUnit × MemSt nD τ sig (Elt Ideal)) (h : Pipeline.FramePost cfgs (dats m) 0 (V m) r) (c : Dev nD) :
    r.2.mem ((c.tc : Thread nD τ).loc main_v49_7) = tDkb (zz m c) := ((h c).1 19).trans (arr19 m c)
theorem post20 (r : PUnit × MemSt nD τ sig (Elt Ideal)) (h : Pipeline.FramePost cfgs (dats m) 0 (V m) r) (c : Dev nD) :
    r.2.mem ((c.tc : Thread nD τ).loc main_v49_8) = tDvf (zz m c) := ((h c).1 20).trans (arr20 m c)
theorem post21 (r : PUnit × MemSt nD τ sig (Elt Ideal)) (h : Pipeline.FramePost cfgs (dats m) 0 (V m) r) (c : Dev nD) :
    r.2.mem ((c.tc : Thread nD τ).loc main_v49_9) = tDvt (zz m c) := ((h c).1 21).trans (arr21 m c)
theorem post22 (r : PUnit × MemSt nD τ sig (Elt Ideal)) (h : Pipeline.FramePost cfgs (dats m) 0 (V m) r) (c : Dev nD) :
    r.2.mem ((c.tc : Thread nD τ).loc main_v49_10) = tCq (zz m c) := ((h c).1 22).trans (arr22 m c)
theorem post23 (r : PUnit × MemSt nD τ sig (Elt Ideal)) (h : Pipeline.FramePost cfgs (dats m) 0 (V m) r) (c : Dev nD) :
    r.2.mem ((c.tc : Thread nD τ).loc main_v49_11) = tGate (zz m c) := ((h c).1 23).trans (arr23 m c)
theorem kept0 (r : PUnit × MemSt nD τ sig (Elt Ideal)) (h : Pipeline.FramePost cfgs (dats m) 0 (V m) r) (c : Dev nD) :
    r.2.mem ((c.tc : Thread nD τ).loc main_arg0) = m ((c.tc : Thread nD τ).loc main_arg0) :=
  ((h c).2 main_arg0 (Pipeline.mem_restRefs_of main_arg0 (by decide) (by decide))).trans (V_main_arg0 m c)
theorem kept1 (r : PUnit × MemSt nD τ sig (Elt Ideal)) (h : Pipeline.FramePost cfgs (dats m) 0 (V m) r) (c : Dev nD) :
    r.2.mem ((c.tc : Thread nD τ).loc main_arg1) = m ((c.tc : Thread nD τ).loc main_arg1) :=
  ((h c).2 main_arg1 (Pipeline.mem_restRefs_of main_arg1 (by decide) (by decide))).trans (V_main_arg1 m c)
theorem kept2 (r : PUnit × MemSt nD τ sig (Elt Ideal)) (h : Pipeline.FramePost cfgs (dats m) 0 (V m) r) (c : Dev nD) :
    r.2.mem ((c.tc : Thread nD τ).loc main_arg2) = m ((c.tc : Thread nD τ).loc main_arg2) :=
  ((h c).2 main_arg2 (Pipeline.mem_restRefs_of main_arg2 (by decide) (by decide))).trans (V_main_arg2 m c)

set_option maxHeartbeats 4000000 in
theorem run_blocks : θ_run defs (onTc (τ := τ) (main (F := Ideal))) ⟨m, fun _ => 0, ρ⟩ fun r => ∀ c : Dev nD,
    r.2.mem ((c.tc : Thread nD τ).loc main_v49_0) = tQ (zz m c)
    ∧ r.2.mem ((c.tc : Thread nD τ).loc main_v49_1) = tK (zz m c)
    ∧ r.2.mem ((c.tc : Thread nD τ).loc main_v49_2) = tV (zz m c)
    ∧ r.2.mem ((c.tc : Thread nD τ).loc main_v49_3) = tCol (zz m c) (aB m c)
    ∧ r.2.mem ((c.tc : Thread nD τ).loc main_v49_4) = tRow (zz m c) (aB m c)
    ∧ r.2.mem ((c.tc : Thread nD τ).loc main_v49_5) = tDq (zz m c)
    ∧ r.2.mem ((c.tc : Thread nD τ).loc main_v49_6) = tDkf (zz m c)
    ∧ r.2.mem ((c.tc : Thread nD τ).loc main_v49_7) = tDkb (zz m c)
    ∧ r.2.mem ((c.tc : Thread nD τ).loc main_v49_8) = tDvf (zz m c)
    ∧ r.2.mem ((c.tc : Thread nD τ).loc main_v49_9) = tDvt (zz m c)
    ∧ r.2.mem ((c.tc : Thread nD τ).loc main_v49_10) = tCq (zz m c)
    ∧ r.2.mem ((c.tc : Thread nD τ).loc main_v49_11) = tGate (zz m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun r h c => ⟨post12 m r h c, post13 m r h c, post14 m r h c, post15 m r h c, post16 m r h c, post17 m r h c, post18 m r h c, post19 m r h c, post20 m r h c, post21 m r h c, post22 m r h c, post23 m r h c,
      kept0 m r h c, kept1 m r h c, kept2 m r h c⟩) (run_main m ρ)

end Cert.InProj
-- ==== Proof.InProj.RefRun.lean ====
/-
  The reference's run of the input projection: its twelve results by name.
-/
module

public import proofs.«01_k».proof.Proof.InProj.Ref
public import proofs.«01_k».proof.Proof.Gen.InProjRefIdeal.Run

@[expose] public section

set_option maxRecDepth 16384

noncomputable section

namespace Cert.InProj

open Idealize Idealize.ShloMosaic Idealize.ShloMosaic.TcCoe Idealize.SL.Sem Cert.InProjRefIdeal Cert.InProjRefIdeal.Value

variable (m : (ℓ : Loc nD τ sig) → Buf (Elt Ideal) ℓ) (ρ : Dev nD → PrngReg)

abbrev qX (c : Dev nD) : FVec Ideal S8x2048x1024 .f32 := m ((c.tc : Thread nD τ).loc main_arg0)
abbrev qW (c : Dev nD) : FVec Ideal S1x1024x8200 .f32 := m ((c.tc : Thread nD τ).loc main_arg1)
abbrev qB (c : Dev nD) : FVec Ideal S1x8 .f32 := m ((c.tc : Thread nD τ).loc main_arg2)

theorem run_terms : θ_run defs (onTc (τ := τ) (main (F := Ideal))) ⟨m, fun _ => 0, ρ⟩ fun r => ∀ c : Dev nD,
    r.2.mem ((c.tc : Thread nD τ).loc main_v73) = rQ (rZ (qX m c) (qW m c))
    ∧ r.2.mem ((c.tc : Thread nD τ).loc main_v77) = rK (rZ (qX m c) (qW m c))
    ∧ r.2.mem ((c.tc : Thread nD τ).loc main_v80) = rV (rZ (qX m c) (qW m c))
    ∧ r.2.mem ((c.tc : Thread nD τ).loc main_v81) = rCol (rPre (rZ (qX m c) (qW m c)) (qB m c))
    ∧ r.2.mem ((c.tc : Thread nD τ).loc main_v82) = rRow (rPre (rZ (qX m c) (qW m c)) (qB m c))
    ∧ r.2.mem ((c.tc : Thread nD τ).loc main_v120) = rDq (rZ (qX m c) (qW m c))
    ∧ r.2.mem ((c.tc : Thread nD τ).loc main_v121) = rDkf (rZ (qX m c) (qW m c))
    ∧ r.2.mem ((c.tc : Thread nD τ).loc main_v123) = rDkb (rZ (qX m c) (qW m c))
    ∧ r.2.mem ((c.tc : Thread nD τ).loc main_v124) = rDvf (rZ (qX m c) (qW m c))
    ∧ r.2.mem ((c.tc : Thread nD τ).loc main_v127) = rDvt (rZ (qX m c) (qW m c))
    ∧ r.2.mem ((c.tc : Thread nD τ).loc main_v129) = rCq (rZ (qX m c) (qW m c))
    ∧ r.2.mem ((c.tc : Thread nD τ).loc main_v131) = rGate (rZ (qX m c) (qW m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun r h c => ⟨((h c).1).trans (by rfl),
      ((h c).2.1).trans (by rfl),
      ((h c).2.2.1).trans (by rfl),
      ((h c).2.2.2.1).trans (by rfl),
      ((h c).2.2.2.2.1).trans (by rfl),
      ((h c).2.2.2.2.2.1).trans (by unfold res_main_v120; rfl),
      ((h c).2.2.2.2.2.2.1).trans (by unfold res_main_v121; rfl),
      ((h c).2.2.2.2.2.2.2.1).trans (by unfold res_main_v123; rfl),
      ((h c).2.2.2.2.2.2.2.2.1).trans (by rfl),
      ((h c).2.2.2.2.2.2.2.2.2.1).trans (by rfl),
      ((h c).2.2.2.2.2.2.2.2.2.2.1).trans (by rfl),
      ((h c).2.2.2.2.2.2.2.2.2.2.2.1).trans (by rfl),
      (h c).2.2.2.2.2.2.2.2.2.2.2.2.1, (h c).2.2.2.2.2.2.2.2.2.2.2.2.2.1, (h c).2.2.2.2.2.2.2.2.2.2.2.2.2.2⟩) (Cert.InProjRefIdeal.Value.run (F := Ideal) m ρ)

end Cert.InProj
-- ==== Proof.InProj.Claims.lean ====
/-
  The claims about the input projection: it leaves its arguments as they are, and over the exact numbers its twelve
  results are the reference's.
-/
module

public import proofs.«01_k».proof.Defs
public import proofs.«01_k».proof.Proof.InProj.Run
public import proofs.«01_k».proof.Proof.InProj.KernRun
public import proofs.«01_k».proof.Proof.InProj.RefRun
public import proofs.«01_k».proof.Proof.Gen.InProjRefIdeal.Run
public import Idealize.ShloMosaic.Lib.Quiescent

@[expose] public section

set_option maxRecDepth 16384

noncomputable section

namespace Cert.InProj

open Idealize Idealize.ShloMosaic Idealize.ShloMosaic.TcCoe Idealize.SL.Sem

theorem quiet : Cert.quiescent_InProj := fun m g _ => Cert.InProj.Gen.frame m g

theorem quiet_ideal : Cert.quiescent_InProjIdeal := fun m g _ => Cert.InProjIdeal.Gen.frame m g

theorem quiet_ref : Cert.quiescent_InProjRefIdeal := fun m g _ =>
  (θ_run Cert.InProjRefIdeal.defs _ _).mono (fun r h => ⟨fun c => (h c).2.2.2.2.2.2.2.2.2.2.2.2, sem_eq_zero_of_no_sems (by decide) r.2⟩)
    (Cert.InProjRefIdeal.Value.run (F := Ideal) m g)

theorem value_claim : Cert.algebraic_InProjIdeal_InProjRefIdeal := by
  intro m g m' g' _ hag
  refine ⟨fun c => tQ (zz m c), fun c => tK (zz m c), fun c => tV (zz m c), fun c => tCol (zz m c) (aB m c), fun c => tRow (zz m c) (aB m c), fun c => tDq (zz m c), fun c => tDkf (zz m c), fun c => tDkb (zz m c), fun c => tDvf (zz m c), fun c => tDvt (zz m c), fun c => tCq (zz m c), fun c => tGate (zz m c), run_blocks m g, ?_⟩
  refine (θ_run _ _ _).mono (fun r h c => ?_) (run_terms m' g')
  obtain ⟨q0, q1, q2⟩ := hag c
  have hX : qX m' c = aX m c := q0
  have hW : qW m' c = aW m c := q1
  have hB : qB m' c = aB m c := q2
  have hc := h c
  rw [hX, hW, hB] at hc
  have hz : ∀ (i : Fin 8) (l : Fin 2048) (j : Fin 8200), rZ (aX m c) (aW m c) (ix3 i l j) = zz m c (i.val * 2048 + l.val) j.val := fun i l j => zx_eq _ _ i l j
  exact ⟨(hc.1).trans (rQ_eq _ (zz m c) hz),
    (hc.2.1).trans (rK_eq _ (zz m c) hz),
    (hc.2.2.1).trans (rV_eq _ (zz m c) hz),
    (hc.2.2.2.1).trans (rCol_eq _ (aB m c) (zz m c) hz),
    (hc.2.2.2.2.1).trans (rRow_eq _ (aB m c) (zz m c) hz),
    (hc.2.2.2.2.2.1).trans (rDq_eq _ (zz m c) hz),
    (hc.2.2.2.2.2.2.1).trans (rDkf_eq _ (zz m c) hz),
    (hc.2.2.2.2.2.2.2.1).trans (rDkb_eq _ (zz m c) hz),
    (hc.2.2.2.2.2.2.2.2.1).trans (rDvf_eq _ (zz m c) hz),
    (hc.2.2.2.2.2.2.2.2.2.1).trans (rDvt_eq _ (zz m c) hz),
    (hc.2.2.2.2.2.2.2.2.2.2.1).trans (rCq_eq _ (zz m c) hz),
    (hc.2.2.2.2.2.2.2.2.2.2.2.1).trans (rGate_eq _ (zz m c) hz),
    hc.2.2.2.2.2.2.2.2.2.2.2.2⟩

end Cert.InProj
-- ==== Proof.lean ====
/-
  The proof of `Cert.Claim`: the claims about the differential attention (Proof/Diff/Claims.lean), the merge
  (Proof/Merge/Claims.lean) and the input projection (Proof/InProj/Claims.lean).
-/
module

public import proofs.«01_k».proof.Defs
public import proofs.«01_k».proof.Proof.Gen.Diff
public import proofs.«01_k».proof.Proof.Gen.DiffIdeal
public import proofs.«01_k».proof.Proof.Gen.DiffRefIdeal
public import proofs.«01_k».proof.Proof.Gen.Merge
public import proofs.«01_k».proof.Proof.Gen.MergeIdeal
public import proofs.«01_k».proof.Proof.Gen.MergeRefIdeal
public import proofs.«01_k».proof.Proof.Gen.InProj
public import proofs.«01_k».proof.Proof.Gen.InProjIdeal
public import proofs.«01_k».proof.Proof.Gen.InProjRefIdeal
public import proofs.«01_k».proof.Proof.Diff.Claims
public import proofs.«01_k».proof.Proof.Merge.Claims
public import proofs.«01_k».proof.Proof.InProj.Claims

@[expose] public section

noncomputable section

namespace Cert.Proof

theorem claim : Cert.Claim :=
  ⟨Cert.Diff.Gen.facts, Cert.DiffIdeal.Gen.facts, Cert.DiffRefIdeal.Gen.facts,
    Cert.Merge.Gen.facts, Cert.MergeIdeal.Gen.facts, Cert.MergeRefIdeal.Gen.facts,
    Cert.InProj.Gen.facts, Cert.InProjIdeal.Gen.facts, Cert.InProjRefIdeal.Gen.facts, Cert.Diff.preFacts,
    Cert.Diff.quiet, Cert.Diff.quiet_ideal, Cert.Diff.quiet_ideal_pre, Cert.Diff.quiet_ref, Cert.Diff.quiet_ref_pre,
    Cert.Merge.quiet, Cert.Merge.quiet_ideal, Cert.Merge.quiet_ref,
    Cert.InProj.quiet, Cert.InProj.quiet_ideal, Cert.InProj.quiet_ref,
    trivial, Cert.Diff.value_claim, trivial, Cert.Merge.value_claim, trivial, Cert.InProj.value_claim⟩

end Cert.Proof

end
